-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7)
      ∧ r.2.mem ((c.tc : Thread Cert.GateUpRefIdeal.nD Cert.GateUpRefIdeal.τ).loc Cert.GateUpRefIdeal.main_arg8) = m ((c.tc : Thread Cert.GateUpRefIdeal.nD Cert.GateUpRefIdeal.τ).loc Cert.GateUpRefIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8)
      ∧ r.2.mem ((c.tc : Thread Cert.DownRefIdeal.nD Cert.DownRefIdeal.τ).loc Cert.DownRefIdeal.main_arg9) = m ((c.tc : Thread Cert.DownRefIdeal.nD Cert.DownRefIdeal.τ).loc Cert.DownRefIdeal.main_arg9))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)
      ∧ m' ((c.tc : Thread Cert.GateUpRefIdeal.nD Cert.GateUpRefIdeal.τ).loc Cert.GateUpRefIdeal.main_arg8) = m ((c.tc : Thread Cert.GateUpIdeal.nD Cert.GateUpIdeal.τ).loc Cert.GateUpIdeal.main_arg8)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)) (v3 : (c : Dev Cert.GateUpIdeal.nD) → Buf (Elt Ideal) ((c.tc : Thread Cert.GateUpIdeal.nD Cert.GateUpIdeal.τ).loc Cert.GateUpIdeal.main_v0_3)) (v4 : (c : Dev Cert.GateUpIdeal.nD) → Buf (Elt Ideal) ((c.tc : Thread Cert.GateUpIdeal.nD Cert.GateUpIdeal.τ).loc Cert.GateUpIdeal.main_v0_4)) (v5 : (c : Dev Cert.GateUpIdeal.nD) → Buf (Elt Ideal) ((c.tc : Thread Cert.GateUpIdeal.nD Cert.GateUpIdeal.τ).loc Cert.GateUpIdeal.main_v0_5)) (v6 : (c : Dev Cert.GateUpIdeal.nD) → Buf (Elt Ideal) ((c.tc : Thread Cert.GateUpIdeal.nD Cert.GateUpIdeal.τ).loc Cert.GateUpIdeal.main_v0_6)) (v7 : (c : Dev Cert.GateUpIdeal.nD) → Buf (Elt Ideal) ((c.tc : Thread Cert.GateUpIdeal.nD Cert.GateUpIdeal.τ).loc Cert.GateUpIdeal.main_v0_7)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_v0_3) = v3 c
          ∧ r.2.mem ((c.tc : Thread Cert.GateUpIdeal.nD Cert.GateUpIdeal.τ).loc Cert.GateUpIdeal.main_v0_4) = v4 c
          ∧ r.2.mem ((c.tc : Thread Cert.GateUpIdeal.nD Cert.GateUpIdeal.τ).loc Cert.GateUpIdeal.main_v0_5) = v5 c
          ∧ r.2.mem ((c.tc : Thread Cert.GateUpIdeal.nD Cert.GateUpIdeal.τ).loc Cert.GateUpIdeal.main_v0_6) = v6 c
          ∧ r.2.mem ((c.tc : Thread Cert.GateUpIdeal.nD Cert.GateUpIdeal.τ).loc Cert.GateUpIdeal.main_v0_7) = v7 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
          ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_v0_2) = v2 c
          ∧ r.2.mem ((c.tc : Thread Cert.GateUpRefIdeal.nD Cert.GateUpRefIdeal.τ).loc Cert.GateUpRefIdeal.main_v0_3) = v3 c
          ∧ r.2.mem ((c.tc : Thread Cert.GateUpRefIdeal.nD Cert.GateUpRefIdeal.τ).loc Cert.GateUpRefIdeal.main_v0_4) = v4 c
          ∧ r.2.mem ((c.tc : Thread Cert.GateUpRefIdeal.nD Cert.GateUpRefIdeal.τ).loc Cert.GateUpRefIdeal.main_v0_5) = v5 c
          ∧ r.2.mem ((c.tc : Thread Cert.GateUpRefIdeal.nD Cert.GateUpRefIdeal.τ).loc Cert.GateUpRefIdeal.main_v0_6) = v6 c
          ∧ r.2.mem ((c.tc : Thread Cert.GateUpRefIdeal.nD Cert.GateUpRefIdeal.τ).loc Cert.GateUpRefIdeal.main_v0_7) = v7 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7)
          ∧ r.2.mem ((c.tc : Thread Cert.GateUpRefIdeal.nD Cert.GateUpRefIdeal.τ).loc Cert.GateUpRefIdeal.main_arg8) = m' ((c.tc : Thread Cert.GateUpRefIdeal.nD Cert.GateUpRefIdeal.τ).loc Cert.GateUpRefIdeal.main_arg8))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)
      ∧ m' ((c.tc : Thread Cert.DownRefIdeal.nD Cert.DownRefIdeal.τ).loc Cert.DownRefIdeal.main_arg9) = m ((c.tc : Thread Cert.DownIdeal.nD Cert.DownIdeal.τ).loc Cert.DownIdeal.main_arg9)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)) (v3 : (c : Dev Cert.DownIdeal.nD) → Buf (Elt Ideal) ((c.tc : Thread Cert.DownIdeal.nD Cert.DownIdeal.τ).loc Cert.DownIdeal.main_v2_3)) (v4 : (c : Dev Cert.DownIdeal.nD) → Buf (Elt Ideal) ((c.tc : Thread Cert.DownIdeal.nD Cert.DownIdeal.τ).loc Cert.DownIdeal.main_v2_4)) (v5 : (c : Dev Cert.DownIdeal.nD) → Buf (Elt Ideal) ((c.tc : Thread Cert.DownIdeal.nD Cert.DownIdeal.τ).loc Cert.DownIdeal.main_v2_5)) (v6 : (c : Dev Cert.DownIdeal.nD) → Buf (Elt Ideal) ((c.tc : Thread Cert.DownIdeal.nD Cert.DownIdeal.τ).loc Cert.DownIdeal.main_v2_6)) (v7 : (c : Dev Cert.DownIdeal.nD) → Buf (Elt Ideal) ((c.tc : Thread Cert.DownIdeal.nD Cert.DownIdeal.τ).loc Cert.DownIdeal.main_v2_7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_v2_3) = v3 c
          ∧ r.2.mem ((c.tc : Thread Cert.DownIdeal.nD Cert.DownIdeal.τ).loc Cert.DownIdeal.main_v2_4) = v4 c
          ∧ r.2.mem ((c.tc : Thread Cert.DownIdeal.nD Cert.DownIdeal.τ).loc Cert.DownIdeal.main_v2_5) = v5 c
          ∧ r.2.mem ((c.tc : Thread Cert.DownIdeal.nD Cert.DownIdeal.τ).loc Cert.DownIdeal.main_v2_6) = v6 c
          ∧ r.2.mem ((c.tc : Thread Cert.DownIdeal.nD Cert.DownIdeal.τ).loc Cert.DownIdeal.main_v2_7) = v7 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
          ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_v0_3) = v3 c
          ∧ r.2.mem ((c.tc : Thread Cert.DownRefIdeal.nD Cert.DownRefIdeal.τ).loc Cert.DownRefIdeal.main_v0_4) = v4 c
          ∧ r.2.mem ((c.tc : Thread Cert.DownRefIdeal.nD Cert.DownRefIdeal.τ).loc Cert.DownRefIdeal.main_v0_5) = v5 c
          ∧ r.2.mem ((c.tc : Thread Cert.DownRefIdeal.nD Cert.DownRefIdeal.τ).loc Cert.DownRefIdeal.main_v0_6) = v6 c
          ∧ r.2.mem ((c.tc : Thread Cert.DownRefIdeal.nD Cert.DownRefIdeal.τ).loc Cert.DownRefIdeal.main_v0_7) = v7 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8)
          ∧ r.2.mem ((c.tc : Thread Cert.DownRefIdeal.nD Cert.DownRefIdeal.τ).loc Cert.DownRefIdeal.main_arg9) = m' ((c.tc : Thread Cert.DownRefIdeal.nD Cert.DownRefIdeal.τ).loc Cert.DownRefIdeal.main_arg9))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== GateUp.lean ====
abbrev S256x7168 : Shape := ⟨2, ![256, 7168]⟩
abbrev S7168x18432 : Shape := ⟨2, ![7168, 18432]⟩
abbrev S3584x18432 : Shape := ⟨2, ![3584, 18432]⟩
abbrev S56x18432 : Shape := ⟨2, ![56, 18432]⟩
abbrev S256x1 : Shape := ⟨2, ![256, 1]⟩
abbrev S256x18432 : Shape := ⟨2, ![256, 18432]⟩
abbrev S256x128 : Shape := ⟨2, ![256, 128]⟩
abbrev S7168x512 : Shape := ⟨2, ![7168, 512]⟩
abbrev S3584x512 : Shape := ⟨2, ![3584, 512]⟩
abbrev S56x512 : Shape := ⟨2, ![56, 512]⟩
abbrev S256x512 : Shape := ⟨2, ![256, 512]⟩
abbrev S256 : Shape := ⟨1, ![256]⟩
abbrev S1x512 : Shape := ⟨2, ![1, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩

abbrev nBuf : Space → Nat
  | .hbm => 17
  | .vmem => 31
  | .smem => 0
  | _ => 0

abbrev bufTy : (tb : Table) → Fin (tcTables nBuf tb) → BufTy
  | .hbm, ⟨0, _⟩ => ⟨S256x7168, .bf16⟩
  | .hbm, ⟨1, _⟩ => ⟨S7168x18432, .bf16⟩
  | .hbm, ⟨2, _⟩ => ⟨S7168x18432, .bf16⟩
  | .hbm, ⟨3, _⟩ => ⟨S3584x18432, .i8⟩
  | .hbm, ⟨4, _⟩ => ⟨S3584x18432, .i8⟩
  | .hbm, ⟨5, _⟩ => ⟨S56x18432, .f32⟩
  | .hbm, ⟨6, _⟩ => ⟨S56x18432, .i8⟩
  | .hbm, ⟨7, _⟩ => ⟨S56x18432, .f32⟩
  | .hbm, ⟨8, _⟩ => ⟨S56x18432, .i8⟩
  | .hbm, ⟨9, _⟩ => ⟨S256x7168, .i8⟩
  | .hbm, ⟨10, _⟩ => ⟨S256x1, .f32⟩
  | .hbm, ⟨11, _⟩ => ⟨S256x18432, .f32⟩
  | .hbm, ⟨12, _⟩ => ⟨S256x18432, .f32⟩
  | .hbm, ⟨13, _⟩ => ⟨S256x18432, .bf16⟩
  | .hbm, ⟨14, _⟩ => ⟨S256x18432, .bf16⟩
  | .hbm, ⟨15, _⟩ => ⟨S256x128, .f32⟩
  | .hbm, ⟨16, _⟩ => ⟨S256x128, .f32⟩
  | .local _ .vmem, ⟨0, _⟩ => ⟨S256x7168, .bf16⟩
  | .local _ .vmem, ⟨1, _⟩ => ⟨S7168x512, .bf16⟩
  | .local _ .vmem, ⟨2, _⟩ => ⟨S7168x512, .bf16⟩
  | .local _ .vmem, ⟨3, _⟩ => ⟨S7168x512, .bf16⟩
  | .local _ .vmem, ⟨4, _⟩ => ⟨S7168x512, .bf16⟩
  | .local _ .vmem, ⟨5, _⟩ => ⟨S3584x512, .i8⟩
  | .local _ .vmem, ⟨6, _⟩ => ⟨S3584x512, .i8⟩
  | .local _ .vmem, ⟨7, _⟩ => ⟨S3584x512, .i8⟩
  | .local _ .vmem, ⟨8, _⟩ => ⟨S3584x512, .i8⟩
  | .local _ .vmem, ⟨9, _⟩ => ⟨S56x512, .f32⟩
  | .local _ .vmem, ⟨10, _⟩ => ⟨S56x512, .f32⟩
  | .local _ .vmem, ⟨11, _⟩ => ⟨S56x512, .i8⟩
  | .local _ .vmem, ⟨12, _⟩ => ⟨S56x512, .i8⟩
  | .local _ .vmem, ⟨13, _⟩ => ⟨S56x512, .f32⟩
  | .local _ .vmem, ⟨14, _⟩ => ⟨S56x512, .f32⟩
  | .local _ .vmem, ⟨15, _⟩ => ⟨S56x512, .i8⟩
  | .local _ .vmem, ⟨16, _⟩ => ⟨S56x512, .i8⟩
  | .local _ .vmem, ⟨17, _⟩ => ⟨S256x7168, .i8⟩
  | .local _ .vmem, ⟨18, _⟩ => ⟨S256x1, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x128, .f32⟩
  | .local _ .vmem, ⟨28, _⟩ => ⟨S256x128, .f32⟩
  | .local _ .vmem, ⟨29, _⟩ => ⟨S256x7168, .bf16⟩
  | .local _ .vmem, ⟨30, _⟩ => ⟨S7168x512, .bf16⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S56x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S56x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== GateUpRefIdeal.lean ====
abbrev S256x7168 : Shape := ⟨2, ![256, 7168]⟩
abbrev S7168x18432 : Shape := ⟨2, ![7168, 18432]⟩
abbrev S3584x18432 : Shape := ⟨2, ![3584, 18432]⟩
abbrev S56x18432 : Shape := ⟨2, ![56, 18432]⟩
abbrev S256x1 : Shape := ⟨2, ![256, 1]⟩
abbrev S256x18432 : Shape := ⟨2, ![256, 18432]⟩
abbrev S256x128 : Shape := ⟨2, ![256, 128]⟩
abbrev S256 : Shape := ⟨1, ![256]⟩
abbrev S256x3584x2 : Shape := ⟨3, ![256, 3584, 2]⟩
abbrev S256x3584x1 : Shape := ⟨3, ![256, 3584, 1]⟩
abbrev S256x3584 : Shape := ⟨2, ![256, 3584]⟩
abbrev S56x1x18432 : Shape := ⟨3, ![56, 1, 18432]⟩
abbrev S56x64x18432 : Shape := ⟨3, ![56, 64, 18432]⟩
abbrev S256x144x128 : Shape := ⟨3, ![256, 144, 128]⟩

abbrev nBuf : Space → Nat
  | .hbm => 17
  | .vmem => 17
  | .smem => 0
  | _ => 0

abbrev bufTy : (tb : Table) → Fin (tcTables nBuf tb) → BufTy
  | .hbm, ⟨0, _⟩ => ⟨S256x7168, .bf16⟩
  | .hbm, ⟨1, _⟩ => ⟨S7168x18432, .bf16⟩
  | .hbm, ⟨2, _⟩ => ⟨S7168x18432, .bf16⟩
  | .hbm, ⟨3, _⟩ => ⟨S3584x18432, .i8⟩
  | .hbm, ⟨4, _⟩ => ⟨S3584x18432, .i8⟩
  | .hbm, ⟨5, _⟩ => ⟨S56x18432, .f32⟩
  | .hbm, ⟨6, _⟩ => ⟨S56x18432, .i8⟩
  | .hbm, ⟨7, _⟩ => ⟨S56x18432, .f32⟩
  | .hbm, ⟨8, _⟩ => ⟨S56x18432, .i8⟩
  | .hbm, ⟨9, _⟩ => ⟨S256x7168, .i8⟩
  | .hbm, ⟨10, _⟩ => ⟨S256x1, .f32⟩
  | .hbm, ⟨11, _⟩ => ⟨S256x18432, .f32⟩
  | .hbm, ⟨12, _⟩ => ⟨S256x18432, .f32⟩
  | .hbm, ⟨13, _⟩ => ⟨S256x18432, .bf16⟩
  | .hbm, ⟨14, _⟩ => ⟨S256x18432, .bf16⟩
  | .hbm, ⟨15, _⟩ => ⟨S256x128, .f32⟩
  | .hbm, ⟨16, _⟩ => ⟨S256x128, .f32⟩
  | .local _ .vmem, ⟨0, _⟩ => ⟨S256x7168, .bf16⟩
  | .local _ .vmem, ⟨1, _⟩ => ⟨S7168x18432, .bf16⟩
  | .local _ .vmem, ⟨2, _⟩ => ⟨S7168x18432, .bf16⟩
  | .local _ .vmem, ⟨3, _⟩ => ⟨S3584x18432, .i8⟩
  | .local _ .vmem, ⟨4, _⟩ => ⟨S3584x18432, .i8⟩
  | .local _ .vmem, ⟨5, _⟩ => ⟨S56x18432, .f32⟩
  | .local _ .vmem, ⟨6, _⟩ => ⟨S56x18432, .i8⟩
  | .local _ .vmem, ⟨7, _⟩ => ⟨S56x18432, .f32⟩
  | .local _ .vmem, ⟨8, _⟩ => ⟨S56x18432, .i8⟩
  | .local _ .vmem, ⟨9, _⟩ => ⟨S256x7168, .i8⟩
  | .local _ .vmem, ⟨10, _⟩ => ⟨S256x1, .f32⟩
  | .local _ .vmem, ⟨11, _⟩ => ⟨S256x18432, .f32⟩
  | .local _ .vmem, ⟨12, _⟩ => ⟨S256x18432, .f32⟩
  | .local _ .vmem, ⟨13, _⟩ => ⟨S256x18432, .bf16⟩
  | .local _ .vmem, ⟨14, _⟩ => ⟨S256x18432, .bf16⟩
  | .local _ .vmem, ⟨15, _⟩ => ⟨S256x128, .f32⟩
  | .local _ .vmem, ⟨16, _⟩ => ⟨S256x128, .f32⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x18432 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18432 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x18432 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S56x18432 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x18432 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x18432 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x18432 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x18432 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Down.lean ====
abbrev S256x18432 : Shape := ⟨2, ![256, 18432]⟩
abbrev S256x128 : Shape := ⟨2, ![256, 128]⟩
abbrev S18432x7168 : Shape := ⟨2, ![18432, 7168]⟩
abbrev S9216x7168 : Shape := ⟨2, ![9216, 7168]⟩
abbrev S144x7168 : Shape := ⟨2, ![144, 7168]⟩
abbrev S12x12x7168 : Shape := ⟨3, ![12, 12, 7168]⟩
abbrev S4x256x1 : Shape := ⟨3, ![4, 256, 1]⟩
abbrev S256x1 : Shape := ⟨2, ![256, 1]⟩
abbrev S4x7168 : Shape := ⟨2, ![4, 7168]⟩
abbrev S256x7168 : Shape := ⟨2, ![256, 7168]⟩
abbrev S256x1536 : Shape := ⟨2, ![256, 1536]⟩
abbrev S1536x512 : Shape := ⟨2, ![1536, 512]⟩
abbrev S768x512 : Shape := ⟨2, ![768, 512]⟩
abbrev S1x12x512 : Shape := ⟨3, ![1, 12, 512]⟩
abbrev S4x512 : Shape := ⟨2, ![4, 512]⟩
abbrev S256x512 : Shape := ⟨2, ![256, 512]⟩
abbrev S768x18432 : Shape := ⟨2, ![768, 18432]⟩
abbrev S512x18432 : Shape := ⟨2, ![512, 18432]⟩
abbrev S512x512 : Shape := ⟨2, ![512, 512]⟩
abbrev S5x256x128 : Shape := ⟨3, ![5, 256, 128]⟩
abbrev S256 : Shape := ⟨1, ![256]⟩
abbrev S1x1x512 : Shape := ⟨3, ![1, 1, 512]⟩
abbrev S1x512 : Shape := ⟨2, ![1, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S768x1536 : Shape := ⟨2, ![768, 1536]⟩
abbrev S512x1536 : Shape := ⟨2, ![512, 1536]⟩
abbrev S1x256x128 : Shape := ⟨3, ![1, 256, 128]⟩
abbrev S512 : Shape := ⟨1, ![512]⟩
abbrev S1x256x1 : Shape := ⟨3, ![1, 256, 1]⟩

abbrev nBuf : Space → Nat
  | .hbm => 20
  | .vmem => 36
  | .smem => 0
  | _ => 0

abbrev bufTy : (tb : Table) → Fin (tcTables nBuf tb) → BufTy
  | .hbm, ⟨0, _⟩ => ⟨S256x18432, .f32⟩
  | .hbm, ⟨1, _⟩ => ⟨S256x18432, .f32⟩
  | .hbm, ⟨2, _⟩ => ⟨S256x18432, .bf16⟩
  | .hbm, ⟨3, _⟩ => ⟨S256x18432, .bf16⟩
  | .hbm, ⟨4, _⟩ => ⟨S256x128, .f32⟩
  | .hbm, ⟨5, _⟩ => ⟨S256x128, .f32⟩
  | .hbm, ⟨6, _⟩ => ⟨S18432x7168, .bf16⟩
  | .hbm, ⟨7, _⟩ => ⟨S9216x7168, .i8⟩
  | .hbm, ⟨8, _⟩ => ⟨S144x7168, .f32⟩
  | .hbm, ⟨9, _⟩ => ⟨S144x7168, .i8⟩
  | .hbm, ⟨10, _⟩ => ⟨S12x12x7168, .f32⟩
  | .hbm, ⟨11, _⟩ => ⟨S12x12x7168, .i8⟩
  | .hbm, ⟨12, _⟩ => ⟨S4x256x1, .f32⟩
  | .hbm, ⟨13, _⟩ => ⟨S256x1, .f32⟩
  | .hbm, ⟨14, _⟩ => ⟨S4x7168, .f32⟩
  | .hbm, ⟨15, _⟩ => ⟨S256x7168, .bf16⟩
  | .hbm, ⟨16, _⟩ => ⟨S256x18432, .i8⟩
  | .hbm, ⟨17, _⟩ => ⟨S256x1, .f32⟩
  | .hbm, ⟨18, _⟩ => ⟨S256x18432, .i8⟩
  | .hbm, ⟨19, _⟩ => ⟨S256x1, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .bf16⟩
  | .local _ .vmem, ⟨5, _⟩ => ⟨S256x1536, .bf16⟩
  | .local _ .vmem, ⟨6, _⟩ => ⟨S256x1536, .bf16⟩
  | .local _ .vmem, ⟨7, _⟩ => ⟨S256x1536, .bf16⟩
  | .local _ .vmem, ⟨8, _⟩ => ⟨S256x128, .f32⟩
  | .local _ .vmem, ⟨9, _⟩ => ⟨S256x128, .f32⟩
  | .local _ .vmem, ⟨10, _⟩ => ⟨S1536x512, .bf16⟩
  | .local _ .vmem, ⟨11, _⟩ => ⟨S1536x512, .bf16⟩
  | .local _ .vmem, ⟨12, _⟩ => ⟨S768x512, .i8⟩
  | .local _ .vmem, ⟨13, _⟩ => ⟨S768x512, .i8⟩
  | .local _ .vmem, ⟨14, _⟩ => ⟨S1x12x512, .f32⟩
  | .local _ .vmem, ⟨15, _⟩ => ⟨S1x12x512, .f32⟩
  | .local _ .vmem, ⟨16, _⟩ => ⟨S1x12x512, .i8⟩
  | .local _ .vmem, ⟨17, _⟩ => ⟨S1x12x512, .i8⟩
  | .local _ .vmem, ⟨18, _⟩ => ⟨S4x256x1, .f32⟩
  | .local _ .vmem, ⟨19, _⟩ => ⟨S256x1, .f32⟩
  | .local _ .vmem, ⟨20, _⟩ => ⟨S4x512, .f32⟩
  | .local _ .vmem, ⟨21, _⟩ => ⟨S4x512, .f32⟩
  | .local _ .vmem, ⟨22, _⟩ => ⟨S256x512, .bf16⟩
  | .local _ .vmem, ⟨23, _⟩ => ⟨S256x512, .bf16⟩
  | .local _ .vmem, ⟨24, _⟩ => ⟨S256x1536, .i8⟩
  | .local _ .vmem, ⟨25, _⟩ => ⟨S256x1536, .i8⟩
  | .local _ .vmem, ⟨26, _⟩ => ⟨S256x1, .f32⟩
  | .local _ .vmem, ⟨27, _⟩ => ⟨S256x1536, .i8⟩
  | .local _ .vmem, ⟨28, _⟩ => ⟨S256x1536, .i8⟩
  | .local _ .vmem, ⟨29, _⟩ => ⟨S256x1, .f32⟩
  | .local _ .vmem, ⟨30, _⟩ => ⟨S768x18432, .bf16⟩
  | .local _ .vmem, ⟨31, _⟩ => ⟨S512x18432, .i8⟩
  | .local _ .vmem, ⟨32, _⟩ => ⟨S1536x512, .bf16⟩
  | .local _ .vmem, ⟨33, _⟩ => ⟨S768x512, .f32⟩
  | .local _ .vmem, ⟨34, _⟩ => ⟨S512x512, .f32⟩
  | .local _ .vmem, ⟨35, _⟩ => ⟨S5x256x128, .f32⟩
  | _, _ => ⟨S256x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨2, ![14, 12], ![false, false]⟩

def k0_mult1 (i : grid0.Coords) : BitVec 32 :=
  let arg1 : BitVec 32 := BitVec.ofNat 32 (i 1).val
  let c1536_i32 : BitVec 32 := 1536#32
  let v0 : BitVec 32 := Scalar.muli arg1 c1536_i32
  v0
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let c0_139 : Index := 0#32
  let arg1 : BitVec 32 := BitVec.ofNat 32 (i 1).val
  let c1536_i32 : BitVec 32 := 1536#32
  let v0 : BitVec 32 := Scalar.muli arg1 c1536_i32
  let v1 : BitVec 32 := v0
  let v390 : Index := Scalar.indexCast v1
  ![0, v390.toNat]
def k0_off2 (i : grid0.Coords) : Fin 2 → Nat :=
  let c256_142 : Index := 256#32
  let arg1 : BitVec 32 := BitVec.ofNat 32 (i 1).val
  let c1536_i32 : BitVec 32 := 1536#32
  let v0 : BitVec 32 := Scalar.muli arg1 c1536_i32
  let v1 : BitVec 32 := v0
  let v395 : Index := Scalar.indexCast v1
  ![256, v395.toNat]
def k0_off3 (i : grid0.Coords) : Fin 2 → Nat :=
  let c512_145 : Index := 512#32
  let arg1 : BitVec 32 := BitVec.ofNat 32 (i 1).val
  let c1536_i32 : BitVec 32 := 1536#32
  let v0 : BitVec 32 := Scalar.muli arg1 c1536_i32
  let v1 : BitVec 32 := v0
  let v400 : Index := Scalar.indexCast v1
  ![512, v400.toNat]
def k0_off4 (i : grid0.Coords) : Fin 2 → Nat :=
  let c0_160 : Index := 0#32
  let arg1 : BitVec 32 := BitVec.ofNat 32 (i 1).val
  let c1536_i32 : BitVec 32 := 1536#32
  let v0 : BitVec 32 := Scalar.muli arg1 c1536_i32
  let v1 : BitVec 32 := v0
  let v427 : Index := Scalar.indexCast v1
  ![0, v427.toNat]
def k0_off5 (i : grid0.Coords) : Fin 2 → Nat :=
  let c256_161 : Index := 256#32
  let arg1 : BitVec 32 := BitVec.ofNat 32 (i 1).val
  let c1536_i32 : BitVec 32 := 1536#32
  let v0 : BitVec 32 := Scalar.muli arg1 c1536_i32
  let v1 : BitVec 32 := v0
  let v431 : Index := Scalar.indexCast v1
  ![256, v431.toNat]
def k0_off6 (i : grid0.Coords) : Fin 2 → Nat :=
  let c0_121 : Index := 0#32
  let arg1 : BitVec 32 := BitVec.ofNat 32 (i 1).val
  let c1536_i32 : BitVec 32 := 1536#32
  let v0 : BitVec 32 := Scalar.muli arg1 c1536_i32
  let v1 : BitVec 32 := v0
  let v362 : Index := Scalar.indexCast v1
  ![0, v362.toNat]
def k0_off7 (i : grid0.Coords) : Fin 2 → Nat :=
  let c0_128 : Index := 0#32
  let arg1 : BitVec 32 := BitVec.ofNat 32 (i 1).val
  let c1536_i32 : BitVec 32 := 1536#32
  let v0 : BitVec 32 := Scalar.muli arg1 c1536_i32
  let v1 : BitVec 32 := v0
  let v371 : Index := Scalar.indexCast v1
  ![0, v371.toNat]
def k0_cond5 (i : grid0.Coords) : BitVec 1 :=
  let arg0 : BitVec 32 := BitVec.ofNat 32 (i 0).val
  let c13_i32 : BitVec 32 := 13#32
  let v383 : BitVec 1 := Scalar.cmpi .eq arg0 c13_i32
  let arg1 : BitVec 32 := BitVec.ofNat 32 (i 1).val
  let c11_i32_135 : BitVec 32 := 11#32
  let v384 : BitVec 1 := Scalar.cmpi .eq arg1 c11_i32_135
  let v385 : BitVec 1 := Scalar.andi v383 v384
  let v386 : BitVec 32 := Scalar.extui v385
  let c0_i32_136 : BitVec 32 := 0#32
  let v387 : BitVec 1 := Scalar.cmpi .ne v386 c0_i32_136
  v387

def k0_cond4 (i : grid0.Coords) : BitVec 1 :=
  let arg1 : BitVec 32 := BitVec.ofNat 32 (i 1).val
  let c11_i32 : BitVec 32 := 11#32
  let v380 : BitVec 1 := Scalar.cmpi .eq arg1 c11_i32
  let v381 : BitVec 32 := Scalar.extui v380
  let c0_i32_134 : BitVec 32 := 0#32
  let v382 : BitVec 1 := Scalar.cmpi .ne v381 c0_i32_134
  v382

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x12x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x12x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x1536 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x1536 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== DownRefIdeal.lean ====
abbrev S256x18432 : Shape := ⟨2, ![256, 18432]⟩
abbrev S256x128 : Shape := ⟨2, ![256, 128]⟩
abbrev S18432x7168 : Shape := ⟨2, ![18432, 7168]⟩
abbrev S9216x7168 : Shape := ⟨2, ![9216, 7168]⟩
abbrev S144x7168 : Shape := ⟨2, ![144, 7168]⟩
abbrev S4x256x1 : Shape := ⟨3, ![4, 256, 1]⟩
abbrev S256x1 : Shape := ⟨2, ![256, 1]⟩
abbrev S4x7168 : Shape := ⟨2, ![4, 7168]⟩
abbrev S256x7168 : Shape := ⟨2, ![256, 7168]⟩
abbrev S144x1x7168 : Shape := ⟨3, ![144, 1, 7168]⟩
abbrev S144x64x7168 : Shape := ⟨3, ![144, 64, 7168]⟩
abbrev S256 : Shape := ⟨1, ![256]⟩
abbrev S256x9216x2 : Shape := ⟨3, ![256, 9216, 2]⟩
abbrev S256x9216x1 : Shape := ⟨3, ![256, 9216, 1]⟩
abbrev S256x9216 : Shape := ⟨2, ![256, 9216]⟩
abbrev S1x256x1 : Shape := ⟨3, ![1, 256, 1]⟩
abbrev S7168 : Shape := ⟨1, ![7168]⟩
abbrev S1x7168 : Shape := ⟨2, ![1, 7168]⟩

abbrev nBuf : Space → Nat
  | .hbm => 18
  | .vmem => 18
  | .smem => 0
  | _ => 0

abbrev bufTy : (tb : Table) → Fin (tcTables nBuf tb) → BufTy
  | .hbm, ⟨0, _⟩ => ⟨S256x18432, .f32⟩
  | .hbm, ⟨1, _⟩ => ⟨S256x18432, .f32⟩
  | .hbm, ⟨2, _⟩ => ⟨S256x18432, .bf16⟩
  | .hbm, ⟨3, _⟩ => ⟨S256x18432, .bf16⟩
  | .hbm, ⟨4, _⟩ => ⟨S256x128, .f32⟩
  | .hbm, ⟨5, _⟩ => ⟨S256x128, .f32⟩
  | .hbm, ⟨6, _⟩ => ⟨S18432x7168, .bf16⟩
  | .hbm, ⟨7, _⟩ => ⟨S9216x7168, .i8⟩
  | .hbm, ⟨8, _⟩ => ⟨S144x7168, .f32⟩
  | .hbm, ⟨9, _⟩ => ⟨S144x7168, .i8⟩
  | .hbm, ⟨10, _⟩ => ⟨S4x256x1, .f32⟩
  | .hbm, ⟨11, _⟩ => ⟨S256x1, .f32⟩
  | .hbm, ⟨12, _⟩ => ⟨S4x7168, .f32⟩
  | .hbm, ⟨13, _⟩ => ⟨S256x7168, .bf16⟩
  | .hbm, ⟨14, _⟩ => ⟨S256x18432, .i8⟩
  | .hbm, ⟨15, _⟩ => ⟨S256x1, .f32⟩
  | .hbm, ⟨16, _⟩ => ⟨S256x18432, .i8⟩
  | .hbm, ⟨17, _⟩ => ⟨S256x1, .f32⟩
  | .local _ .vmem, ⟨0, _⟩ => ⟨S256x18432, .f32⟩
  | .local _ .vmem, ⟨1, _⟩ => ⟨S256x18432, .f32⟩
  | .local _ .vmem, ⟨2, _⟩ => ⟨S256x18432, .bf16⟩
  | .local _ .vmem, ⟨3, _⟩ => ⟨S256x18432, .bf16⟩
  | .local _ .vmem, ⟨4, _⟩ => ⟨S256x128, .f32⟩
  | .local _ .vmem, ⟨5, _⟩ => ⟨S256x128, .f32⟩
  | .local _ .vmem, ⟨6, _⟩ => ⟨S18432x7168, .bf16⟩
  | .local _ .vmem, ⟨7, _⟩ => ⟨S9216x7168, .i8⟩
  | .local _ .vmem, ⟨8, _⟩ => ⟨S144x7168, .f32⟩
  | .local _ .vmem, ⟨9, _⟩ => ⟨S144x7168, .i8⟩
  | .local _ .vmem, ⟨10, _⟩ => ⟨S4x256x1, .f32⟩
  | .local _ .vmem, ⟨11, _⟩ => ⟨S256x1, .f32⟩
  | .local _ .vmem, ⟨12, _⟩ => ⟨S4x7168, .f32⟩
  | .local _ .vmem, ⟨13, _⟩ => ⟨S256x7168, .bf16⟩
  | .local _ .vmem, ⟨14, _⟩ => ⟨S256x18432, .i8⟩
  | .local _ .vmem, ⟨15, _⟩ => ⟨S256x1, .f32⟩
  | .local _ .vmem, ⟨16, _⟩ => ⟨S256x18432, .i8⟩
  | .local _ .vmem, ⟨17, _⟩ => ⟨S256x1, .f32⟩
  | _, _ => ⟨S256x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S256x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x18432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x7168 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S144x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S144x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x7168 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x7168 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x18432 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x18432 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.GateUpKit.lean ====
/- What the certificate of the gate/up call is stated over: the body's branch condition in closed form, where the
windows are idle, the staging memrefs and the scratch buffers. -/
module

public import proofs.«01_k».proof.Proof.Gen.GateUpIdeal.Frame
public import proofs.«01_k».proof.Proof.Gen.GateUpIdeal.Skeleton
public import Idealize.ShloMosaic.Lib.Pipeline.TableIdle

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The condition of the body's one branch -/

/-- The condition of the body's `pl.when(step == 0)`, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val = 0)

/-! ## Where the windows are idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := fun _ => rfl
/-- Window 8 is never idle. -/
theorem liveAt0_8 : ∀ t : Fin cfg0.N, cfg0.idle 8 (grid0.coords t) = false := fun _ => rfl
/-- Window 11 is never idle. -/
theorem liveAt0_11 : ∀ t : Fin cfg0.N, cfg0.idle 11 (grid0.coords t) = false := fun _ => rfl
/-- Window 12 is never idle. -/
theorem liveAt0_12 : ∀ t : Fin cfg0.N, cfg0.idle 12 (grid0.coords t) = false := fun _ => rfl
/-- Window 13 is never idle. -/
theorem liveAt0_13 : ∀ t : Fin cfg0.N, cfg0.idle 13 (grid0.coords t) = false := fun _ => rfl
/-- Window 14 is never idle. -/
theorem liveAt0_14 : ∀ t : Fin cfg0.N, cfg0.idle 14 (grid0.coords t) = false := fun _ => rfl
/-- Window 15 is never idle. -/
theorem liveAt0_15 : ∀ t : Fin cfg0.N, cfg0.idle 15 (grid0.coords t) = false := fun _ => rfl
/-- Window 16 is never idle. -/
theorem liveAt0_16 : ∀ t : Fin cfg0.N, cfg0.idle 16 (grid0.coords t) = false := fun _ => rfl
/-- Output 9 is stored at the first point. -/
theorem liveAt0_9_A : ∀ t : Fin cfg0.N, cond0_0 (grid0.coords t) → cfg0.idle 9 (grid0.coords t) = false := by decide +kernel
/-- Output 9 is idle at every later point. -/
theorem idleAt0_9_B : ∀ t : Fin cfg0.N, ¬cond0_0 (grid0.coords t) → cfg0.idle 9 (grid0.coords t) = true := by decide +kernel
/-- Where output 9's buffer holds nothing stored yet: before the first point and after the last one. -/
def freshTab0_9 : ℕ → Bool
  | 0 => true
  | n + 1 => (0x800000000 : ℕ).testBit n
/-- The table of window 9 obeys the recursion that says when its buffer holds nothing yet. -/
theorem freshTab0_9_step : ∀ t : Fin cfg0.N,
    freshTab0_9 (t.val + 1) = ((cfg0.win 9).flush t || (cfg0.idle 9 (cfg0.grid.coords t) && freshTab0_9 t.val)) := by decide +kernel
/-- So the table says when window 9 holds nothing yet. -/
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At every point after the first, output 9's buffer holds what the first point stored. -/
theorem notFresh0_9_B : ∀ t : Fin cfg0.N, ¬cond0_0 (grid0.coords t) → cfg0.fresh 9 t.val = false := by
  intro t; rw [fresh0_9_eq t]; revert t; decide +kernel
/-- Output 10 is stored at the first point. -/
theorem liveAt0_10_A : ∀ t : Fin cfg0.N, cond0_0 (grid0.coords t) → cfg0.idle 10 (grid0.coords t) = false := by decide +kernel
/-- Output 10 is idle at every later point. -/
theorem idleAt0_10_B : ∀ t : Fin cfg0.N, ¬cond0_0 (grid0.coords t) → cfg0.idle 10 (grid0.coords t) = true := by decide +kernel
/-- Where output 10's buffer holds nothing stored yet: before the first point and after the last one. -/
def freshTab0_10 : ℕ → Bool
  | 0 => true
  | n + 1 => (0x800000000 : ℕ).testBit n
/-- The table of window 10 obeys the recursion that says when its buffer holds nothing yet. -/
theorem freshTab0_10_step : ∀ t : Fin cfg0.N,
    freshTab0_10 (t.val + 1) = ((cfg0.win 10).flush t || (cfg0.idle 10 (cfg0.grid.coords t) && freshTab0_10 t.val)) := by decide +kernel
/-- So the table says when window 10 holds nothing yet. -/
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At every point after the first, output 10's buffer holds what the first point stored. -/
theorem notFresh0_10_B : ∀ t : Fin cfg0.N, ¬cond0_0 (grid0.coords t) → cfg0.fresh 10 t.val = false := by
  intro t; rw [fresh0_10_eq t]; revert t; decide +kernel
/-- Each window's current staging memref at point `t`, spelled as the pipeline passes it (`bodyAt0`), and its wholeness. -/
abbrev ms0_0 (t : Fin cfg0.N) : Memref sig .tc .vmem S256x7168 .bf16 := win0_0.stage (cfg0.slots t 0)
/-- Window 0's buffer is a whole array. -/
abbrev hs0_0 (t : Fin cfg0.N) : (ms0_0 t).IsWhole := hstage0_0 ((cfg0.slots t 0).cast nbuf0_0)
/-- Window 1's buffer at a grid point. -/
abbrev ms0_1 (t : Fin cfg0.N) : Memref sig .tc .vmem S7168x512 .bf16 := win0_1.stage (cfg0.slots t 1)
/-- Window 1's buffer is a whole array. -/
abbrev hs0_1 (t : Fin cfg0.N) : (ms0_1 t).IsWhole := hstage0_1 ((cfg0.slots t 1).cast nbuf0_1)
/-- Window 2's buffer at a grid point. -/
abbrev ms0_2 (t : Fin cfg0.N) : Memref sig .tc .vmem S7168x512 .bf16 := win0_2.stage (cfg0.slots t 2)
/-- Window 2's buffer is a whole array. -/
abbrev hs0_2 (t : Fin cfg0.N) : (ms0_2 t).IsWhole := hstage0_2 ((cfg0.slots t 2).cast nbuf0_2)
/-- Window 3's buffer at a grid point. -/
abbrev ms0_3 (t : Fin cfg0.N) : Memref sig .tc .vmem S3584x512 .i8 := win0_3.stage (cfg0.slots t 3)
/-- Window 3's buffer is a whole array. -/
abbrev hs0_3 (t : Fin cfg0.N) : (ms0_3 t).IsWhole := hstage0_3 ((cfg0.slots t 3).cast nbuf0_3)
/-- Window 4's buffer at a grid point. -/
abbrev ms0_4 (t : Fin cfg0.N) : Memref sig .tc .vmem S3584x512 .i8 := win0_4.stage (cfg0.slots t 4)
/-- Window 4's buffer is a whole array. -/
abbrev hs0_4 (t : Fin cfg0.N) : (ms0_4 t).IsWhole := hstage0_4 ((cfg0.slots t 4).cast nbuf0_4)
/-- Window 5's buffer at a grid point. -/
abbrev ms0_5 (t : Fin cfg0.N) : Memref sig .tc .vmem S56x512 .f32 := win0_5.stage (cfg0.slots t 5)
/-- Window 5's buffer is a whole array. -/
abbrev hs0_5 (t : Fin cfg0.N) : (ms0_5 t).IsWhole := hstage0_5 ((cfg0.slots t 5).cast nbuf0_5)
/-- Window 6's buffer at a grid point. -/
abbrev ms0_6 (t : Fin cfg0.N) : Memref sig .tc .vmem S56x512 .i8 := win0_6.stage (cfg0.slots t 6)
/-- Window 6's buffer is a whole array. -/
abbrev hs0_6 (t : Fin cfg0.N) : (ms0_6 t).IsWhole := hstage0_6 ((cfg0.slots t 6).cast nbuf0_6)
/-- Window 7's buffer at a grid point. -/
abbrev ms0_7 (t : Fin cfg0.N) : Memref sig .tc .vmem S56x512 .f32 := win0_7.stage (cfg0.slots t 7)
/-- Window 7's buffer is a whole array. -/
abbrev hs0_7 (t : Fin cfg0.N) : (ms0_7 t).IsWhole := hstage0_7 ((cfg0.slots t 7).cast nbuf0_7)
/-- Window 8's buffer at a grid point. -/
abbrev ms0_8 (t : Fin cfg0.N) : Memref sig .tc .vmem S56x512 .i8 := win0_8.stage (cfg0.slots t 8)
/-- Window 8's buffer is a whole array. -/
abbrev hs0_8 (t : Fin cfg0.N) : (ms0_8 t).IsWhole := hstage0_8 ((cfg0.slots t 8).cast nbuf0_8)
/-- Window 9's buffer at a grid point. -/
abbrev ms0_9 (t : Fin cfg0.N) : Memref sig .tc .vmem S256x7168 .i8 := win0_9.stage (cfg0.slots t 9)
/-- Window 9's buffer is a whole array. -/
abbrev hs0_9 (t : Fin cfg0.N) : (ms0_9 t).IsWhole := hstage0_9 ((cfg0.slots t 9).cast nbuf0_9)
/-- Window 10's buffer at a grid point. -/
abbrev ms0_10 (t : Fin cfg0.N) : Memref sig .tc .vmem S256x1 .f32 := win0_10.stage (cfg0.slots t 10)
/-- Window 10's buffer is a whole array. -/
abbrev hs0_10 (t : Fin cfg0.N) : (ms0_10 t).IsWhole := hstage0_10 ((cfg0.slots t 10).cast nbuf0_10)
/-- Window 11's buffer at a grid point. -/
abbrev ms0_11 (t : Fin cfg0.N) : Memref sig .tc .vmem S256x512 .f32 := win0_11.stage (cfg0.slots t 11)
/-- Window 11's buffer is a whole array. -/
abbrev hs0_11 (t : Fin cfg0.N) : (ms0_11 t).IsWhole := hstage0_11 ((cfg0.slots t 11).cast nbuf0_11)
/-- Window 12's buffer at a grid point. -/
abbrev ms0_12 (t : Fin cfg0.N) : Memref sig .tc .vmem S256x512 .f32 := win0_12.stage (cfg0.slots t 12)
/-- Window 12's buffer is a whole array. -/
abbrev hs0_12 (t : Fin cfg0.N) : (ms0_12 t).IsWhole := hstage0_12 ((cfg0.slots t 12).cast nbuf0_12)
/-- Window 13's buffer at a grid point. -/
abbrev ms0_13 (t : Fin cfg0.N) : Memref sig .tc .vmem S256x512 .bf16 := win0_13.stage (cfg0.slots t 13)
/-- Window 13's buffer is a whole array. -/
abbrev hs0_13 (t : Fin cfg0.N) : (ms0_13 t).IsWhole := hstage0_13 ((cfg0.slots t 13).cast nbuf0_13)
/-- Window 14's buffer at a grid point. -/
abbrev ms0_14 (t : Fin cfg0.N) : Memref sig .tc .vmem S256x512 .bf16 := win0_14.stage (cfg0.slots t 14)
/-- Window 14's buffer is a whole array. -/
abbrev hs0_14 (t : Fin cfg0.N) : (ms0_14 t).IsWhole := hstage0_14 ((cfg0.slots t 14).cast nbuf0_14)
/-- Window 15's buffer at a grid point. -/
abbrev ms0_15 (t : Fin cfg0.N) : Memref sig .tc .vmem S256x128 .f32 := win0_15.stage (cfg0.slots t 15)
/-- Window 15's buffer is a whole array. -/
abbrev hs0_15 (t : Fin cfg0.N) : (ms0_15 t).IsWhole := hstage0_15 ((cfg0.slots t 15).cast nbuf0_15)
/-- Window 16's buffer at a grid point. -/
abbrev ms0_16 (t : Fin cfg0.N) : Memref sig .tc .vmem S256x128 .f32 := win0_16.stage (cfg0.slots t 16)
/-- Window 16's buffer is a whole array. -/
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S256x7168 .bf16 := Memref.whole cc0_scratch0
/-- Scratch buffer 1. -/
abbrev scM0_1 : Memref sig .tc .vmem S7168x512 .bf16 := Memref.whole cc0_scratch1
/-- The scratch `arg18` the kernel carries between points, as a view: what it holds is stated through it. -/
abbrev VS0_0 : View sig .tc .vmem S256x7168 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateUpIdeal.Gen

end
-- ==== Proof.GateUpMath.lean ====
/- The values the gate/up body stores, as functions of the values it loads, for any arithmetic; and how a load reads
what whole-block and per-group stores left. -/
module

public import proofs.«01_k».proof.Proof.GateUpKit
public import Idealize.ShloMosaic.Lib.Pointwise
public import Idealize.ShloMosaic.Lib.WholeRead
public import Idealize.ShloMosaic.Lib.Pipeline.ReadBack

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores, as functions of what it loads -/

/-- The dequantised weights a call's loop over the 56 groups leaves in the scratch: row `y 0` belongs to group `y 0 / 128`, and is
    the body's own group computation on the group's zero-point row, its 64 rows of packed codes and its scale row. -/
def deqAll (q : Vec F S3584x512 .i8) (s : Vec F S56x512 .f32) (z : Vec F S56x512 .i8) : Vec F S7168x512 .bf16 := fun y =>
  k0_pay13 (fun x => z (ix2 ⟨(y 0).val / 128, by have : (y 0).val < 7168 := (y 0).isLt; omega⟩ (x 1)))
    (fun x => q (ix2 ⟨64 * ((y 0).val / 128) + (x 0).val, by
      have h1 : (y 0).val < 7168 := (y 0).isLt; have h2 : (x 0).val < 64 := (x 0).isLt; omega⟩ (x 1)))
    (fun x => s (ix2 ⟨(y 0).val / 128, by have : (y 0).val < 7168 := (y 0).isLt; omega⟩ (x 1)))
    (ix2 ⟨(y 0).val % 128, Nat.mod_lt _ (by decide)⟩ (y 1))

/-- The quantised gate after its activation: `silu((codes @ deq) * scale)`. -/
def gAct (xs : Vec F S256x1 .f32) (q : Vec F S256x7168 .bf16) (d : Vec F S7168x512 .bf16) : FVec F S256x512 .f32 := k0_pay128 (k0_pay12 xs) q d
/-- The reference gate after its activation: `silu(x @ w_gate)`. -/
def gRef (x : Vec F S256x7168 .bf16) (w : Vec F S7168x512 .bf16) : FVec F S256x512 .f32 := k0_pay131 (k0_pay129 x w) (k0_pay130 x w)
/-- `h_full`: the quantised gate times the quantised up projection. -/
def outHF (xs : Vec F S256x1 .f32) (q : Vec F S256x7168 .bf16) (dg du : Vec F S7168x512 .bf16) : FVec F S256x512 .f32 :=
  k0_pay248 (k0_pay12 xs) (gAct xs q dg) q du
/-- `h_ref`: the reference gate times the reference up projection. -/
def outHR (x : Vec F S256x7168 .bf16) (wg wu : Vec F S7168x512 .bf16) : FVec F S256x512 .f32 := k0_pay3 (gRef x wg) x wu
/-- The quantised gate times the reference up projection. -/
def outHG (xs : Vec F S256x1 .f32) (q : Vec F S256x7168 .bf16) (dg : Vec F S7168x512 .bf16) (x : Vec F S256x7168 .bf16) (wu : Vec F S7168x512 .bf16) : FVec F S256x512 .bf16 :=
  k0_pay4 (gAct xs q dg) x wu
/-- The reference gate times the quantised up projection. -/
def outHU (xs : Vec F S256x1 .f32) (q : Vec F S256x7168 .bf16) (du : Vec F S7168x512 .bf16) (x : Vec F S256x7168 .bf16) (wg : Vec F S7168x512 .bf16) : FVec F S256x512 .bf16 :=
  k0_pay249 (k0_pay12 xs) (gRef x wg) q du
/-- The running lane maximum of `|h_full|`. -/
def outMF (old : Vec F S256x128 .f32) (xs : Vec F S256x1 .f32) (q : Vec F S256x7168 .bf16) (dg du : Vec F S7168x512 .bf16) : FVec F S256x128 .f32 :=
  k0_pay1 (k0_pay250 old) (k0_pay251 (k0_pay12 xs) (gAct xs q dg) q du) (k0_pay252 (k0_pay12 xs) (gAct xs q dg) q du)
/-- The running lane maximum of `|h_ref|`. -/
def outMR (old : Vec F S256x128 .f32) (x : Vec F S256x7168 .bf16) (wg wu : Vec F S7168x512 .bf16) : FVec F S256x128 .f32 :=
  k0_pay5 (gRef x wg) x wu old

/-! ## Loads and stores of whole buffers and of one group -/

/-- The zero offsets. -/
theorem zero2 : (![0, 0] : Fin 2 → ℕ) = fun _ => 0 := by funext a; fin_cases a <;> rfl

/-- A load of a whole buffer held at `X` reads `X`. -/
theorem readAt_whole {s : Shape} {e : EltTy} {κ : Kind} {sp : Space} {a : Memref sig κ sp s e} (h : a.IsWhole) (X : s.Idx → Elt F e)
    {off : Fin s.rank → ℕ} (ho : off = fun _ => 0) (inb : ∀ i, off i + s.size i ≤ s.size i) :
    View.readAt (Elt F) a.view (Rect.unit (s := s) off s.size inb).toLoadRect (h.unread X) = X := by
  subst ho
  funext x
  rw [h.readAt_unread]
  exact congrArg X (funext fun i => Fin.ext (by show 0 + 1 * (x i).val = _; omega))

/-- Storing one whole block leaves its payload, whatever was there. -/
theorem read_store {s : Shape} {e : EltTy} {κ : Kind} {sp : Space} (v : View sig κ sp s e) (f : v.ty.Contents (Elt F)) {off : Fin s.rank → ℕ} (ho : off = fun _ => 0)
    (inb : ∀ i, off i + s.size i ≤ s.size i) (w w' : s.Idx → Elt F e) (hw : w = w') (L : List (View.Piece (Elt F) s e)) :
    v.read (Elt F) (v.writes (Elt F) f (⟨Rect.unit off s.size inb, w⟩ :: L)) = w' := by
  subst hw
  rw [View.read_writes_eq_canon v f _ (fun y => ⟨_, List.mem_cons_self, View.mem_set_unit_zero ho inb y⟩), View.canon_cons_unit_zero ho]

/-- A load of a whole buffer last stored whole reads the payload. -/
theorem readCov_whole {s : Shape} {e : EltTy} {κ : Kind} {sp : Space} (v : View sig κ sp s e) {off : Fin s.rank → ℕ} (ho : off = fun _ => 0)
    (inb : ∀ i, off i + s.size i ≤ s.size i) (w : s.Idx → Elt F e) (L : List (View.Piece (Elt F) s e)) :
    v.readCov (⟨Rect.unit off s.size inb, w⟩ :: L) (Rect.unit off s.size inb).toLoadRect = w :=
  View.readCov_cons_toLoadRect v (Rect.unit off s.size inb) w L

/-- Group `k`'s rows of the scratch, of the per-group rows and of the packed codes lie inside their buffers. -/
theorem inbO (k : ℕ) (hk : k < 56) : ∀ a, ![128 * k, 0] a + S128x512.size a ≤ S7168x512.size a := fun a => by
  fin_cases a
  · show 128 * k + 128 ≤ 7168; omega
  · show 0 + 512 ≤ 512; omega
/-- The rows of a group lie inside the array. -/
theorem inbZ (k : ℕ) (hk : k < 56) : ∀ a, ![k, 0] a + S1x512.size a ≤ S56x512.size a := fun a => by
  fin_cases a
  · show k + 1 ≤ 56; omega
  · show 0 + 512 ≤ 512; omega
/-- The rows of a group lie inside the array. -/
theorem inbQ (k : ℕ) (hk : k < 56) : ∀ a, ![64 * k, 0] a + S64x512.size a ≤ S3584x512.size a := fun a => by
  fin_cases a
  · show 64 * k + 64 ≤ 3584; omega
  · show 0 + 512 ≤ 512; omega

/-- One group's store is the group's block of `deqAll`. -/
theorem deq_piece {a7 : Memref sig .tc .vmem S56x512 .i8} (h7 : a7.IsWhole) {a4 : Memref sig .tc .vmem S3584x512 .i8} (h4 : a4.IsWhole)
    {a6 : Memref sig .tc .vmem S56x512 .f32} (h6 : a6.IsWhole)
    (q : Vec F S3584x512 .i8) (s : Vec F S56x512 .f32) (z : Vec F S56x512 .i8) (k : ℕ) (hk : k < 56) (x : S128x512.Idx) :
    k0_pay13 (View.readAt (Elt F) a7.view (Rect.unit (s := S56x512) ![k, 0] S1x512.size (inbZ k hk)).toLoadRect (h7.unread z))
      (View.readAt (Elt F) a4.view (Rect.unit (s := S3584x512) ![64 * k, 0] S64x512.size (inbQ k hk)).toLoadRect (h4.unread q))
      (View.readAt (Elt F) a6.view (Rect.unit (s := S56x512) ![k, 0] S1x512.size (inbZ k hk)).toLoadRect (h6.unread s)) x
      = deqAll q s z ((Rect.unit (s := S7168x512) ![128 * k, 0] S128x512.size (inbO k hk)).emb x) := by
  have hx0 : (x 0).val < 128 := (x 0).isLt
  have hx1 : (x 1).val < 512 := (x 1).isLt
  have e0 : (((Rect.unit (s := S7168x512) ![128 * k, 0] S128x512.size (inbO k hk)).emb x) 0).val = 128 * k + (x 0).val := by
    show 128 * k + 1 * (x 0).val = _; omega
  have e1 : (((Rect.unit (s := S7168x512) ![128 * k, 0] S128x512.size (inbO k hk)).emb x) 1).val = (x 1).val := by
    show 0 + 1 * (x 1).val = _; omega
  have hd : (128 * k + (x 0).val) / 128 = k := by omega
  have hm : (128 * k + (x 0).val) % 128 = (x 0).val := by omega
  unfold deqAll
  have hA : (View.readAt (Elt F) a7.view (Rect.unit (s := S56x512) ![k, 0] S1x512.size (inbZ k hk)).toLoadRect (h7.unread z)) = (fun x' => z (ix2 ⟨(((Rect.unit (s := S7168x512) ![128 * k, 0] S128x512.size (inbO k hk)).emb x) 0).val / 128, by rw [e0]; omega⟩ (x' 1))) := by
    funext x'
    rw [h7.readAt_unread]
    have : (x' 0).val < 1 := (x' 0).isLt
    refine congrArg z (funext fun i => Fin.ext ?_)
    fin_cases i
    · show k + 1 * (x' 0).val = _ / 128; rw [e0, hd]; omega
    · show 0 + 1 * (x' 1).val = (x' 1).val; omega
  have hB : (View.readAt (Elt F) a4.view (Rect.unit (s := S3584x512) ![64 * k, 0] S64x512.size (inbQ k hk)).toLoadRect (h4.unread q)) = (fun x' => q (ix2 ⟨64 * ((((Rect.unit (s := S7168x512) ![128 * k, 0] S128x512.size (inbO k hk)).emb x) 0).val / 128) + (x' 0).val, by
      have h2 : (x' 0).val < 64 := (x' 0).isLt
      rw [e0]; omega⟩ (x' 1))) := by
    funext x'
    rw [h4.readAt_unread]
    refine congrArg q (funext fun i => Fin.ext ?_)
    fin_cases i
    · show 64 * k + 1 * (x' 0).val = 64 * (_ / 128) + (x' 0).val; rw [e0, hd]; omega
    · show 0 + 1 * (x' 1).val = (x' 1).val; omega
  have hC : (View.readAt (Elt F) a6.view (Rect.unit (s := S56x512) ![k, 0] S1x512.size (inbZ k hk)).toLoadRect (h6.unread s)) = (fun x' => s (ix2 ⟨(((Rect.unit (s := S7168x512) ![128 * k, 0] S128x512.size (inbO k hk)).emb x) 0).val / 128, by rw [e0]; omega⟩ (x' 1))) := by
    funext x'
    rw [h6.readAt_unread]
    have : (x' 0).val < 1 := (x' 0).isLt
    refine congrArg s (funext fun i => Fin.ext ?_)
    fin_cases i
    · show k + 1 * (x' 0).val = _ / 128; rw [e0, hd]; omega
    · show 0 + 1 * (x' 1).val = (x' 1).val; omega
  have hX : x = ix2 ⟨(((Rect.unit (s := S7168x512) ![128 * k, 0] S128x512.size (inbO k hk)).emb x) 0).val % 128, Nat.mod_lt _ (by decide)⟩ (((Rect.unit (s := S7168x512) ![128 * k, 0] S128x512.size (inbO k hk)).emb x) 1) := by
    funext i
    refine Fin.ext ?_
    fin_cases i
    · show (x 0).val = _ % 128; rw [e0, hm]
    · exact e1.symm
  rw [hA, hB, hC]
  exact congrArg _ hX

/-- The 56 groups' rows cover the scratch. -/
theorem deq_cover (L : List (View.Piece (Elt F) S7168x512 .bf16)) (h : View.Piece.tiledL L ![128, 512] = true) :
    ∀ y : S7168x512.Idx, ∃ p ∈ L, y ∈ p.1.set := View.cover_of_tiledL L ![128, 512] h

end Cert.GateUpIdeal.Gen

end
-- ==== Proof.GateUpRunA.lean ====
/- The whole gate/up body run at the first grid point. -/
module

public import proofs.«01_k».proof.Proof.GateUpKit

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at the first point, run on whole staging buffers: the inputs at their contents, everything else at anything. The pieces each
    buffer ends with are the run's witness. -/
noncomputable def kernelRun0_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i)
    (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) :
    Σ' (L9 : List (View.Piece (Elt F) S256x7168 .i8)), Σ' (L10 : List (View.Piece (Elt F) S256x1 .f32)), Σ' (L11 : List (View.Piece (Elt F) S256x512 .f32)), Σ' (L12 : List (View.Piece (Elt F) S256x512 .f32)), Σ' (L13 : List (View.Piece (Elt F) S256x512 .bf16)), Σ' (L14 : List (View.Piece (Elt F) S256x512 .bf16)), Σ' (L15 : List (View.Piece (Elt F) S256x128 .f32)), Σ' (L16 : List (View.Piece (Elt F) S256x128 .f32)), Σ' (LS0 : List (View.Piece (Elt F) S256x7168 .bf16)), { LT1 : List (View.Piece (Elt F) S7168x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LT1)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    iexists _; iexact HS1

end Cert.GateUpIdeal.Gen

end
-- ==== Proof.GateUpRunB.lean ====
/- The whole gate/up body run at a later grid point. -/
module

public import proofs.«01_k».proof.Proof.GateUpRunA

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at a later point, run on whole staging buffers: the inputs, the codes, the scales, the running maxima and the carried codes
    at their contents, the other buffers at anything. The pieces each buffer ends with are the run's witness. -/
noncomputable def kernelRun0_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i)
    (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16) :
    Σ' (L11 : List (View.Piece (Elt F) S256x512 .f32)), Σ' (L12 : List (View.Piece (Elt F) S256x512 .f32)), Σ' (L13 : List (View.Piece (Elt F) S256x512 .bf16)), Σ' (L14 : List (View.Piece (Elt F) S256x512 .bf16)), Σ' (L15 : List (View.Piece (Elt F) S256x128 .f32)), Σ' (L16 : List (View.Piece (Elt F) S256x128 .f32)), { LT1 : List (View.Piece (Elt F) S7168x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9 ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xo15 ∗ owns (c : Thread nD τ) arg17 fullShare xo16 ∗ owns (c : Thread nD τ) arg18 fullShare xs0 ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9 ∗ owns (c : Thread nD τ) arg11 fullShare xo10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xs0 ∗ (∃ f, arg19.view.loc (c : Thread nD τ) ↦[arg19.view.set]{fullShare} arg19.view.writes (Elt F) f LT1)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf15; obtain rfl := harg17.eq_unread hf16; obtain rfl := harg18.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg18.read_unread _
      iexact HS0
    iexists _; iexact HS1

end Cert.GateUpIdeal.Gen

end
-- ==== Proof.GateUpDeq.lean ====
/- The weight scratch of the gate/up body: after each of its two loops over the groups it holds the dequantised weights. -/
module

public import proofs.«01_k».proof.Proof.GateUpMath
public import proofs.«01_k».proof.Proof.GateUpRunB

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the stores at the front of a list are blocks of `G` and cover the buffer, a load of the whole buffer reads `G`. -/
theorem readCov_front {a19 : View sig .tc .vmem S7168x512 .bf16} (G : Vec F S7168x512 .bf16) (L : List (View.Piece (Elt F) S7168x512 .bf16))
    (hP : View.PiecesOf G (L.take 56)) (hT : View.Piece.tiledL (L.take 56) ![128, 512] = true) :
    a19.readCov L (Rect.unit (s := S7168x512) ![0, 0] S7168x512.size inb_S7168x512_S7168x512_0_0).toLoadRect = G := by
  rw [View.readCov_eq_canon']
  funext j
  have h := View.canon_append_of_piecesOf G (L.drop 56) (L.take 56) hP
    ((Rect.unit (s := S7168x512) ![0, 0] S7168x512.size inb_S7168x512_S7168x512_0_0).toLoadRect.idx j) (deq_cover _ hT _)
  rw [List.take_append_drop] at h
  refine h.trans (congrArg G ?_)
  funext i
  refine Fin.ext ?_
  fin_cases i
  · show 0 + 1 * (j 0).val = (j 0).val; omega
  · show 0 + 1 * (j 1).val = (j 1).val; omega

set_option maxHeartbeats 4000000 in
/-- Case A: the gate weights read back from the scratch are the dequantised weights. -/
theorem deqGate_A (c : Dev nD) (arg4 : Memref sig .tc .vmem S3584x512 .i8) (harg4 : arg4.IsWhole) (arg6 : Memref sig .tc .vmem S56x512 .f32) (harg6 : arg6.IsWhole) (arg7 : Memref sig .tc .vmem S56x512 .i8) (harg7 : arg7.IsWhole) (arg19 : Memref sig .tc .vmem S7168x512 .bf16) (x3 : Vec F S3584x512 .i8) (x5 : Vec F S56x512 .f32) (x6 : Vec F S56x512 .i8) :
    kernelRun0_A.sl.v1518 (F := F) c arg4 harg4 arg6 harg6 arg7 harg7 arg19 x3 x5 x6 = deqAll x3 x5 x6 := by
  unfold kernelRun0_A.sl.v1518
  refine readCov_front _ _ ?_ (by sl_kernel_rfl)
  refine ⟨deq_piece harg7 harg4 harg6 x3 x5 x6 55 (by decide),
    deq_piece harg7 harg4 harg6 x3 x5 x6 54 (by decide),
    deq_piece harg7 harg4 harg6 x3 x5 x6 53 (by decide),
    deq_piece harg7 harg4 harg6 x3 x5 x6 52 (by decide),
    deq_piece harg7 harg4 harg6 x3 x5 x6 51 (by decide),
    deq_piece harg7 harg4 harg6 x3 x5 x6 50 (by decide),
    deq_piece harg7 harg4 harg6 x3 x5 x6 49 (by decide),
    deq_piece harg7 harg4 harg6 x3 x5 x6 48 (by decide),
    deq_piece harg7 harg4 harg6 x3 x5 x6 47 (by decide),
    deq_piece harg7 harg4 harg6 x3 x5 x6 46 (by decide),
    deq_piece harg7 harg4 harg6 x3 x5 x6 45 (by decide),
    deq_piece harg7 harg4 harg6 x3 x5 x6 44 (by decide),
    deq_piece harg7 harg4 harg6 x3 x5 x6 43 (by decide),
    deq_piece harg7 harg4 harg6 x3 x5 x6 42 (by decide),
    deq_piece harg7 harg4 harg6 x3 x5 x6 41 (by decide),
    deq_piece harg7 harg4 harg6 x3 x5 x6 40 (by decide),
    deq_piece harg7 harg4 harg6 x3 x5 x6 39 (by decide),
    deq_piece harg7 harg4 harg6 x3 x5 x6 38 (by decide),
    deq_piece harg7 harg4 harg6 x3 x5 x6 37 (by decide),
    deq_piece harg7 harg4 harg6 x3 x5 x6 36 (by decide),
    deq_piece harg7 harg4 harg6 x3 x5 x6 35 (by decide),
    deq_piece harg7 harg4 harg6 x3 x5 x6 34 (by decide),
    deq_piece harg7 harg4 harg6 x3 x5 x6 33 (by decide),
    deq_piece harg7 harg4 harg6 x3 x5 x6 32 (by decide),
    deq_piece harg7 harg4 harg6 x3 x5 x6 31 (by decide),
    deq_piece harg7 harg4 harg6 x3 x5 x6 30 (by decide),
    deq_piece harg7 harg4 harg6 x3 x5 x6 29 (by decide),
    deq_piece harg7 harg4 harg6 x3 x5 x6 28 (by decide),
    deq_piece harg7 harg4 harg6 x3 x5 x6 27 (by decide),
    deq_piece harg7 harg4 harg6 x3 x5 x6 26 (by decide),
    deq_piece harg7 harg4 harg6 x3 x5 x6 25 (by decide),
    deq_piece harg7 harg4 harg6 x3 x5 x6 24 (by decide),
    deq_piece harg7 harg4 harg6 x3 x5 x6 23 (by decide),
    deq_piece harg7 harg4 harg6 x3 x5 x6 22 (by decide),
    deq_piece harg7 harg4 harg6 x3 x5 x6 21 (by decide),
    deq_piece harg7 harg4 harg6 x3 x5 x6 20 (by decide),
    deq_piece harg7 harg4 harg6 x3 x5 x6 19 (by decide),
    deq_piece harg7 harg4 harg6 x3 x5 x6 18 (by decide),
    deq_piece harg7 harg4 harg6 x3 x5 x6 17 (by decide),
    deq_piece harg7 harg4 harg6 x3 x5 x6 16 (by decide),
    deq_piece harg7 harg4 harg6 x3 x5 x6 15 (by decide),
    deq_piece harg7 harg4 harg6 x3 x5 x6 14 (by decide),
    deq_piece harg7 harg4 harg6 x3 x5 x6 13 (by decide),
    deq_piece harg7 harg4 harg6 x3 x5 x6 12 (by decide),
    deq_piece harg7 harg4 harg6 x3 x5 x6 11 (by decide),
    deq_piece harg7 harg4 harg6 x3 x5 x6 10 (by decide),
    deq_piece harg7 harg4 harg6 x3 x5 x6 9 (by decide),
    deq_piece harg7 harg4 harg6 x3 x5 x6 8 (by decide),
    deq_piece harg7 harg4 harg6 x3 x5 x6 7 (by decide),
    deq_piece harg7 harg4 harg6 x3 x5 x6 6 (by decide),
    deq_piece harg7 harg4 harg6 x3 x5 x6 5 (by decide),
    deq_piece harg7 harg4 harg6 x3 x5 x6 4 (by decide),
    deq_piece harg7 harg4 harg6 x3 x5 x6 3 (by decide),
    deq_piece harg7 harg4 harg6 x3 x5 x6 2 (by decide),
    deq_piece harg7 harg4 harg6 x3 x5 x6 1 (by decide),
    deq_piece harg7 harg4 harg6 x3 x5 x6 0 (by decide),
    trivial⟩

set_option maxHeartbeats 4000000 in
/-- Case A: the up weights read back from the scratch are the dequantised weights. -/
theorem deqUp_A (c : Dev nD) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg19 : Memref sig .tc .vmem S7168x512 .bf16) (x3 : Vec F S3584x512 .i8) (x4 : Vec F S3584x512 .i8) (x5 : Vec F S56x512 .f32) (x6 : Vec F S56x512 .i8) (x7 : Vec F S56x512 .f32) (x8 : Vec F S56x512 .i8) :
    kernelRun0_A.sl.v3042 (F := F) c arg4 harg4 arg5 harg5 arg6 harg6 arg7 harg7 arg8 harg8 arg9 harg9 arg19 x3 x4 x5 x6 x7 x8 = deqAll x4 x7 x8 := by
  unfold kernelRun0_A.sl.v3042
  refine readCov_front _ _ ?_ (by sl_kernel_rfl)
  refine ⟨deq_piece harg9 harg5 harg8 x4 x7 x8 55 (by decide),
    deq_piece harg9 harg5 harg8 x4 x7 x8 54 (by decide),
    deq_piece harg9 harg5 harg8 x4 x7 x8 53 (by decide),
    deq_piece harg9 harg5 harg8 x4 x7 x8 52 (by decide),
    deq_piece harg9 harg5 harg8 x4 x7 x8 51 (by decide),
    deq_piece harg9 harg5 harg8 x4 x7 x8 50 (by decide),
    deq_piece harg9 harg5 harg8 x4 x7 x8 49 (by decide),
    deq_piece harg9 harg5 harg8 x4 x7 x8 48 (by decide),
    deq_piece harg9 harg5 harg8 x4 x7 x8 47 (by decide),
    deq_piece harg9 harg5 harg8 x4 x7 x8 46 (by decide),
    deq_piece harg9 harg5 harg8 x4 x7 x8 45 (by decide),
    deq_piece harg9 harg5 harg8 x4 x7 x8 44 (by decide),
    deq_piece harg9 harg5 harg8 x4 x7 x8 43 (by decide),
    deq_piece harg9 harg5 harg8 x4 x7 x8 42 (by decide),
    deq_piece harg9 harg5 harg8 x4 x7 x8 41 (by decide),
    deq_piece harg9 harg5 harg8 x4 x7 x8 40 (by decide),
    deq_piece harg9 harg5 harg8 x4 x7 x8 39 (by decide),
    deq_piece harg9 harg5 harg8 x4 x7 x8 38 (by decide),
    deq_piece harg9 harg5 harg8 x4 x7 x8 37 (by decide),
    deq_piece harg9 harg5 harg8 x4 x7 x8 36 (by decide),
    deq_piece harg9 harg5 harg8 x4 x7 x8 35 (by decide),
    deq_piece harg9 harg5 harg8 x4 x7 x8 34 (by decide),
    deq_piece harg9 harg5 harg8 x4 x7 x8 33 (by decide),
    deq_piece harg9 harg5 harg8 x4 x7 x8 32 (by decide),
    deq_piece harg9 harg5 harg8 x4 x7 x8 31 (by decide),
    deq_piece harg9 harg5 harg8 x4 x7 x8 30 (by decide),
    deq_piece harg9 harg5 harg8 x4 x7 x8 29 (by decide),
    deq_piece harg9 harg5 harg8 x4 x7 x8 28 (by decide),
    deq_piece harg9 harg5 harg8 x4 x7 x8 27 (by decide),
    deq_piece harg9 harg5 harg8 x4 x7 x8 26 (by decide),
    deq_piece harg9 harg5 harg8 x4 x7 x8 25 (by decide),
    deq_piece harg9 harg5 harg8 x4 x7 x8 24 (by decide),
    deq_piece harg9 harg5 harg8 x4 x7 x8 23 (by decide),
    deq_piece harg9 harg5 harg8 x4 x7 x8 22 (by decide),
    deq_piece harg9 harg5 harg8 x4 x7 x8 21 (by decide),
    deq_piece harg9 harg5 harg8 x4 x7 x8 20 (by decide),
    deq_piece harg9 harg5 harg8 x4 x7 x8 19 (by decide),
    deq_piece harg9 harg5 harg8 x4 x7 x8 18 (by decide),
    deq_piece harg9 harg5 harg8 x4 x7 x8 17 (by decide),
    deq_piece harg9 harg5 harg8 x4 x7 x8 16 (by decide),
    deq_piece harg9 harg5 harg8 x4 x7 x8 15 (by decide),
    deq_piece harg9 harg5 harg8 x4 x7 x8 14 (by decide),
    deq_piece harg9 harg5 harg8 x4 x7 x8 13 (by decide),
    deq_piece harg9 harg5 harg8 x4 x7 x8 12 (by decide),
    deq_piece harg9 harg5 harg8 x4 x7 x8 11 (by decide),
    deq_piece harg9 harg5 harg8 x4 x7 x8 10 (by decide),
    deq_piece harg9 harg5 harg8 x4 x7 x8 9 (by decide),
    deq_piece harg9 harg5 harg8 x4 x7 x8 8 (by decide),
    deq_piece harg9 harg5 harg8 x4 x7 x8 7 (by decide),
    deq_piece harg9 harg5 harg8 x4 x7 x8 6 (by decide),
    deq_piece harg9 harg5 harg8 x4 x7 x8 5 (by decide),
    deq_piece harg9 harg5 harg8 x4 x7 x8 4 (by decide),
    deq_piece harg9 harg5 harg8 x4 x7 x8 3 (by decide),
    deq_piece harg9 harg5 harg8 x4 x7 x8 2 (by decide),
    deq_piece harg9 harg5 harg8 x4 x7 x8 1 (by decide),
    deq_piece harg9 harg5 harg8 x4 x7 x8 0 (by decide),
    trivial⟩

set_option maxHeartbeats 4000000 in
/-- Case B: the gate weights read back from the scratch are the dequantised weights. -/
theorem deqGate_B (c : Dev nD) (arg4 : Memref sig .tc .vmem S3584x512 .i8) (harg4 : arg4.IsWhole) (arg6 : Memref sig .tc .vmem S56x512 .f32) (harg6 : arg6.IsWhole) (arg7 : Memref sig .tc .vmem S56x512 .i8) (harg7 : arg7.IsWhole) (arg19 : Memref sig .tc .vmem S7168x512 .bf16) (x3 : Vec F S3584x512 .i8) (x5 : Vec F S56x512 .f32) (x6 : Vec F S56x512 .i8) :
    kernelRun0_B.sl.v1518 (F := F) c arg4 harg4 arg6 harg6 arg7 harg7 arg19 x3 x5 x6 = deqAll x3 x5 x6 := by
  unfold kernelRun0_B.sl.v1518
  refine readCov_front _ _ ?_ (by sl_kernel_rfl)
  refine ⟨deq_piece harg7 harg4 harg6 x3 x5 x6 55 (by decide),
    deq_piece harg7 harg4 harg6 x3 x5 x6 54 (by decide),
    deq_piece harg7 harg4 harg6 x3 x5 x6 53 (by decide),
    deq_piece harg7 harg4 harg6 x3 x5 x6 52 (by decide),
    deq_piece harg7 harg4 harg6 x3 x5 x6 51 (by decide),
    deq_piece harg7 harg4 harg6 x3 x5 x6 50 (by decide),
    deq_piece harg7 harg4 harg6 x3 x5 x6 49 (by decide),
    deq_piece harg7 harg4 harg6 x3 x5 x6 48 (by decide),
    deq_piece harg7 harg4 harg6 x3 x5 x6 47 (by decide),
    deq_piece harg7 harg4 harg6 x3 x5 x6 46 (by decide),
    deq_piece harg7 harg4 harg6 x3 x5 x6 45 (by decide),
    deq_piece harg7 harg4 harg6 x3 x5 x6 44 (by decide),
    deq_piece harg7 harg4 harg6 x3 x5 x6 43 (by decide),
    deq_piece harg7 harg4 harg6 x3 x5 x6 42 (by decide),
    deq_piece harg7 harg4 harg6 x3 x5 x6 41 (by decide),
    deq_piece harg7 harg4 harg6 x3 x5 x6 40 (by decide),
    deq_piece harg7 harg4 harg6 x3 x5 x6 39 (by decide),
    deq_piece harg7 harg4 harg6 x3 x5 x6 38 (by decide),
    deq_piece harg7 harg4 harg6 x3 x5 x6 37 (by decide),
    deq_piece harg7 harg4 harg6 x3 x5 x6 36 (by decide),
    deq_piece harg7 harg4 harg6 x3 x5 x6 35 (by decide),
    deq_piece harg7 harg4 harg6 x3 x5 x6 34 (by decide),
    deq_piece harg7 harg4 harg6 x3 x5 x6 33 (by decide),
    deq_piece harg7 harg4 harg6 x3 x5 x6 32 (by decide),
    deq_piece harg7 harg4 harg6 x3 x5 x6 31 (by decide),
    deq_piece harg7 harg4 harg6 x3 x5 x6 30 (by decide),
    deq_piece harg7 harg4 harg6 x3 x5 x6 29 (by decide),
    deq_piece harg7 harg4 harg6 x3 x5 x6 28 (by decide),
    deq_piece harg7 harg4 harg6 x3 x5 x6 27 (by decide),
    deq_piece harg7 harg4 harg6 x3 x5 x6 26 (by decide),
    deq_piece harg7 harg4 harg6 x3 x5 x6 25 (by decide),
    deq_piece harg7 harg4 harg6 x3 x5 x6 24 (by decide),
    deq_piece harg7 harg4 harg6 x3 x5 x6 23 (by decide),
    deq_piece harg7 harg4 harg6 x3 x5 x6 22 (by decide),
    deq_piece harg7 harg4 harg6 x3 x5 x6 21 (by decide),
    deq_piece harg7 harg4 harg6 x3 x5 x6 20 (by decide),
    deq_piece harg7 harg4 harg6 x3 x5 x6 19 (by decide),
    deq_piece harg7 harg4 harg6 x3 x5 x6 18 (by decide),
    deq_piece harg7 harg4 harg6 x3 x5 x6 17 (by decide),
    deq_piece harg7 harg4 harg6 x3 x5 x6 16 (by decide),
    deq_piece harg7 harg4 harg6 x3 x5 x6 15 (by decide),
    deq_piece harg7 harg4 harg6 x3 x5 x6 14 (by decide),
    deq_piece harg7 harg4 harg6 x3 x5 x6 13 (by decide),
    deq_piece harg7 harg4 harg6 x3 x5 x6 12 (by decide),
    deq_piece harg7 harg4 harg6 x3 x5 x6 11 (by decide),
    deq_piece harg7 harg4 harg6 x3 x5 x6 10 (by decide),
    deq_piece harg7 harg4 harg6 x3 x5 x6 9 (by decide),
    deq_piece harg7 harg4 harg6 x3 x5 x6 8 (by decide),
    deq_piece harg7 harg4 harg6 x3 x5 x6 7 (by decide),
    deq_piece harg7 harg4 harg6 x3 x5 x6 6 (by decide),
    deq_piece harg7 harg4 harg6 x3 x5 x6 5 (by decide),
    deq_piece harg7 harg4 harg6 x3 x5 x6 4 (by decide),
    deq_piece harg7 harg4 harg6 x3 x5 x6 3 (by decide),
    deq_piece harg7 harg4 harg6 x3 x5 x6 2 (by decide),
    deq_piece harg7 harg4 harg6 x3 x5 x6 1 (by decide),
    deq_piece harg7 harg4 harg6 x3 x5 x6 0 (by decide),
    trivial⟩

set_option maxHeartbeats 4000000 in
/-- Case B: the up weights read back from the scratch are the dequantised weights. -/
theorem deqUp_B (c : Dev nD) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg19 : Memref sig .tc .vmem S7168x512 .bf16) (x3 : Vec F S3584x512 .i8) (x4 : Vec F S3584x512 .i8) (x5 : Vec F S56x512 .f32) (x6 : Vec F S56x512 .i8) (x7 : Vec F S56x512 .f32) (x8 : Vec F S56x512 .i8) :
    kernelRun0_B.sl.v3042 (F := F) c arg4 harg4 arg5 harg5 arg6 harg6 arg7 harg7 arg8 harg8 arg9 harg9 arg19 x3 x4 x5 x6 x7 x8 = deqAll x4 x7 x8 := by
  unfold kernelRun0_B.sl.v3042
  refine readCov_front _ _ ?_ (by sl_kernel_rfl)
  refine ⟨deq_piece harg9 harg5 harg8 x4 x7 x8 55 (by decide),
    deq_piece harg9 harg5 harg8 x4 x7 x8 54 (by decide),
    deq_piece harg9 harg5 harg8 x4 x7 x8 53 (by decide),
    deq_piece harg9 harg5 harg8 x4 x7 x8 52 (by decide),
    deq_piece harg9 harg5 harg8 x4 x7 x8 51 (by decide),
    deq_piece harg9 harg5 harg8 x4 x7 x8 50 (by decide),
    deq_piece harg9 harg5 harg8 x4 x7 x8 49 (by decide),
    deq_piece harg9 harg5 harg8 x4 x7 x8 48 (by decide),
    deq_piece harg9 harg5 harg8 x4 x7 x8 47 (by decide),
    deq_piece harg9 harg5 harg8 x4 x7 x8 46 (by decide),
    deq_piece harg9 harg5 harg8 x4 x7 x8 45 (by decide),
    deq_piece harg9 harg5 harg8 x4 x7 x8 44 (by decide),
    deq_piece harg9 harg5 harg8 x4 x7 x8 43 (by decide),
    deq_piece harg9 harg5 harg8 x4 x7 x8 42 (by decide),
    deq_piece harg9 harg5 harg8 x4 x7 x8 41 (by decide),
    deq_piece harg9 harg5 harg8 x4 x7 x8 40 (by decide),
    deq_piece harg9 harg5 harg8 x4 x7 x8 39 (by decide),
    deq_piece harg9 harg5 harg8 x4 x7 x8 38 (by decide),
    deq_piece harg9 harg5 harg8 x4 x7 x8 37 (by decide),
    deq_piece harg9 harg5 harg8 x4 x7 x8 36 (by decide),
    deq_piece harg9 harg5 harg8 x4 x7 x8 35 (by decide),
    deq_piece harg9 harg5 harg8 x4 x7 x8 34 (by decide),
    deq_piece harg9 harg5 harg8 x4 x7 x8 33 (by decide),
    deq_piece harg9 harg5 harg8 x4 x7 x8 32 (by decide),
    deq_piece harg9 harg5 harg8 x4 x7 x8 31 (by decide),
    deq_piece harg9 harg5 harg8 x4 x7 x8 30 (by decide),
    deq_piece harg9 harg5 harg8 x4 x7 x8 29 (by decide),
    deq_piece harg9 harg5 harg8 x4 x7 x8 28 (by decide),
    deq_piece harg9 harg5 harg8 x4 x7 x8 27 (by decide),
    deq_piece harg9 harg5 harg8 x4 x7 x8 26 (by decide),
    deq_piece harg9 harg5 harg8 x4 x7 x8 25 (by decide),
    deq_piece harg9 harg5 harg8 x4 x7 x8 24 (by decide),
    deq_piece harg9 harg5 harg8 x4 x7 x8 23 (by decide),
    deq_piece harg9 harg5 harg8 x4 x7 x8 22 (by decide),
    deq_piece harg9 harg5 harg8 x4 x7 x8 21 (by decide),
    deq_piece harg9 harg5 harg8 x4 x7 x8 20 (by decide),
    deq_piece harg9 harg5 harg8 x4 x7 x8 19 (by decide),
    deq_piece harg9 harg5 harg8 x4 x7 x8 18 (by decide),
    deq_piece harg9 harg5 harg8 x4 x7 x8 17 (by decide),
    deq_piece harg9 harg5 harg8 x4 x7 x8 16 (by decide),
    deq_piece harg9 harg5 harg8 x4 x7 x8 15 (by decide),
    deq_piece harg9 harg5 harg8 x4 x7 x8 14 (by decide),
    deq_piece harg9 harg5 harg8 x4 x7 x8 13 (by decide),
    deq_piece harg9 harg5 harg8 x4 x7 x8 12 (by decide),
    deq_piece harg9 harg5 harg8 x4 x7 x8 11 (by decide),
    deq_piece harg9 harg5 harg8 x4 x7 x8 10 (by decide),
    deq_piece harg9 harg5 harg8 x4 x7 x8 9 (by decide),
    deq_piece harg9 harg5 harg8 x4 x7 x8 8 (by decide),
    deq_piece harg9 harg5 harg8 x4 x7 x8 7 (by decide),
    deq_piece harg9 harg5 harg8 x4 x7 x8 6 (by decide),
    deq_piece harg9 harg5 harg8 x4 x7 x8 5 (by decide),
    deq_piece harg9 harg5 harg8 x4 x7 x8 4 (by decide),
    deq_piece harg9 harg5 harg8 x4 x7 x8 3 (by decide),
    deq_piece harg9 harg5 harg8 x4 x7 x8 2 (by decide),
    deq_piece harg9 harg5 harg8 x4 x7 x8 1 (by decide),
    deq_piece harg9 harg5 harg8 x4 x7 x8 0 (by decide),
    trivial⟩

end Cert.GateUpIdeal.Gen

end
-- ==== Proof.GateUpOuts.lean ====
/- What the gate/up body leaves in each output's buffer, at the first point and at a later one. -/
module

public import proofs.«01_k».proof.Proof.GateUpDeq

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the scale read back is the scale just stored. -/
theorem hv3_A (c : Dev nD) (arg1 : Memref sig .tc .vmem S256x7168 .bf16) (harg1 : arg1.IsWhole) (arg11 : Memref sig .tc .vmem S256x1 .f32) (x0 : Vec F S256x7168 .bf16) :
    kernelRun0_A.sl.v3 (F := F) c arg1 harg1 arg11 x0 = k0_pay7 x0 := by
  unfold kernelRun0_A.sl.v3
  unfold kernelRun0_A.sl.H10_1
  rw [readAt_whole harg1 _ zero2]; exact View.readCov_cons_toLoadRect _ _ _ _

/-- Case A: the codes read back are the codes just stored. -/
theorem hv1517_A (c : Dev nD) (arg1 : Memref sig .tc .vmem S256x7168 .bf16) (harg1 : arg1.IsWhole) (arg18 : Memref sig .tc .vmem S256x7168 .bf16) (x0 : Vec F S256x7168 .bf16) :
    kernelRun0_A.sl.v1517 (F := F) c arg1 harg1 arg18 x0 = k0_pay9 x0 := by
  unfold kernelRun0_A.sl.v1517
  unfold kernelRun0_A.sl.HS0_1
  rw [readAt_whole harg1 _ zero2]; exact View.readCov_cons_toLoadRect _ _ _ _

/-- Case A: the running maximum read back is zero. -/
theorem hv3051_A (c : Dev nD)  (arg16 : Memref sig .tc .vmem S256x128 .f32)  :
    kernelRun0_A.sl.v3051 (F := F) c arg16 = k0_pay10 := by
  unfold kernelRun0_A.sl.v3051
  exact View.readCov_cons_toLoadRect _ _ _ _

/-- Case A: the running maximum read back is zero. -/
theorem hv3071_A (c : Dev nD)  (arg17 : Memref sig .tc .vmem S256x128 .f32)  :
    kernelRun0_A.sl.v3071 (F := F) c arg17 = k0_pay11 := by
  unfold kernelRun0_A.sl.v3071
  exact View.readCov_cons_toLoadRect _ _ _ _

/-- Case A: the reference gate. -/
theorem hv1528_A (c : Dev nD) (arg1 : Memref sig .tc .vmem S256x7168 .bf16) (harg1 : arg1.IsWhole) (arg2 : Memref sig .tc .vmem S7168x512 .bf16) (harg2 : arg2.IsWhole)  (x0 : Vec F S256x7168 .bf16) (x1 : Vec F S7168x512 .bf16) :
    kernelRun0_A.sl.v1528 (F := F) c arg1 harg1 arg2 harg2 x0 x1 = gRef x0 x1 := by
  unfold kernelRun0_A.sl.v1528
  unfold kernelRun0_A.sl.v1526
  unfold kernelRun0_A.sl.v1527
  rw [readAt_whole harg1 _ zero2, readAt_whole harg2 _ zero2]; rfl

/-- Case B: the reference gate. -/
theorem hv1528_B (c : Dev nD) (arg1 : Memref sig .tc .vmem S256x7168 .bf16) (harg1 : arg1.IsWhole) (arg2 : Memref sig .tc .vmem S7168x512 .bf16) (harg2 : arg2.IsWhole)  (x0 : Vec F S256x7168 .bf16) (x1 : Vec F S7168x512 .bf16) :
    kernelRun0_B.sl.v1528 (F := F) c arg1 harg1 arg2 harg2 x0 x1 = gRef x0 x1 := by
  unfold kernelRun0_B.sl.v1528
  unfold kernelRun0_B.sl.v1526
  unfold kernelRun0_B.sl.v1527
  rw [readAt_whole harg1 _ zero2, readAt_whole harg2 _ zero2]; rfl

/-- Case A: the scale row. -/
theorem hv4_A (c : Dev nD) (arg1 : Memref sig .tc .vmem S256x7168 .bf16) (harg1 : arg1.IsWhole) (arg11 : Memref sig .tc .vmem S256x1 .f32) (x0 : Vec F S256x7168 .bf16) :
    kernelRun0_A.sl.v4 (F := F) c arg1 harg1 arg11 x0 = k0_pay12 (k0_pay7 x0) := by
  unfold kernelRun0_A.sl.v4
  rw [hv3_A]

/-- Case B: the scale row. -/
theorem hv4_B (c : Dev nD) (arg11 : Memref sig .tc .vmem S256x1 .f32) (harg11 : arg11.IsWhole)  (xo10 : Vec F S256x1 .f32) :
    kernelRun0_B.sl.v4 (F := F) c arg11 harg11 xo10 = k0_pay12 xo10 := by
  unfold kernelRun0_B.sl.v4
  rw [readAt_whole harg11 _ zero2]

/-- Case A: the quantised gate. -/
theorem hv1523_A (c : Dev nD) (arg1 : Memref sig .tc .vmem S256x7168 .bf16) (harg1 : arg1.IsWhole) (arg4 : Memref sig .tc .vmem S3584x512 .i8) (harg4 : arg4.IsWhole) (arg6 : Memref sig .tc .vmem S56x512 .f32) (harg6 : arg6.IsWhole) (arg7 : Memref sig .tc .vmem S56x512 .i8) (harg7 : arg7.IsWhole) (arg11 : Memref sig .tc .vmem S256x1 .f32) (arg18 : Memref sig .tc .vmem S256x7168 .bf16) (arg19 : Memref sig .tc .vmem S7168x512 .bf16) (x0 : Vec F S256x7168 .bf16) (x3 : Vec F S3584x512 .i8) (x5 : Vec F S56x512 .f32) (x6 : Vec F S56x512 .i8) :
    kernelRun0_A.sl.v1523 (F := F) c arg1 harg1 arg4 harg4 arg6 harg6 arg7 harg7 arg11 arg18 arg19 x0 x3 x5 x6 = gAct (k0_pay7 x0) (k0_pay9 x0) (deqAll x3 x5 x6) := by
  unfold kernelRun0_A.sl.v1523
  rw [hv4_A, hv1517_A, deqGate_A]; rfl

/-- Case B: the quantised gate. -/
theorem hv1523_B (c : Dev nD) (arg4 : Memref sig .tc .vmem S3584x512 .i8) (harg4 : arg4.IsWhole) (arg6 : Memref sig .tc .vmem S56x512 .f32) (harg6 : arg6.IsWhole) (arg7 : Memref sig .tc .vmem S56x512 .i8) (harg7 : arg7.IsWhole) (arg11 : Memref sig .tc .vmem S256x1 .f32) (harg11 : arg11.IsWhole) (arg18 : Memref sig .tc .vmem S256x7168 .bf16) (harg18 : arg18.IsWhole) (arg19 : Memref sig .tc .vmem S7168x512 .bf16) (x3 : Vec F S3584x512 .i8) (x5 : Vec F S56x512 .f32) (x6 : Vec F S56x512 .i8) (xo10 : Vec F S256x1 .f32) (xs0 : Vec F S256x7168 .bf16) :
    kernelRun0_B.sl.v1523 (F := F) c arg4 harg4 arg6 harg6 arg7 harg7 arg11 harg11 arg18 harg18 arg19 x3 x5 x6 xo10 xs0 = gAct xo10 xs0 (deqAll x3 x5 x6) := by
  unfold kernelRun0_B.sl.v1523
  rw [hv4_B, readAt_whole harg18 _ zero2, deqGate_B]; rfl

set_option maxHeartbeats 1000000 in
/-- Case A: what is stored into `arg10` reads the codes of x. -/
theorem out10_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x7168 .i8) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).1) = k0_pay8 x0 := by
  refine read_store v f zero2 _ _ _ ?_ _
  rw [readAt_whole harg1 _ zero2]

set_option maxHeartbeats 1000000 in
/-- Case A: what is stored into `arg11` reads the scales of x. -/
theorem out11_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x1 .f32) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.1) = k0_pay7 x0 := by
  show v.read (Elt F) (v.writes (Elt F) f (kernelRun0_A.sl.H10_1 (F := F) c arg1 harg1 x0)) = _
  unfold kernelRun0_A.sl.H10_1
  refine read_store v f zero2 _ _ _ ?_ _
  rw [readAt_whole harg1 _ zero2]

set_option maxHeartbeats 1000000 in
/-- Case A: what is stored into `arg12` reads h_full. -/
theorem out12_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x512 .f32) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.1) = outHF (k0_pay7 x0) (k0_pay9 x0) (deqAll x3 x5 x6) (deqAll x4 x7 x8) := by
  refine read_store v f zero2 _ _ _ ?_ _
  rw [hv4_A, hv1523_A, hv1517_A, deqUp_A]; rfl

set_option maxHeartbeats 1000000 in
/-- Case A: what is stored into `arg13` reads h_ref. -/
theorem out13_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x512 .f32) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.1) = outHR x0 x1 x2 := by
  refine read_store v f zero2 _ _ _ ?_ _
  rw [hv1528_A, readAt_whole harg1 _ zero2, readAt_whole harg3 _ zero2]; rfl

set_option maxHeartbeats 1000000 in
/-- Case A: what is stored into `arg14` reads quantised gate times reference up. -/
theorem out14_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x512 .bf16) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.1) = outHG (k0_pay7 x0) (k0_pay9 x0) (deqAll x3 x5 x6) x0 x2 := by
  refine read_store v f zero2 _ _ _ ?_ _
  rw [hv1523_A, readAt_whole harg1 _ zero2, readAt_whole harg3 _ zero2]; rfl

set_option maxHeartbeats 1000000 in
/-- Case A: what is stored into `arg15` reads reference gate times quantised up. -/
theorem out15_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x512 .bf16) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.1) = outHU (k0_pay7 x0) (k0_pay9 x0) (deqAll x4 x7 x8) x0 x1 := by
  refine read_store v f zero2 _ _ _ ?_ _
  rw [hv4_A, hv1528_A, hv1517_A, deqUp_A]; rfl

set_option maxHeartbeats 1000000 in
/-- Case A: what is stored into `arg16` reads the running maximum of |h_full|. -/
theorem out16_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x128 .f32) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.2.1) = outMF k0_pay10 (k0_pay7 x0) (k0_pay9 x0) (deqAll x3 x5 x6) (deqAll x4 x7 x8) := by
  refine read_store v f zero2 _ _ _ ?_ _
  unfold kernelRun0_A.sl.r_23 kernelRun0_A.sl.r_24 kernelRun0_A.sl.r_25; rw [hv3051_A, hv4_A, hv1523_A, hv1517_A, deqUp_A]; rfl

set_option maxHeartbeats 1000000 in
/-- Case A: what is stored into `arg17` reads the running maximum of |h_ref|. -/
theorem out17_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x128 .f32) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.2.2.1) = outMR k0_pay11 x0 x1 x2 := by
  refine read_store v f zero2 _ _ _ ?_ _
  rw [hv1528_A, readAt_whole harg1 _ zero2, readAt_whole harg3 _ zero2, hv3071_A]; rfl

set_option maxHeartbeats 1000000 in
/-- Case A: what is stored into `arg18` reads the codes of x in bfloat16. -/
theorem out18_A (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8)
    (v : View sig .tc .vmem S256x7168 .bf16) (f : v.ty.Contents (Elt F)) :
    v.read (Elt F) (v.writes (Elt F) f (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8).2.2.2.2.2.2.2.2.1) = k0_pay9 x0 := by
  show v.read (Elt F) (v.writes (Elt F) f (kernelRun0_A.sl.HS0_1 (F := F) c arg1 harg1 x0)) = _
  unfold kernelRun0_A.sl.HS0_1
  refine read_store v f zero2 _ _ _ ?_ _
  rw [readAt_whole harg1 _ zero2]

set_option maxHeartbeats 1000000 in
/-- Case B: what is stored into `arg12` reads h_full. -/
theorem out12_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16)
    (v : View sig .tc .vmem S256x512 .f32) (f : v.ty.Contents (Elt F)) :
    v.read (Elt F) (v.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo9 xo10 xo15 xo16 xs0).1) = outHF xo10 xs0 (deqAll x3 x5 x6) (deqAll x4 x7 x8) := by
  refine read_store v f zero2 _ _ _ ?_ _
  rw [hv4_B, hv1523_B, readAt_whole harg18 _ zero2, deqUp_B]; rfl

set_option maxHeartbeats 1000000 in
/-- Case B: what is stored into `arg13` reads h_ref. -/
theorem out13_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16)
    (v : View sig .tc .vmem S256x512 .f32) (f : v.ty.Contents (Elt F)) :
    v.read (Elt F) (v.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo9 xo10 xo15 xo16 xs0).2.1) = outHR x0 x1 x2 := by
  refine read_store v f zero2 _ _ _ ?_ _
  rw [hv1528_B, readAt_whole harg1 _ zero2, readAt_whole harg3 _ zero2]; rfl

set_option maxHeartbeats 1000000 in
/-- Case B: what is stored into `arg14` reads quantised gate times reference up. -/
theorem out14_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16)
    (v : View sig .tc .vmem S256x512 .bf16) (f : v.ty.Contents (Elt F)) :
    v.read (Elt F) (v.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo9 xo10 xo15 xo16 xs0).2.2.1) = outHG xo10 xs0 (deqAll x3 x5 x6) x0 x2 := by
  refine read_store v f zero2 _ _ _ ?_ _
  rw [hv1523_B, readAt_whole harg1 _ zero2, readAt_whole harg3 _ zero2]; rfl

set_option maxHeartbeats 1000000 in
/-- Case B: what is stored into `arg15` reads reference gate times quantised up. -/
theorem out15_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16)
    (v : View sig .tc .vmem S256x512 .bf16) (f : v.ty.Contents (Elt F)) :
    v.read (Elt F) (v.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo9 xo10 xo15 xo16 xs0).2.2.2.1) = outHU xo10 xs0 (deqAll x4 x7 x8) x0 x1 := by
  refine read_store v f zero2 _ _ _ ?_ _
  rw [hv4_B, hv1528_B, readAt_whole harg18 _ zero2, deqUp_B]; rfl

set_option maxHeartbeats 1000000 in
/-- Case B: what is stored into `arg16` reads the running maximum of |h_full|. -/
theorem out16_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16)
    (v : View sig .tc .vmem S256x128 .f32) (f : v.ty.Contents (Elt F)) :
    v.read (Elt F) (v.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo9 xo10 xo15 xo16 xs0).2.2.2.2.1) = outMF xo15 xo10 xs0 (deqAll x3 x5 x6) (deqAll x4 x7 x8) := by
  refine read_store v f zero2 _ _ _ ?_ _
  unfold kernelRun0_B.sl.r_23 kernelRun0_B.sl.r_24 kernelRun0_B.sl.r_25; rw [readAt_whole harg16 _ zero2, hv4_B, hv1523_B, readAt_whole harg18 _ zero2, deqUp_B]; rfl

set_option maxHeartbeats 1000000 in
/-- Case B: what is stored into `arg17` reads the running maximum of |h_ref|. -/
theorem out17_B (c : Dev nD) (i : grid0.Coords) (arg1 : Memref sig .tc .vmem S256x7168 .bf16) (harg1 : arg1.IsWhole) (arg2 : Memref sig .tc .vmem S7168x512 .bf16) (harg2 : arg2.IsWhole) (arg3 : Memref sig .tc .vmem S7168x512 .bf16) (harg3 : arg3.IsWhole) (arg4 : Memref sig .tc .vmem S3584x512 .i8) (harg4 : arg4.IsWhole) (arg5 : Memref sig .tc .vmem S3584x512 .i8) (harg5 : arg5.IsWhole) (arg6 : Memref sig .tc .vmem S56x512 .f32) (harg6 : arg6.IsWhole) (arg7 : Memref sig .tc .vmem S56x512 .i8) (harg7 : arg7.IsWhole) (arg8 : Memref sig .tc .vmem S56x512 .f32) (harg8 : arg8.IsWhole) (arg9 : Memref sig .tc .vmem S56x512 .i8) (harg9 : arg9.IsWhole) (arg10 : Memref sig .tc .vmem S256x7168 .i8) (harg10 : arg10.IsWhole) (arg11 : Memref sig .tc .vmem S256x1 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S256x7168 .bf16) (harg18 : arg18.IsWhole) (arg19 : Memref sig .tc .vmem S7168x512 .bf16) (harg19 : arg19.IsWhole) (hc0 : ¬cond0_0 i) (x0 : Vec F S256x7168 .bf16) (x1 : Vec F S7168x512 .bf16) (x2 : Vec F S7168x512 .bf16) (x3 : Vec F S3584x512 .i8) (x4 : Vec F S3584x512 .i8) (x5 : Vec F S56x512 .f32) (x6 : Vec F S56x512 .i8) (x7 : Vec F S56x512 .f32) (x8 : Vec F S56x512 .i8) (xo9 : Vec F S256x7168 .i8) (xo10 : Vec F S256x1 .f32) (xo15 : Vec F S256x128 .f32) (xo16 : Vec F S256x128 .f32) (xs0 : Vec F S256x7168 .bf16)
    (v : View sig .tc .vmem S256x128 .f32) (f : v.ty.Contents (Elt F)) :
    v.read (Elt F) (v.writes (Elt F) f (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 xo9 xo10 xo15 xo16 xs0).2.2.2.2.2.1) = outMR xo16 x0 x1 x2 := by
  refine read_store v f zero2 _ _ _ ?_ _
  rw [hv1528_B, readAt_whole harg1 _ zero2, readAt_whole harg3 _ zero2, readAt_whole harg17 _ zero2]; rfl

end Cert.GateUpIdeal.Gen

end
-- ==== Proof.GateUpFrame.lean ====
/- The gate/up call at every grid point: what its buffers hold, the body's obligation, the launch, and the frame. -/
module

public import proofs.«01_k».proof.Proof.GateUpOuts
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the point values, by their shapes -/

/-- The first grid point. -/
def t0 : Fin cfg0.N := ⟨0, by have : cfg0.N = 36 := N_0; omega⟩
/-- The tokens, one block for the whole grid. -/
def X0 (c : Dev nD) : Vec F S256x7168 .bf16 := iblk m c 0 t0
/-- The tokens' block does not move. -/
theorem iblk0_eq (c : Dev nD) (t : Fin cfg0.N) : iblk m c 0 t = X0 m c := rfl
/-- The tokens' scales. -/
def XS (c : Dev nD) : Vec F S256x1 .f32 := k0_pay7 (X0 m c)
/-- The tokens' codes. -/
def XC (c : Dev nD) : Vec F S256x7168 .i8 := k0_pay8 (X0 m c)
/-- The tokens' codes in bfloat16. -/
def XQ (c : Dev nD) : Vec F S256x7168 .bf16 := k0_pay9 (X0 m c)
/-- The point's dequantised gate weights. -/
def DG (c : Dev nD) (t : Fin cfg0.N) : Vec F S7168x512 .bf16 := deqAll (iblk m c 3 t) (iblk m c 5 t) (iblk m c 6 t)
/-- The point's dequantised up weights. -/
def DU (c : Dev nD) (t : Fin cfg0.N) : Vec F S7168x512 .bf16 := deqAll (iblk m c 4 t) (iblk m c 7 t) (iblk m c 8 t)
/-- The running maximum of `|h_full|` after point `n`. -/
def mfAt (c : Dev nD) : (n : ℕ) → n < cfg0.N → Vec F S256x128 .f32
  | 0, h => outMF k0_pay10 (XS m c) (XQ m c) (DG m c ⟨0, h⟩) (DU m c ⟨0, h⟩)
  | n + 1, h => outMF (mfAt c n (by omega)) (XS m c) (XQ m c) (DG m c ⟨n + 1, h⟩) (DU m c ⟨n + 1, h⟩)
/-- The running maximum of `|h_ref|` after point `n`. -/
def mrAt (c : Dev nD) : (n : ℕ) → n < cfg0.N → Vec F S256x128 .f32
  | 0, h => outMR k0_pay11 (X0 m c) (iblk m c 1 ⟨0, h⟩) (iblk m c 2 ⟨0, h⟩)
  | n + 1, h => outMR (mrAt c n (by omega)) (X0 m c) (iblk m c 1 ⟨n + 1, h⟩) (iblk m c 2 ⟨n + 1, h⟩)

/-- At the first point the lane maxima start from zero. -/
theorem mfAt_A (c : Dev nD) (t : Fin cfg0.N) (h : t.val = 0) : mfAt m c t.val t.isLt = outMF k0_pay10 (XS m c) (XQ m c) (DG m c t) (DU m c t) := by
  obtain ⟨n, hn⟩ := t; simp only at h; subst h; rfl
/-- At the first point the lane maxima start from zero. -/
theorem mrAt_A (c : Dev nD) (t : Fin cfg0.N) (h : t.val = 0) : mrAt m c t.val t.isLt = outMR k0_pay11 (X0 m c) (iblk m c 1 t) (iblk m c 2 t) := by
  obtain ⟨n, hn⟩ := t; simp only at h; subst h; rfl
/-- At a later point they are those of the point before, with the block's. -/
theorem mfAt_B (c : Dev nD) (t : Fin cfg0.N) (h : t.val ≠ 0) :
    mfAt m c t.val t.isLt = outMF (mfAt m c (t.val - 1) (Nat.lt_of_le_of_lt (Nat.sub_le _ _) t.isLt)) (XS m c) (XQ m c) (DG m c t) (DU m c t) := by
  obtain ⟨n, hn⟩ := t
  cases n with
  | zero => exact absurd rfl h
  | succ n => rfl
/-- At a later point they are those of the point before, with the block's. -/
theorem mrAt_B (c : Dev nD) (t : Fin cfg0.N) (h : t.val ≠ 0) :
    mrAt m c t.val t.isLt = outMR (mrAt m c (t.val - 1) (Nat.lt_of_le_of_lt (Nat.sub_le _ _) t.isLt)) (X0 m c) (iblk m c 1 t) (iblk m c 2 t) := by
  obtain ⟨n, hn⟩ := t
  cases n with
  | zero => exact absurd rfl h
  | succ n => rfl

/-! ## The invariant between points: from the first point on, the carried scratch holds the tokens' codes -/

/-- The invariant before grid point `n`: what the scratch buffers hold. -/
def PhiS (c : Dev nD) : (n : ℕ) → n ≤ cfg0.N → sProp 𝕄
  | 0, _ => Pipeline.ΦA spec0 c
  | n + 1, hn => iprop(iprop(owns (c : Thread nD τ) scM0_0 fullShare (XQ m c) ∗ (∃ d, owns (c : Thread nD τ) scM0_1 fullShare d)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl
/-- Before a later point they hold what the point before left. -/
theorem PhiS_pos (c : Dev nD) (n : ℕ) (h : n ≤ cfg0.N) (hz : n ≠ 0) :
    PhiS m c n h = iprop(iprop(owns (c : Thread nD τ) scM0_0 fullShare (XQ m c) ∗ (∃ d, owns (c : Thread nD τ) scM0_1 fullShare d)) ∗ (∃ r, prngReg c r)) := by
  cases n with
  | zero => exact absurd rfl hz
  | succ n => rfl

/-! ## The pipeline's proof data -/

/-- The arrays as the region finds them; after the body at a point, each input's buffer at its block and each output's at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => XC m c
    | ⟨10, _⟩ => XS m c
    | ⟨11, _⟩ => outHF (XS m c) (XQ m c) (DG m c t) (DU m c t)
    | ⟨12, _⟩ => outHR (X0 m c) (iblk m c 1 t) (iblk m c 2 t)
    | ⟨13, _⟩ => outHG (XS m c) (XQ m c) (DG m c t) (X0 m c) (iblk m c 2 t)
    | ⟨14, _⟩ => outHU (XS m c) (XQ m c) (DU m c t) (X0 m c) (iblk m c 1 t)
    | ⟨15, _⟩ => mfAt m c t.val t.isLt
    | ⟨16, _⟩ => mrAt m c t.val t.isLt
    | ⟨_ + 17, h⟩ => absurd h (Nat.not_lt.2 (Nat.le_add_left _ _))
  Φ t := PhiS m c t.val (Nat.le_of_lt_succ t.isLt)
  q _ := fullShare
  owed _ := 0

/-- The array behind a window at the start is the memory's. -/
theorem A_eq (c : Dev nD) (w : Fin cfg0.W) : (dats m 0 c).A w = V m c (Pipeline.arrRef spec0 w) := by
  dsimp only [dats]

/-- The invariant before a point, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a grid point. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = iblk m c 5 t := by dsimp only [dats]
/-- What window 6 holds after a grid point. -/
theorem after0_6 (c : Dev nD) (t : Fin cfg0.N) : (dats m 0 c).after 6 t = iblk m c 6 t := by dsimp only [dats]
/-- What window 7 holds after a grid point. -/
theorem after0_7 (c : Dev nD) (t : Fin cfg0.N) : (dats m 0 c).after 7 t = iblk m c 7 t := by dsimp only [dats]
/-- What window 8 holds after a grid point. -/
theorem after0_8 (c : Dev nD) (t : Fin cfg0.N) : (dats m 0 c).after 8 t = iblk m c 8 t := by dsimp only [dats]
/-- What window 9 holds after a grid point. -/
theorem after0_9 (c : Dev nD) (t : Fin cfg0.N) : (dats m 0 c).after 9 t = XC m c := by dsimp only [dats]
/-- What window 10 holds after a grid point. -/
theorem after0_10 (c : Dev nD) (t : Fin cfg0.N) : (dats m 0 c).after 10 t = XS m c := by dsimp only [dats]
/-- What window 11 holds after a grid point. -/
theorem after0_11 (c : Dev nD) (t : Fin cfg0.N) : (dats m 0 c).after 11 t = outHF (XS m c) (XQ m c) (DG m c t) (DU m c t) := by dsimp only [dats]
/-- What window 12 holds after a grid point. -/
theorem after0_12 (c : Dev nD) (t : Fin cfg0.N) : (dats m 0 c).after 12 t = outHR (X0 m c) (iblk m c 1 t) (iblk m c 2 t) := by dsimp only [dats]
/-- What window 13 holds after a grid point. -/
theorem after0_13 (c : Dev nD) (t : Fin cfg0.N) : (dats m 0 c).after 13 t = outHG (XS m c) (XQ m c) (DG m c t) (X0 m c) (iblk m c 2 t) := by dsimp only [dats]
/-- What window 14 holds after a grid point. -/
theorem after0_14 (c : Dev nD) (t : Fin cfg0.N) : (dats m 0 c).after 14 t = outHU (XS m c) (XQ m c) (DU m c t) (X0 m c) (iblk m c 1 t) := by dsimp only [dats]
/-- What window 15 holds after a grid point. -/
theorem after0_15 (c : Dev nD) (t : Fin cfg0.N) : (dats m 0 c).after 15 t = mfAt m c t.val t.isLt := by dsimp only [dats]
/-- What window 16 holds after a grid point. -/
theorem after0_16 (c : Dev nD) (t : Fin cfg0.N) : (dats m 0 c).after 16 t = mrAt m c t.val t.isLt := by dsimp only [dats]
/-- What window 0 holds before a grid point: its block. -/
theorem before0_0 (c : Dev nD) (t : Fin cfg0.N) (d) : (dats m 0 c).before 0 t d = iblk m c 0 t :=
  before0_0_of m (dats m 0 c) (A_eq m c 0) (after0_0 m c) t d
/-- What window 1 holds before a grid point: its block. -/
theorem before0_1 (c : Dev nD) (t : Fin cfg0.N) (d) : (dats m 0 c).before 1 t d = iblk m c 1 t :=
  before0_1_of m (dats m 0 c) (A_eq m c 1) (after0_1 m c) t d
/-- What window 2 holds before a grid point: its block. -/
theorem before0_2 (c : Dev nD) (t : Fin cfg0.N) (d) : (dats m 0 c).before 2 t d = iblk m c 2 t :=
  before0_2_of m (dats m 0 c) (A_eq m c 2) (after0_2 m c) t d
/-- What window 3 holds before a grid point: its block. -/
theorem before0_3 (c : Dev nD) (t : Fin cfg0.N) (d) : (dats m 0 c).before 3 t d = iblk m c 3 t :=
  before0_3_of m (dats m 0 c) (A_eq m c 3) (after0_3 m c) t d
/-- What window 4 holds before a grid point: its block. -/
theorem before0_4 (c : Dev nD) (t : Fin cfg0.N) (d) : (dats m 0 c).before 4 t d = iblk m c 4 t :=
  before0_4_of m (dats m 0 c) (A_eq m c 4) (after0_4 m c) t d
/-- What window 5 holds before a grid point: its block. -/
theorem before0_5 (c : Dev nD) (t : Fin cfg0.N) (d) : (dats m 0 c).before 5 t d = iblk m c 5 t :=
  before0_5_of m (dats m 0 c) (A_eq m c 5) (after0_5 m c) t d
/-- What window 6 holds before a grid point: its block. -/
theorem before0_6 (c : Dev nD) (t : Fin cfg0.N) (d) : (dats m 0 c).before 6 t d = iblk m c 6 t :=
  before0_6_of m (dats m 0 c) (A_eq m c 6) (after0_6 m c) t d
/-- What window 7 holds before a grid point: its block. -/
theorem before0_7 (c : Dev nD) (t : Fin cfg0.N) (d) : (dats m 0 c).before 7 t d = iblk m c 7 t :=
  before0_7_of m (dats m 0 c) (A_eq m c 7) (after0_7 m c) t d
/-- What window 8 holds before a grid point: its block. -/
theorem before0_8 (c : Dev nD) (t : Fin cfg0.N) (d) : (dats m 0 c).before 8 t d = iblk m c 8 t :=
  before0_8_of m (dats m 0 c) (A_eq m c 8) (after0_8 m c) t d

/-- After the first point, output 9's buffer holds what the first point stored. -/
theorem before0_9_B (c : Dev nD) (t : Fin cfg0.N) (hc : ¬cond0_0 (grid0.coords t)) (d) : (dats m 0 c).before 9 t d = XC m c := by
  rw [Dat.before_out_traj _ 9 rfl (fun _ _ => rfl) (fun t _ _ _ => by rw [after0_9, after0_9]) t.val t rfl d,
    if_neg (by rw [notFresh0_9_B t hc]; exact Bool.false_ne_true)]
  dsimp only [dats]
/-- So leaving it alone at such a point is what the pipeline asks. -/
theorem leaves0_9_B (c : Dev nD) (t : Fin cfg0.N) (hc : ¬cond0_0 (grid0.coords t)) (d : (cfg0.win 9).block.Idx → Elt F (cfg0.win 9).elt) :
    owns (c : Thread nD τ) (ms0_9 t) fullShare (XC m c) ⊢ (dats m 0 c).leavesExact 9 t := by
  cases hf : (cfg0.win 9).flush t
  · rw [Dat.leavesExact_idle _ 9 t (idleAt0_9_B t hc) hf]
    iintro H
    iexists d
    rw [before0_9_B m c t hc]
    iexact H
  · rw [show (dats m 0 c).leavesExact 9 t = owns (c : Thread nD τ) (ms0_9 t) fullShare ((dats m 0 c).after 9 t) from by
      unfold Dat.leavesExact; rw [idleAt0_9_B t hc, hf], after0_9]

/-- After the first point, output 10's buffer holds what the first point stored. -/
theorem before0_10_B (c : Dev nD) (t : Fin cfg0.N) (hc : ¬cond0_0 (grid0.coords t)) (d) : (dats m 0 c).before 10 t d = XS m c := by
  rw [Dat.before_out_traj _ 10 rfl (fun _ _ => rfl) (fun t _ _ _ => by rw [after0_10, after0_10]) t.val t rfl d,
    if_neg (by rw [notFresh0_10_B t hc]; exact Bool.false_ne_true)]
  dsimp only [dats]
/-- So leaving it alone at such a point is what the pipeline asks. -/
theorem leaves0_10_B (c : Dev nD) (t : Fin cfg0.N) (hc : ¬cond0_0 (grid0.coords t)) (d : (cfg0.win 10).block.Idx → Elt F (cfg0.win 10).elt) :
    owns (c : Thread nD τ) (ms0_10 t) fullShare (XS m c) ⊢ (dats m 0 c).leavesExact 10 t := by
  cases hf : (cfg0.win 10).flush t
  · rw [Dat.leavesExact_idle _ 10 t (idleAt0_10_B t hc) hf]
    iintro H
    iexists d
    rw [before0_10_B m c t hc]
    iexact H
  · rw [show (dats m 0 c).leavesExact 10 t = owns (c : Thread nD τ) (ms0_10 t) fullShare ((dats m 0 c).after 10 t) from by
      unfold Dat.leavesExact; rw [idleAt0_10_B t hc, hf], after0_10]

/-- After the first point, output 15's buffer holds the running maximum of the point before. -/
theorem before0_15_B (c : Dev nD) (t : Fin cfg0.N) (h0 : t.val ≠ 0) (d) :
    (dats m 0 c).before 15 t d = mfAt m c (t.val - 1) (Nat.lt_of_le_of_lt (Nat.sub_le _ _) t.isLt) := by
  have hN : t.val < 36 := lt_of_lt_of_eq t.isLt (show cfg0.N = 36 from N_0)
  rw [Dat.before_out_kept _ 15 rfl t (by omega) (Bool.eq_false_iff.mpr fun h => by have := (flush0_15 _).mp h; dsimp only at this; omega)
    (fun _ => rfl) (fun _ _ => rfl)]
  dsimp only [dats]

/-- After the first point, output 16's buffer holds the running maximum of the point before. -/
theorem before0_16_B (c : Dev nD) (t : Fin cfg0.N) (h0 : t.val ≠ 0) (d) :
    (dats m 0 c).before 16 t d = mrAt m c (t.val - 1) (Nat.lt_of_le_of_lt (Nat.sub_le _ _) t.isLt) := by
  have hN : t.val < 36 := lt_of_lt_of_eq t.isLt (show cfg0.N = 36 from N_0)
  rw [Dat.before_out_kept _ 16 rfl t (by omega) (Bool.eq_false_iff.mpr fun h => by have := (flush0_16 _).mp h; dsimp only at this; omega)
    (fun _ => rfl) (fun _ _ => rfl)]
  dsimp only [dats]
/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 12800000 in
/-- The body at any point: the inputs' buffers hold their blocks, and the run of the point's case leaves the stated values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [iblk0_eq m c t]
  by_cases h0 : t.val = 0
  · rw [show (dats m 0 c).leavesExact 9 t = owns (c : Thread nD τ) (ms0_9 t) fullShare ((dats m 0 c).after 9 t) from by
      unfold Dat.leavesExact; rw [liveAt0_9_A t ((hcond0_0 t).mpr h0)], after0_9]
    rw [show (dats m 0 c).leavesExact 10 t = owns (c : Thread nD τ) (ms0_10 t) fullShare ((dats m 0 c).after 10 t) from by
      unfold Dat.leavesExact; rw [liveAt0_10_A t ((hcond0_0 t).mpr h0)], after0_10]
    rw [PhiS_castSucc m c t, PhiS_zero m c _ _ h0, PhiA0_eq, mfAt_A m c t h0, mrAt_A m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (X0 m c) (iblk m c 1 t) (iblk m c 2 t) (iblk m c 3 t) (iblk m c 4 t) (iblk m c 5 t) (iblk m c 6 t) (iblk m c 7 t) (iblk m c 8 t)).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%es0, HS0⟩, ⟨%fT1, HS1⟩⟩
    isplitl [HS0 HS1 Hg]
    · isplitl [HS0 HS1]
      · isplitl [HS0]
        · unfold owns; iexists _; isplitr
          swap; · iexact HS0
          ipureintro; exact out18_A c _ _ _ _ _ _ _ _ _ _ _ _ _ _ _ _ _ _ _ _ _ _ _ _ _ _ _ _ _ _ _ _ _ _ _ _ _ _ _ _ _ _ _ _ _ _ _ _ _ _ _
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact out10_A c _ _ _ _ _ _ _ _ _ _ _ _ _ _ _ _ _ _ _ _ _ _ _ _ _ _ _ _ _ _ _ _ _ _ _ _ _ _ _ _ _ _ _ _ _ _ _ _ _ _ _
    isplitl [H10]
    · unfold owns; iexists _; isplitr
      swap; · iexact H10
      ipureintro; exact out11_A c _ _ _ _ _ _ _ _ _ _ _ _ _ _ _ _ _ _ _ _ _ _ _ _ _ _ _ _ _ _ _ _ _ _ _ _ _ _ _ _ _ _ _ _ _ _ _ _ _ _ _
    isplitl [H11]
    · unfold owns; iexists _; isplitr
      swap; · iexact H11
      ipureintro; exact out12_A c _ _ _ _ _ _ _ _ _ _ _ _ _ _ _ _ _ _ _ _ _ _ _ _ _ _ _ _ _ _ _ _ _ _ _ _ _ _ _ _ _ _ _ _ _ _ _ _ _ _ _
    isplitl [H12]
    · unfold owns; iexists _; isplitr
      swap; · iexact H12
      ipureintro; exact out13_A c _ _ _ _ _ _ _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact out14_A c _ _ _ _ _ _ _ _ _ _ _ _ _ _ _ _ _ _ _ _ _ _ _ _ _ _ _ _ _ _ _ _ _ _ _ _ _ _ _ _ _ _ _ _ _ _ _ _ _ _ _
    isplitl [H14]
    · unfold owns; iexists _; isplitr
      swap; · iexact H14
      ipureintro; exact out15_A c _ _ _ _ _ _ _ _ _ _ _ _ _ _ _ _ _ _ _ _ _ _ _ _ _ _ _ _ _ _ _ _ _ _ _ _ _ _ _ _ _ _ _ _ _ _ _ _ _ _ _
    isplitl [H15]
    · unfold owns; iexists _; isplitr
      swap; · iexact H15
      ipureintro; exact out16_A c _ _ _ _ _ _ _ _ _ _ _ _ _ _ _ _ _ _ _ _ _ _ _ _ _ _ _ _ _ _ _ _ _ _ _ _ _ _ _ _ _ _ _ _ _ _ _ _ _ _ _
    unfold owns; iexists _; isplitr
    swap; · iexact H16
    ipureintro; exact out17_A c _ _ _ _ _ _ _ _ _ _ _ _ _ _ _ _ _ _ _ _ _ _ _ _ _ _ _ _ _ _ _ _ _ _ _ _ _ _ _ _ _ _ _ _ _ _ _ _ _ _ _
  · rw [PhiS_castSucc m c t, PhiS_pos m c _ _ h0, mfAt_B m c t h0, mrAt_B m c t h0]
    simp only [before0_9_B m c t (fun h => h0 ((hcond0_0 t).mp h)), before0_10_B m c t (fun h => h0 ((hcond0_0 t).mp h)), before0_15_B m c t h0, before0_16_B m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (X0 m c) (iblk m c 1 t) (iblk m c 2 t) (iblk m c 3 t) (iblk m c 4 t) (iblk m c 5 t) (iblk m c 6 t) (iblk m c 7 t) (iblk m c 8 t) _ _ _ _ _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [HS0]; · iexact HS0
    isplitl [HS1]; · iexact HS1
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, HS0, ⟨%fT1, HS1⟩⟩
    isplitl [HS0 HS1 Hg]
    · isplitl [HS0 HS1]
      · isplitl [HS0]
        · iexact HS0
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9_B m c t (fun h => h0 ((hcond0_0 t).mp h)) d9) $$ H9
    isplitl [H10]; · iapply (leaves0_10_B m c t (fun h => h0 ((hcond0_0 t).mp h)) d10) $$ H10
    isplitl [H11]
    · unfold owns; iexists _; isplitr
      swap; · iexact H11
      ipureintro; exact out12_B c _ _ _ _ _ _ _ _ _ _ _ _ _ _ _ _ _ _ _ _ _ _ _ _ _ _ _ _ _ _ _ _ _ _ _ _ _ _ _ _ _ _ _ _ _ _ _ _ _ _ _ _ _ _ _ _
    isplitl [H12]
    · unfold owns; iexists _; isplitr
      swap; · iexact H12
      ipureintro; exact out13_B c _ _ _ _ _ _ _ _ _ _ _ _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact out14_B c _ _ _ _ _ _ _ _ _ _ _ _ _ _ _ _ _ _ _ _ _ _ _ _ _ _ _ _ _ _ _ _ _ _ _ _ _ _ _ _ _ _ _ _ _ _ _ _ _ _ _ _ _ _ _ _
    isplitl [H14]
    · unfold owns; iexists _; isplitr
      swap; · iexact H14
      ipureintro; exact out15_B c _ _ _ _ _ _ _ _ _ _ _ _ _ _ _ _ _ _ _ _ _ _ _ _ _ _ _ _ _ _ _ _ _ _ _ _ _ _ _ _ _ _ _ _ _ _ _ _ _ _ _ _ _ _ _ _
    isplitl [H15]
    · unfold owns; iexists _; isplitr
      swap; · iexact H15
      ipureintro; exact out16_B c _ _ _ _ _ _ _ _ _ _ _ _ _ _ _ _ _ _ _ _ _ _ _ _ _ _ _ _ _ _ _ _ _ _ _ _ _ _ _ _ _ _ _ _ _ _ _ _ _ _ _ _ _ _ _ _
    unfold owns; iexists _; isplitr
    swap; · iexact H16
    ipureintro; exact out17_B c _ _ _ _ _ _ _ _ _ _ _ _ _ _ _ _ _ _ _ _ _ _ _ _ _ _ _ _ _ _ _ _ _ _ _ _ _ _ _ _ _ _ _ _ _ _ _ _ _ _ _ _ _ _ _ _
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- Every argument array ends unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.GateUpIdeal.Gen

end
-- ==== Proof.GateUpBits.lean ====
/- The frame of the printed GateUp call. The printed call and the idealized one are the same text, so the frame proved of the latter at any
floats is the former's. -/
module

public import proofs.«01_k».proof.Defs
public import proofs.«01_k».proof.Proof.Gen.GateUp
public import proofs.«01_k».proof.Proof.GateUpFrame
public import Idealize.ShloMosaic.Lib.Tactic

@[expose] public section

noncomputable section

namespace Cert.GateUp

open Idealize.ShloMosaic Idealize.SL.Sem

/-- The frame of the printed call, at any floats. -/
def framed {F : FTy → Type} [FloatOps F] [hGateUp : Cert.GateUp.Facts] : Prop :=
  ∀ (m : (ℓ : Loc Cert.GateUp.nD Cert.GateUp.τ Cert.GateUp.sig) → Buf (Elt F) ℓ) (g : Dev Cert.GateUp.nD → PrngReg),
    θ_run (Cert.GateUp.defs (F := F)) (onTc (τ := Cert.GateUp.τ) (Cert.GateUp.main (F := F))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7)
      ∧ r.2.mem ((c.tc : Thread Cert.GateUp.nD Cert.GateUp.τ).loc Cert.GateUp.main_arg8) = m ((c.tc : Thread Cert.GateUp.nD Cert.GateUp.τ).loc Cert.GateUp.main_arg8))
      ∧ r.2.sem = fun _ => 0)

/-- The frame of the idealized call, at any floats. -/
def framedIdeal {F : FTy → Type} [FloatOps F] [hGateUpIdeal : Cert.GateUpIdeal.Facts] : Prop :=
  ∀ (m : (ℓ : Loc Cert.GateUpIdeal.nD Cert.GateUpIdeal.τ Cert.GateUpIdeal.sig) → Buf (Elt F) ℓ) (g : Dev Cert.GateUpIdeal.nD → PrngReg),
    θ_run (Cert.GateUpIdeal.defs (F := F)) (onTc (τ := Cert.GateUpIdeal.τ) (Cert.GateUpIdeal.main (F := F))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7)
      ∧ r.2.mem ((c.tc : Thread Cert.GateUpIdeal.nD Cert.GateUpIdeal.τ).loc Cert.GateUpIdeal.main_arg8) = m ((c.tc : Thread Cert.GateUpIdeal.nD Cert.GateUpIdeal.τ).loc Cert.GateUpIdeal.main_arg8))
      ∧ r.2.sem = fun _ => 0)

/-- The two are one statement. -/
theorem framed_eq {F : FTy → Type} [FloatOps F] [hGateUp : Cert.GateUp.Facts] [hGateUpIdeal : Cert.GateUpIdeal.Facts] :
    framed (F := F) = framedIdeal (F := F) := by
  sl_kernel_rfl

/-- Every argument array of the printed call ends unchanged and every semaphore counter ends at zero. -/
theorem quiescent : Cert.quiescent_GateUp (hGateUp := Cert.GateUp.Gen.facts) := fun m g _ => by
  have h : framedIdeal (F := Bits) (hGateUpIdeal := Cert.GateUpIdeal.Gen.facts) := fun m ρ => Cert.GateUpIdeal.Gen.frame m ρ
  rw [← framed_eq (hGateUp := Cert.GateUp.Gen.facts)] at h
  exact h m g

end Cert.GateUp

end
-- ==== Proof.GateUpSpec.lean ====
/- What the gate/up call computes, at an element, over the extended reals: no program is named. -/
module

public import Idealize.ShloMosaic.PureOps.Ideal
public import Idealize.ShloMosaic.Lib.Pointwise

@[expose] public section

set_option maxRecDepth 16384

noncomputable section

namespace Cert.GateUpSpec

open Idealize.ShloMosaic Idealize.ShloMosaic.TcCoe Idealize.ShloMosaic.Tactic

/-! ## Arrays by their shapes -/

/-- A shape of an argument or a result. -/
abbrev AX : Shape := ⟨2, ![256, 7168]⟩
/-- A shape of an argument or a result. -/
abbrev AS : Shape := ⟨2, ![256, 1]⟩
/-- A shape of an argument or a result. -/
abbrev AW : Shape := ⟨2, ![7168, 18432]⟩
/-- A shape of an argument or a result. -/
abbrev AQ : Shape := ⟨2, ![3584, 18432]⟩
/-- A shape of an argument or a result. -/
abbrev AZ : Shape := ⟨2, ![56, 18432]⟩

/-! ## The stated values at an element -/

/-- The low nibble of packed row `p`, column `j`, less its group's zero point, times its group's scale: an even weight row. -/
def lo (q : Vec Ideal AQ .i8) (z : Vec Ideal AZ .i8) (s : Vec Ideal AZ .f32) (p : Fin 3584) (j : Fin 18432) : EReal :=
  ((FloatOps.sitofp (F := Ideal) FTy.f32 (IntOp.andi (BitVec.setWidth 32 (q (ix2 p j))) 15#32) : EReal) -
    FloatOps.sitofp (F := Ideal) FTy.f32 (BitVec.setWidth 32 (z (ix2 ⟨p.val / 64, by omega⟩ j)))) * s (ix2 ⟨p.val / 64, by omega⟩ j)
/-- The same of the high nibble: an odd weight row. -/
def hi (q : Vec Ideal AQ .i8) (z : Vec Ideal AZ .i8) (s : Vec Ideal AZ .f32) (p : Fin 3584) (j : Fin 18432) : EReal :=
  ((FloatOps.sitofp (F := Ideal) FTy.f32 (IntOp.shrsi ArithUnit.vector (BitVec.setWidth 32 (q (ix2 p j))) 4#32) : EReal) -
    FloatOps.sitofp (F := Ideal) FTy.f32 (BitVec.setWidth 32 (z (ix2 ⟨p.val / 64, by omega⟩ j)))) * s (ix2 ⟨p.val / 64, by omega⟩ j)
/-- The token's codes times the dequantised weights: even codes by low nibbles, odd codes by high ones. -/
def qdot (c : Vec Ideal AX .i8) (q : Vec Ideal AQ .i8) (z : Vec Ideal AZ .i8) (s : Vec Ideal AZ .f32) (i : Fin 256) (j : Fin 18432) : EReal :=
  (∑ p : Fin 3584, (FloatOps.sitofp (F := Ideal) FTy.bf16 (c (ix2 i ⟨p.val * 2, by omega⟩)) : EReal) * lo q z s p j) +
    ∑ p : Fin 3584, (FloatOps.sitofp (F := Ideal) FTy.bf16 (c (ix2 i ⟨p.val * 2 + 1, by omega⟩)) : EReal) * hi q z s p j
/-- The token times the unquantised weights. -/
def rdot (x : Vec Ideal AX .bf16) (w : Vec Ideal AW .bf16) (i : Fin 256) (j : Fin 18432) : EReal :=
  ∑ k : Fin 7168, (x (ix2 i k) : EReal) * w (ix2 k j)
/-- The activation. -/
def silu (a : EReal) : EReal := a * Ideal.logistic a
/-- The quantised projection: codes by weights, by the token's scale. -/
def qproj (c : Vec Ideal AX .i8) (xs : Vec Ideal AS .f32) (q : Vec Ideal AQ .i8) (z : Vec Ideal AZ .i8) (s : Vec Ideal AZ .f32) (i : Fin 256) (j : Fin 18432) : EReal :=
  qdot c q z s i j * xs (ix2 i 0)
/-- The absolute value over the reals is never negative. -/
theorem abs_nonneg (x : EReal) : (0 : EReal) ≤ FloatOps.absf (F := Ideal) (φ := .f32) x := by
  show (0 : EReal) ≤ max x (-x)
  rcases le_total (0 : EReal) x with h | h
  · exact le_max_of_le_left h
  · exact le_max_of_le_right (by simpa using EReal.neg_le_neg_iff.mpr h)
/-- A sum over the 7168 rows is the sum over even rows and the sum over odd rows. -/
theorem sum_pairs (f : Fin 7168 → EReal) :
    ∑ k, f k = (∑ p : Fin 3584, f ⟨p.val * 2, by omega⟩) + ∑ p : Fin 3584, f ⟨p.val * 2 + 1, by omega⟩ := by
  rw [← Finset.sum_add_distrib, ← (finProdFinEquiv (m := 3584) (n := 2)).sum_comp f, Fintype.sum_prod_type]
  refine Finset.sum_congr rfl fun p _ => ?_
  rw [Fin.sum_univ_two]
  congr 2 <;> apply Fin.ext <;> simp [finProdFinEquiv] <;> omega
/-- The largest magnitude over the 144 columns of one lane. -/
def lanes (h : Fin 18432 → EReal) (l : Fin 128) : EReal :=
  Finset.fold max (Ideal.ofBits FTy.f32 4286578688#32) (fun x : Fin 144 => FloatOps.absf (F := Ideal) (φ := .f32) (h ⟨x.val * 128 + l.val, by omega⟩)) Finset.univ
/-- That maximum's starting value is the least value. -/
theorem neg_inf : (Ideal.ofBits FTy.f32 4286578688#32 : EReal) = ⊥ := by
  simp [Ideal.ofBits, Ideal.ieee]
/-- What bounds that maximum: a bound of every column of the lane. -/
theorem lanes_le (h : Fin 18432 → EReal) (l : Fin 128) (b : EReal) :
    lanes h l ≤ b ↔ ∀ j : Fin 18432, j.val % 128 = l.val → FloatOps.absf (F := Ideal) (φ := .f32) (h j) ≤ b := by
  unfold lanes
  rw [Finset.fold_max_le, neg_inf]
  constructor
  · rintro ⟨_, H⟩ j hj
    have := H ⟨j.val / 128, by omega⟩ (Finset.mem_univ _)
    have e : (⟨(j.val / 128) * 128 + l.val, by omega⟩ : Fin 18432) = j := Fin.ext (by show j.val / 128 * 128 + l.val = j.val; omega)
    simpa only [e] using this
  · intro H
    exact ⟨bot_le, fun x _ => H _ (by show (x.val * 128 + l.val) % 128 = l.val; omega)⟩

/-- `h_full` at an element. -/
def hf (C : Vec Ideal AX .i8) (xs : Vec Ideal AS .f32) (qg : Vec Ideal AQ .i8) (zg : Vec Ideal AZ .i8) (sg : Vec Ideal AZ .f32)
    (qu : Vec Ideal AQ .i8) (zu : Vec Ideal AZ .i8) (su : Vec Ideal AZ .f32) (i : Fin 256) (j : Fin 18432) : EReal :=
  silu (qproj C xs qg zg sg i j) * qproj C xs qu zu su i j
/-- `h_ref` at an element. -/
def hr (x : Vec Ideal AX .bf16) (wg wu : Vec Ideal AW .bf16) (i : Fin 256) (j : Fin 18432) : EReal := silu (rdot x wg i j) * rdot x wu i j
/-- The quantised gate by the reference up projection, at an element. -/
def hg (C : Vec Ideal AX .i8) (xs : Vec Ideal AS .f32) (qg : Vec Ideal AQ .i8) (zg : Vec Ideal AZ .i8) (sg : Vec Ideal AZ .f32)
    (x : Vec Ideal AX .bf16) (wu : Vec Ideal AW .bf16) (i : Fin 256) (j : Fin 18432) : EReal := silu (qproj C xs qg zg sg i j) * rdot x wu i j
/-- The reference gate by the quantised up projection, at an element. -/
def hu (x : Vec Ideal AX .bf16) (wg : Vec Ideal AW .bf16) (C : Vec Ideal AX .i8) (xs : Vec Ideal AS .f32) (qu : Vec Ideal AQ .i8)
    (zu : Vec Ideal AZ .i8) (su : Vec Ideal AZ .f32) (i : Fin 256) (j : Fin 18432) : EReal := silu (rdot x wg i j) * qproj C xs qu zu su i j

end Cert.GateUpSpec

end
-- ==== Proof.GateUpPoint.lean ====
/- The gate/up body at an element: what it stores is the stated value of the column of the arrays. -/
module

public import proofs.«01_k».proof.Proof.GateUpFrame
public import proofs.«01_k».proof.Proof.GateUpSpec
public import Idealize.ShloMosaic.Lib.Pointwise

@[expose] public section

set_option maxRecDepth 16384

noncomputable section

namespace Cert.GateUpIdeal.Gen

open Idealize.ShloMosaic Idealize.ShloMosaic.TcCoe Idealize.ShloMosaic.Tactic
open Cert.GateUpSpec

/-! ## The body's values at an element, its blocks being columns of the arrays

    In each statement column `c` of the blocks is column `j` of the arrays. -/

variable {c : Fin 512} {j : Fin 18432}
  {qg : Vec Ideal S3584x512 .i8} {sg : Vec Ideal S56x512 .f32} {zg : Vec Ideal S56x512 .i8}
  {Qg : Vec Ideal AQ .i8} {Sg : Vec Ideal AZ .f32} {Zg : Vec Ideal AZ .i8}
  {qu : Vec Ideal S3584x512 .i8} {su : Vec Ideal S56x512 .f32} {zu : Vec Ideal S56x512 .i8}
  {Qu : Vec Ideal AQ .i8} {Su : Vec Ideal AZ .f32} {Zu : Vec Ideal AZ .i8}
  {wg wu : Vec Ideal S7168x512 .bf16} {Wg Wu : Vec Ideal AW .bf16}
  (x : Vec Ideal S256x7168 .bf16) (i : Fin 256)

/-- An even row of the dequantised weights is the low nibble's. -/
theorem deqAll_even (hqg : ∀ p, qg (ix2 p c) = Qg (ix2 p j)) (hsg : ∀ p, sg (ix2 p c) = Sg (ix2 p j)) (hzg : ∀ p, zg (ix2 p c) = Zg (ix2 p j)) (p : Fin 3584) :
    deqAll qg sg zg (ix2 ⟨p.val * 2, by omega⟩ c) = lo Qg Zg Sg p j := by
  unfold deqAll lo
  pointwise [k0_pay13]
  have e1 : (⟨64 * (p.val * 2 / 128) + p.val * 2 % 128 / 2, by omega⟩ : Fin 3584) = p := Fin.ext (by show 64 * (p.val * 2 / 128) + p.val * 2 % 128 / 2 = p.val; omega)
  have e2 : (⟨p.val * 2 / 128, by omega⟩ : Fin 56) = ⟨p.val / 64, by omega⟩ := Fin.ext (by show p.val * 2 / 128 = p.val / 64; omega)
  rw [dif_pos (show p.val * 2 % 128 % 2 < 1 by omega)]
  simp only [e1, e2, hqg, hzg, hsg]

/-- An odd row is the high nibble's. -/
theorem deqAll_odd (hqg : ∀ p, qg (ix2 p c) = Qg (ix2 p j)) (hsg : ∀ p, sg (ix2 p c) = Sg (ix2 p j)) (hzg : ∀ p, zg (ix2 p c) = Zg (ix2 p j)) (p : Fin 3584) :
    deqAll qg sg zg (ix2 ⟨p.val * 2 + 1, by omega⟩ c) = hi Qg Zg Sg p j := by
  unfold deqAll hi
  pointwise [k0_pay13]
  have e1 : (⟨64 * ((p.val * 2 + 1) / 128) + (p.val * 2 + 1) % 128 / 2, by omega⟩ : Fin 3584) = p :=
    Fin.ext (by show 64 * ((p.val * 2 + 1) / 128) + (p.val * 2 + 1) % 128 / 2 = p.val; omega)
  have e2 : (⟨(p.val * 2 + 1) / 128, by omega⟩ : Fin 56) = ⟨p.val / 64, by omega⟩ := Fin.ext (by show (p.val * 2 + 1) / 128 = p.val / 64; omega)
  rw [dif_neg (show ¬(p.val * 2 + 1) % 128 % 2 < 1 by omega)]
  simp only [e1, e2, hqg, hzg, hsg]

/-- The codes in bfloat16 are the codes. -/
theorem XQ_at (k : Fin 7168) : k0_pay9 x (ix2 i k) = FloatOps.sitofp (F := Ideal) FTy.bf16 (k0_pay8 x (ix2 i k)) := by
  pointwise [k0_pay9]

/-- The quantised product over all rows is the two half products. -/
theorem dot_deq (hqg : ∀ p, qg (ix2 p c) = Qg (ix2 p j)) (hsg : ∀ p, sg (ix2 p c) = Sg (ix2 p j)) (hzg : ∀ p, zg (ix2 p c) = Zg (ix2 p j)) :
    (∑ k : Fin 7168, (k0_pay9 x (ix2 i k) : EReal) * deqAll qg sg zg (ix2 k c)) = qdot (k0_pay8 x) Qg Zg Sg i j := by
  rw [sum_pairs]
  unfold qdot
  refine congrArg₂ (· + ·) (Finset.sum_congr rfl fun p _ => ?_) (Finset.sum_congr rfl fun p _ => ?_)
  · rw [deqAll_even hqg hsg hzg, XQ_at]
  · rw [deqAll_odd hqg hsg hzg, XQ_at]

/-- `h_full`. -/
theorem outHF_at (hqg : ∀ p, qg (ix2 p c) = Qg (ix2 p j)) (hsg : ∀ p, sg (ix2 p c) = Sg (ix2 p j)) (hzg : ∀ p, zg (ix2 p c) = Zg (ix2 p j)) (hqu : ∀ p, qu (ix2 p c) = Qu (ix2 p j)) (hsu : ∀ p, su (ix2 p c) = Su (ix2 p j)) (hzu : ∀ p, zu (ix2 p c) = Zu (ix2 p j)) :
    outHF (k0_pay7 x) (k0_pay9 x) (deqAll qg sg zg) (deqAll qu su zu) (ix2 i c) = hf (k0_pay8 x) (k0_pay7 x) Qg Zg Sg Qu Zu Su i j := by
  pointwise [outHF, gAct, k0_pay128, k0_pay247, k0_pay248, k0_pay12]
  rw [dot_deq x i hqg hsg hzg, dot_deq x i hqu hsu hzu]
  rfl
/-- The quantised gate by the reference up projection. -/
theorem outHG_at (hqg : ∀ p, qg (ix2 p c) = Qg (ix2 p j)) (hsg : ∀ p, sg (ix2 p c) = Sg (ix2 p j)) (hzg : ∀ p, zg (ix2 p c) = Zg (ix2 p j)) (hwu : ∀ k, wu (ix2 k c) = Wu (ix2 k j)) :
    outHG (k0_pay7 x) (k0_pay9 x) (deqAll qg sg zg) x wu (ix2 i c) = hg (k0_pay8 x) (k0_pay7 x) Qg Zg Sg x Wu i j := by
  pointwise [outHG, gAct, k0_pay128, k0_pay4, k0_pay2, k0_pay12]
  rw [dot_deq x i hqg hsg hzg]
  simp only [hwu]
  rfl
/-- The reference gate by the quantised up projection. -/
theorem outHU_at (hwg : ∀ k, wg (ix2 k c) = Wg (ix2 k j)) (hqu : ∀ p, qu (ix2 p c) = Qu (ix2 p j)) (hsu : ∀ p, su (ix2 p c) = Su (ix2 p j)) (hzu : ∀ p, zu (ix2 p c) = Zu (ix2 p j)) :
    outHU (k0_pay7 x) (k0_pay9 x) (deqAll qu su zu) x wg (ix2 i c) = hu x Wg (k0_pay8 x) (k0_pay7 x) Qu Zu Su i j := by
  pointwise [outHU, gRef, k0_pay131, k0_pay129, k0_pay130, k0_pay247, k0_pay249, k0_pay12]
  rw [dot_deq x i hqu hsu hzu]
  simp only [hwg]
  rfl
/-- `h_ref`. -/
theorem outHR_at (hwg : ∀ k, wg (ix2 k c) = Wg (ix2 k j)) (hwu : ∀ k, wu (ix2 k c) = Wu (ix2 k j)) :
    outHR x wg wu (ix2 i c) = hr x Wg Wu i j := by
  pointwise [outHR, gRef, k0_pay3, k0_pay2, k0_pay131, k0_pay129, k0_pay130]
  simp only [hwg, hwu]
  rfl

/-- The running maximum of `|h_full|` takes in the four columns of its lane. -/
theorem outMF_at (old : Vec Ideal S256x128 .f32) (xs : Vec Ideal S256x1 .f32) (q : Vec Ideal S256x7168 .bf16) (dg du : Vec Ideal S7168x512 .bf16) (l : Fin 128) :
    outMF old xs q dg du (ix2 i l) = max (old (ix2 i l)) (max (max (max
      (FloatOps.absf (F := Ideal) (φ := .f32) (outHF xs q dg du (ix2 i ⟨l.val, by omega⟩)))
      (FloatOps.absf (F := Ideal) (φ := .f32) (outHF xs q dg du (ix2 i ⟨128 + l.val, by omega⟩))))
      (FloatOps.absf (F := Ideal) (φ := .f32) (outHF xs q dg du (ix2 i ⟨256 + l.val, by omega⟩))))
      (FloatOps.absf (F := Ideal) (φ := .f32) (outHF xs q dg du (ix2 i ⟨384 + l.val, by omega⟩)))) := by
  pointwise [outMF, outHF, k0_pay1, k0_pay250, k0_pay251, k0_pay252, k0_pay248]
/-- The running maximum of `|h_ref|` likewise. -/
theorem outMR_at (old : Vec Ideal S256x128 .f32) (dg du : Vec Ideal S7168x512 .bf16) (l : Fin 128) :
    outMR old x dg du (ix2 i l) = max (old (ix2 i l)) (max (max (max
      (FloatOps.absf (F := Ideal) (φ := .f32) (outHR x dg du (ix2 i ⟨l.val, by omega⟩)))
      (FloatOps.absf (F := Ideal) (φ := .f32) (outHR x dg du (ix2 i ⟨128 + l.val, by omega⟩))))
      (FloatOps.absf (F := Ideal) (φ := .f32) (outHR x dg du (ix2 i ⟨256 + l.val, by omega⟩))))
      (FloatOps.absf (F := Ideal) (φ := .f32) (outHR x dg du (ix2 i ⟨384 + l.val, by omega⟩)))) := by
  pointwise [outMR, outHR, k0_pay5, k0_pay3]

end Cert.GateUpIdeal.Gen

end
-- ==== Proof.GateUpBlocks.lean ====
/- The blocks a grid point of the gate/up call sees, as columns of the arguments. -/
module

public import proofs.«01_k».proof.Proof.GateUpPoint
public import Idealize.ShloMosaic.Lib.Pipeline.ValueKit

@[expose] public section

set_option maxRecDepth 16384

noncomputable section

namespace Cert.GateUpIdeal.Gen

open Idealize.ShloMosaic Idealize.ShloMosaic.TcCoe Idealize.ShloMosaic.Tactic
open Cert.GateUpSpec

variable (m : (ℓ : Loc nD τ sig) → Buf (Elt Ideal) ℓ) (ρ : Dev nD → PrngReg)

/-! ## The arguments, and the blocks as their columns -/

/-- Argument 0, by its shape. -/
def B0 (c : Dev nD) : Vec Ideal AX .bf16 := m ((c.tc : Thread nD τ).loc main_arg0)
/-- Argument 1, by its shape. -/
def B1 (c : Dev nD) : Vec Ideal AW .bf16 := m ((c.tc : Thread nD τ).loc main_arg1)
/-- Argument 2, by its shape. -/
def B2 (c : Dev nD) : Vec Ideal AW .bf16 := m ((c.tc : Thread nD τ).loc main_arg2)
/-- Argument 3, by its shape. -/
def B3 (c : Dev nD) : Vec Ideal AQ .i8 := m ((c.tc : Thread nD τ).loc main_arg3)
/-- Argument 4, by its shape. -/
def B4 (c : Dev nD) : Vec Ideal AQ .i8 := m ((c.tc : Thread nD τ).loc main_arg4)
/-- Argument 5, by its shape. -/
def B5 (c : Dev nD) : Vec Ideal AZ .f32 := m ((c.tc : Thread nD τ).loc main_arg5)
/-- Argument 6, by its shape. -/
def B6 (c : Dev nD) : Vec Ideal AZ .i8 := m ((c.tc : Thread nD τ).loc main_arg6)
/-- Argument 7, by its shape. -/
def B7 (c : Dev nD) : Vec Ideal AZ .f32 := m ((c.tc : Thread nD τ).loc main_arg7)
/-- Argument 8, by its shape. -/
def B8 (c : Dev nD) : Vec Ideal AZ .i8 := m ((c.tc : Thread nD τ).loc main_arg8)

/-- The first window's block is the whole array; window `w`'s block at point `t` is the array's columns from `512 t`. -/
theorem idx_at : ∀ t : Fin cfg0.N, win0_0.index t = ![0, 0] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ win0_11.index t = ![0, t.val] ∧ win0_12.index t = ![0, t.val] ∧ win0_13.index t = ![0, t.val] ∧ win0_14.index t = ![0, t.val] :=
  (by decide +kernel : ∀ t : Fin grid0.N, win0_0.index t = ![0, 0] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ win0_11.index t = ![0, t.val] ∧ win0_12.index t = ![0, t.val] ∧ win0_13.index t = ![0, t.val] ∧ win0_14.index t = ![0, t.val])
/-- Column `x` of point `t`'s blocks, in the arrays. -/
def col (t : Fin cfg0.N) (x : Fin 512) : Fin 18432 := ⟨t.val * 512 + x.val, by have := t.isLt; have h : cfg0.N = 36 := N_0; omega⟩
/-- The token block is the argument. -/
theorem X0_eq (c : Dev nD) : X0 m c = B0 m c := by
  funext y
  idx_vars y
  unfold X0 B0
  blk_ext [iblk, V, idx_at t0]
/-- The block of argument 1 at a grid point is a part of the argument. -/
theorem iblk1_at (c : Dev nD) (t : Fin cfg0.N) (x : Fin 512) (p : Fin 7168) : iblk m c 1 t (ix2 p x) = B1 m c (ix2 p (col t x)) := by
  unfold B1 col
  blk_ext [iblk, V, idx_at t]
/-- The block of argument 2 at a grid point is a part of the argument. -/
theorem iblk2_at (c : Dev nD) (t : Fin cfg0.N) (x : Fin 512) (p : Fin 7168) : iblk m c 2 t (ix2 p x) = B2 m c (ix2 p (col t x)) := by
  unfold B2 col
  blk_ext [iblk, V, idx_at t]
/-- The block of argument 3 at a grid point is a part of the argument. -/
theorem iblk3_at (c : Dev nD) (t : Fin cfg0.N) (x : Fin 512) (p : Fin 3584) : iblk m c 3 t (ix2 p x) = B3 m c (ix2 p (col t x)) := by
  unfold B3 col
  blk_ext [iblk, V, idx_at t]
/-- The block of argument 4 at a grid point is a part of the argument. -/
theorem iblk4_at (c : Dev nD) (t : Fin cfg0.N) (x : Fin 512) (p : Fin 3584) : iblk m c 4 t (ix2 p x) = B4 m c (ix2 p (col t x)) := by
  unfold B4 col
  blk_ext [iblk, V, idx_at t]
/-- The block of argument 5 at a grid point is a part of the argument. -/
theorem iblk5_at (c : Dev nD) (t : Fin cfg0.N) (x : Fin 512) (p : Fin 56) : iblk m c 5 t (ix2 p x) = B5 m c (ix2 p (col t x)) := by
  unfold B5 col
  blk_ext [iblk, V, idx_at t]
/-- The block of argument 6 at a grid point is a part of the argument. -/
theorem iblk6_at (c : Dev nD) (t : Fin cfg0.N) (x : Fin 512) (p : Fin 56) : iblk m c 6 t (ix2 p x) = B6 m c (ix2 p (col t x)) := by
  unfold B6 col
  blk_ext [iblk, V, idx_at t]
/-- The block of argument 7 at a grid point is a part of the argument. -/
theorem iblk7_at (c : Dev nD) (t : Fin cfg0.N) (x : Fin 512) (p : Fin 56) : iblk m c 7 t (ix2 p x) = B7 m c (ix2 p (col t x)) := by
  unfold B7 col
  blk_ext [iblk, V, idx_at t]
/-- The block of argument 8 at a grid point is a part of the argument. -/
theorem iblk8_at (c : Dev nD) (t : Fin cfg0.N) (x : Fin 512) (p : Fin 56) : iblk m c 8 t (ix2 p x) = B8 m c (ix2 p (col t x)) := by
  unfold B8 col
  blk_ext [iblk, V, idx_at t]

end Cert.GateUpIdeal.Gen

end
-- ==== Proof.GateUpCols.lean ====
/- What a grid point of the gate/up call leaves, and the running maxima, as stated values of the arguments. -/
module

public import proofs.«01_k».proof.Proof.GateUpBlocks

@[expose] public section

set_option maxRecDepth 16384

noncomputable section

namespace Cert.GateUpIdeal.Gen

open Idealize.ShloMosaic Idealize.ShloMosaic.TcCoe Idealize.ShloMosaic.Tactic
open Cert.GateUpSpec

variable (m : (ℓ : Loc nD τ sig) → Buf (Elt Ideal) ℓ) (ρ : Dev nD → PrngReg)

/-! ## What a point leaves, as columns of whole arrays -/

/-- What output 11 holds after a grid point, at an element. -/
theorem after11_at (c : Dev nD) (t : Fin cfg0.N) (i : Fin 256) (x : Fin 512) :
    outHF (XS m c) (XQ m c) (DG m c t) (DU m c t) (ix2 i x) = hf (k0_pay8 (B0 m c)) (k0_pay7 (B0 m c)) (B3 m c) (B6 m c) (B5 m c) (B4 m c) (B8 m c) (B7 m c) i (col t x) := by
  unfold XS XQ DG DU
  rw [X0_eq]
  exact outHF_at _ i (iblk3_at m c t x) (iblk5_at m c t x) (iblk6_at m c t x) (iblk4_at m c t x) (iblk7_at m c t x) (iblk8_at m c t x)
/-- What output 12 holds after a grid point, at an element. -/
theorem after12_at (c : Dev nD) (t : Fin cfg0.N) (i : Fin 256) (x : Fin 512) :
    outHR (X0 m c) (iblk m c 1 t) (iblk m c 2 t) (ix2 i x) = hr (B0 m c) (B1 m c) (B2 m c) i (col t x) := by
  rw [X0_eq]
  exact outHR_at _ i (iblk1_at m c t x) (iblk2_at m c t x)
/-- What output 13 holds after a grid point, at an element. -/
theorem after13_at (c : Dev nD) (t : Fin cfg0.N) (i : Fin 256) (x : Fin 512) :
    outHG (XS m c) (XQ m c) (DG m c t) (X0 m c) (iblk m c 2 t) (ix2 i x) = hg (k0_pay8 (B0 m c)) (k0_pay7 (B0 m c)) (B3 m c) (B6 m c) (B5 m c) (B0 m c) (B2 m c) i (col t x) := by
  unfold XS XQ DG
  rw [X0_eq]
  exact outHG_at _ i (iblk3_at m c t x) (iblk5_at m c t x) (iblk6_at m c t x) (iblk2_at m c t x)
/-- What output 14 holds after a grid point, at an element. -/
theorem after14_at (c : Dev nD) (t : Fin cfg0.N) (i : Fin 256) (x : Fin 512) :
    outHU (XS m c) (XQ m c) (DU m c t) (X0 m c) (iblk m c 1 t) (ix2 i x) = hu (B0 m c) (B1 m c) (k0_pay8 (B0 m c)) (k0_pay7 (B0 m c)) (B4 m c) (B8 m c) (B7 m c) i (col t x) := by
  unfold XS XQ DU
  rw [X0_eq]
  exact outHU_at _ i (iblk1_at m c t x) (iblk4_at m c t x) (iblk7_at m c t x) (iblk8_at m c t x)

/-- A bound of the running maximum of one point's four columns of a lane and of what came before bounds every column of the lane so far. -/
theorem run_le (h : Fin 18432 → EReal) (t : Fin cfg0.N) (l : Fin 128) (b : EReal) :
    (FloatOps.absf (F := Ideal) (φ := .f32) (h (col t ⟨l.val, by omega⟩)) ≤ b
      ∧ FloatOps.absf (F := Ideal) (φ := .f32) (h (col t ⟨128 + l.val, by omega⟩)) ≤ b
      ∧ FloatOps.absf (F := Ideal) (φ := .f32) (h (col t ⟨256 + l.val, by omega⟩)) ≤ b
      ∧ FloatOps.absf (F := Ideal) (φ := .f32) (h (col t ⟨384 + l.val, by omega⟩)) ≤ b)
    ↔ ∀ j : Fin 18432, t.val * 512 ≤ j.val → j.val < t.val * 512 + 512 → j.val % 128 = l.val → FloatOps.absf (F := Ideal) (φ := .f32) (h j) ≤ b := by
  constructor
  · rintro ⟨h0, h1, h2, h3⟩ j hlo hhi hl
    have : j.val = t.val * 512 + l.val ∨ j.val = t.val * 512 + (128 + l.val) ∨ j.val = t.val * 512 + (256 + l.val) ∨ j.val = t.val * 512 + (384 + l.val) := by omega
    rcases this with e | e | e | e
    · rwa [show j = col t ⟨l.val, by omega⟩ from Fin.ext e]
    · rwa [show j = col t ⟨128 + l.val, by omega⟩ from Fin.ext e]
    · rwa [show j = col t ⟨256 + l.val, by omega⟩ from Fin.ext e]
    · rwa [show j = col t ⟨384 + l.val, by omega⟩ from Fin.ext e]
  · intro H
    refine ⟨H _ ?_ ?_ ?_, H _ ?_ ?_ ?_, H _ ?_ ?_ ?_, H _ ?_ ?_ ?_⟩ <;> simp only [col] <;> omega

/-- What bounds the running maximum after point `n`: a bound of zero and of every column of the lane up to there. -/
theorem mfAt_le (c : Dev nD) (i : Fin 256) (l : Fin 128) (b : EReal) : ∀ (n : ℕ) (hn : n < cfg0.N),
    mfAt m c n hn (ix2 i l) ≤ b ↔ 0 ≤ b ∧ ∀ j : Fin 18432, j.val < n * 512 + 512 → j.val % 128 = l.val →
      FloatOps.absf (F := Ideal) (φ := .f32) (hf (k0_pay8 (B0 m c)) (k0_pay7 (B0 m c)) (B3 m c) (B6 m c) (B5 m c) (B4 m c) (B8 m c) (B7 m c) i j) ≤ b
  | 0, hn => by
    unfold mfAt
    rw [outMF_at]
    simp only [after11_at, max_le_iff]
    have e : (k0_pay10 (F := Ideal) (ix2 i l) : EReal) = 0 := by pointwise [k0_pay10]
    have r := run_le (fun j => hf (k0_pay8 (B0 m c)) (k0_pay7 (B0 m c)) (B3 m c) (B6 m c) (B5 m c) (B4 m c) (B8 m c) (B7 m c) i j) ⟨0, hn⟩ l b
    rw [e]
    constructor
    · rintro ⟨h, ⟨⟨h0, h1⟩, h2⟩, h3⟩
      exact ⟨h, fun j hj hl => r.mp ⟨h0, h1, h2, h3⟩ j (by simp) (by simpa using hj) hl⟩
    · rintro ⟨h, H⟩
      obtain ⟨h0, h1, h2, h3⟩ := r.mpr fun j _ hj hl => H j (by simpa using hj) hl
      exact ⟨h, ⟨⟨h0, h1⟩, h2⟩, h3⟩
  | n + 1, hn => by
    unfold mfAt
    rw [outMF_at]
    simp only [after11_at, max_le_iff]
    have r := run_le (fun j => hf (k0_pay8 (B0 m c)) (k0_pay7 (B0 m c)) (B3 m c) (B6 m c) (B5 m c) (B4 m c) (B8 m c) (B7 m c) i j) ⟨n + 1, hn⟩ l b
    rw [mfAt_le c i l b n (by omega)]
    constructor
    · rintro ⟨⟨h, Ho⟩, ⟨⟨h0, h1⟩, h2⟩, h3⟩
      refine ⟨h, fun j hj hl => ?_⟩
      by_cases hk : j.val < n * 512 + 512
      · exact Ho j hk hl
      · exact r.mp ⟨h0, h1, h2, h3⟩ j (by show (n + 1) * 512 ≤ j.val; omega) (by show j.val < (n + 1) * 512 + 512; omega) hl
    · rintro ⟨h, H⟩
      obtain ⟨h0, h1, h2, h3⟩ := r.mpr fun j _ hj hl => H j hj hl
      exact ⟨⟨h, fun j hj hl => H j (by omega) hl⟩, ⟨⟨h0, h1⟩, h2⟩, h3⟩
/-- After the last point it is the lane's maximum over all columns. -/
theorem mfAt_last (c : Dev nD) (i : Fin 256) (l : Fin 128) (hn : 35 < cfg0.N) : mfAt m c 35 hn (ix2 i l) = lanes (hf (k0_pay8 (B0 m c)) (k0_pay7 (B0 m c)) (B3 m c) (B6 m c) (B5 m c) (B4 m c) (B8 m c) (B7 m c) i) l := by
  refine eq_of_forall_ge_iff fun b => ?_
  rw [mfAt_le, lanes_le]
  constructor
  · exact fun h j hl => h.2 j (by omega) hl
  · exact fun h => ⟨(abs_nonneg _).trans (h ⟨l.val, by omega⟩ (Nat.mod_eq_of_lt l.isLt)), fun j _ hl => h j hl⟩

/-- What bounds the running maximum after point `n`: a bound of zero and of every column of the lane up to there. -/
theorem mrAt_le (c : Dev nD) (i : Fin 256) (l : Fin 128) (b : EReal) : ∀ (n : ℕ) (hn : n < cfg0.N),
    mrAt m c n hn (ix2 i l) ≤ b ↔ 0 ≤ b ∧ ∀ j : Fin 18432, j.val < n * 512 + 512 → j.val % 128 = l.val →
      FloatOps.absf (F := Ideal) (φ := .f32) (hr (B0 m c) (B1 m c) (B2 m c) i j) ≤ b
  | 0, hn => by
    unfold mrAt
    rw [outMR_at]
    simp only [after12_at, max_le_iff]
    have e : (k0_pay11 (F := Ideal) (ix2 i l) : EReal) = 0 := by pointwise [k0_pay11]
    have r := run_le (fun j => hr (B0 m c) (B1 m c) (B2 m c) i j) ⟨0, hn⟩ l b
    rw [e]
    constructor
    · rintro ⟨h, ⟨⟨h0, h1⟩, h2⟩, h3⟩
      exact ⟨h, fun j hj hl => r.mp ⟨h0, h1, h2, h3⟩ j (by simp) (by simpa using hj) hl⟩
    · rintro ⟨h, H⟩
      obtain ⟨h0, h1, h2, h3⟩ := r.mpr fun j _ hj hl => H j (by simpa using hj) hl
      exact ⟨h, ⟨⟨h0, h1⟩, h2⟩, h3⟩
  | n + 1, hn => by
    unfold mrAt
    rw [outMR_at]
    simp only [after12_at, max_le_iff]
    have r := run_le (fun j => hr (B0 m c) (B1 m c) (B2 m c) i j) ⟨n + 1, hn⟩ l b
    rw [mrAt_le c i l b n (by omega)]
    constructor
    · rintro ⟨⟨h, Ho⟩, ⟨⟨h0, h1⟩, h2⟩, h3⟩
      refine ⟨h, fun j hj hl => ?_⟩
      by_cases hk : j.val < n * 512 + 512
      · exact Ho j hk hl
      · exact r.mp ⟨h0, h1, h2, h3⟩ j (by show (n + 1) * 512 ≤ j.val; omega) (by show j.val < (n + 1) * 512 + 512; omega) hl
    · rintro ⟨h, H⟩
      obtain ⟨h0, h1, h2, h3⟩ := r.mpr fun j _ hj hl => H j hj hl
      exact ⟨⟨h, fun j hj hl => H j (by omega) hl⟩, ⟨⟨h0, h1⟩, h2⟩, h3⟩
/-- After the last point it is the lane's maximum over all columns. -/
theorem mrAt_last (c : Dev nD) (i : Fin 256) (l : Fin 128) (hn : 35 < cfg0.N) : mrAt m c 35 hn (ix2 i l) = lanes (hr (B0 m c) (B1 m c) (B2 m c) i) l := by
  refine eq_of_forall_ge_iff fun b => ?_
  rw [mrAt_le, lanes_le]
  constructor
  · exact fun h j hl => h.2 j (by omega) hl
  · exact fun h => ⟨(abs_nonneg _).trans (h ⟨l.val, by omega⟩ (Nat.mod_eq_of_lt l.isLt)), fun j _ hl => h j hl⟩

end Cert.GateUpIdeal.Gen

end
-- ==== Proof.GateUpValue.lean ====
/- The gate/up arrays after the run, as the stated values of the arguments. -/
module

public import proofs.«01_k».proof.Proof.GateUpCols

@[expose] public section

set_option maxRecDepth 16384

noncomputable section

namespace Cert.GateUpIdeal.Gen

open Idealize.ShloMosaic Idealize.ShloMosaic.TcCoe Idealize.ShloMosaic.Tactic
open Cert.GateUpSpec

variable (m : (ℓ : Loc nD τ sig) → Buf (Elt Ideal) ℓ) (ρ : Dev nD → PrngReg)

/-! ## The arrays after the run -/

/-- The last grid point. -/
def tL : Fin cfg0.N := ⟨35, by have : cfg0.N = 36 := N_0; omega⟩
/-- The token codes' array. -/
theorem final9 (c : Dev nD) : (dats m 0 c).arrAt 9 cfg0.N = (k0_pay8 (B0 m c) : Vec Ideal AX .i8) := by
  refine (dats m 0 c).arrAt_eq_of_after_last 9 tL (by decide +kernel) _ fun j => ?_
  blk_simp
  rw [after0_9]
  unfold XC
  rw [X0_eq]
/-- The token scales' array. -/
theorem final10 (c : Dev nD) : (dats m 0 c).arrAt 10 cfg0.N = (k0_pay7 (B0 m c) : Vec Ideal AS .f32) := by
  refine (dats m 0 c).arrAt_eq_of_after_last 10 tL (by decide +kernel) _ fun j => ?_
  blk_simp
  rw [after0_10]
  unfold XS
  rw [X0_eq]
/-- Output 11's array. -/
theorem final11 (c : Dev nD) : (dats m 0 c).arrAt 11 cfg0.N = (fun y => hf (k0_pay8 (B0 m c)) (k0_pay7 (B0 m c)) (B3 m c) (B6 m c) (B5 m c) (B4 m c) (B8 m c) (B7 m c) (y 0) (y 1) : Vec Ideal ⟨2, ![256, 18432]⟩ .f32) := by
  refine (dats m 0 c).arrAt_eq_of_covers 11 _ (by decide +kernel) fun t hfl y => ?_
  blk_simp
  rw [after0_11]
  idx_vars y
  refine (after11_at m c t _ _).trans ?_
  refine congrArg₂ (hf (k0_pay8 (B0 m c)) (k0_pay7 (B0 m c)) (B3 m c) (B6 m c) (B5 m c) (B4 m c) (B8 m c) (B7 m c)) ?_ ?_
  · apply Fin.ext; blk_simp [idx_at t]; try omega
  · apply Fin.ext; unfold col; blk_simp [idx_at t]; try omega
/-- Output 12's array. -/
theorem final12 (c : Dev nD) : (dats m 0 c).arrAt 12 cfg0.N = (fun y => hr (B0 m c) (B1 m c) (B2 m c) (y 0) (y 1) : Vec Ideal ⟨2, ![256, 18432]⟩ .f32) := by
  refine (dats m 0 c).arrAt_eq_of_covers 12 _ (by decide +kernel) fun t hfl y => ?_
  blk_simp
  rw [after0_12]
  idx_vars y
  refine (after12_at m c t _ _).trans ?_
  refine congrArg₂ (hr (B0 m c) (B1 m c) (B2 m c)) ?_ ?_
  · apply Fin.ext; blk_simp [idx_at t]; try omega
  · apply Fin.ext; unfold col; blk_simp [idx_at t]; try omega
/-- Output 13's array. -/
theorem final13 (c : Dev nD) : (dats m 0 c).arrAt 13 cfg0.N = (fun y => hg (k0_pay8 (B0 m c)) (k0_pay7 (B0 m c)) (B3 m c) (B6 m c) (B5 m c) (B0 m c) (B2 m c) (y 0) (y 1) : Vec Ideal ⟨2, ![256, 18432]⟩ .bf16) := by
  refine (dats m 0 c).arrAt_eq_of_covers 13 _ (by decide +kernel) fun t hfl y => ?_
  blk_simp
  rw [after0_13]
  idx_vars y
  refine (after13_at m c t _ _).trans ?_
  refine congrArg₂ (hg (k0_pay8 (B0 m c)) (k0_pay7 (B0 m c)) (B3 m c) (B6 m c) (B5 m c) (B0 m c) (B2 m c)) ?_ ?_
  · apply Fin.ext; blk_simp [idx_at t]; try omega
  · apply Fin.ext; unfold col; blk_simp [idx_at t]; try omega
/-- Output 14's array. -/
theorem final14 (c : Dev nD) : (dats m 0 c).arrAt 14 cfg0.N = (fun y => hu (B0 m c) (B1 m c) (k0_pay8 (B0 m c)) (k0_pay7 (B0 m c)) (B4 m c) (B8 m c) (B7 m c) (y 0) (y 1) : Vec Ideal ⟨2, ![256, 18432]⟩ .bf16) := by
  refine (dats m 0 c).arrAt_eq_of_covers 14 _ (by decide +kernel) fun t hfl y => ?_
  blk_simp
  rw [after0_14]
  idx_vars y
  refine (after14_at m c t _ _).trans ?_
  refine congrArg₂ (hu (B0 m c) (B1 m c) (k0_pay8 (B0 m c)) (k0_pay7 (B0 m c)) (B4 m c) (B8 m c) (B7 m c)) ?_ ?_
  · apply Fin.ext; blk_simp [idx_at t]; try omega
  · apply Fin.ext; unfold col; blk_simp [idx_at t]; try omega
/-- Output 15's array. -/
theorem final15 (c : Dev nD) : (dats m 0 c).arrAt 15 cfg0.N = (fun y => lanes (hf (k0_pay8 (B0 m c)) (k0_pay7 (B0 m c)) (B3 m c) (B6 m c) (B5 m c) (B4 m c) (B8 m c) (B7 m c) (y 0)) (y 1) : Vec Ideal ⟨2, ![256, 128]⟩ .f32) := by
  refine (dats m 0 c).arrAt_eq_of_after_last 15 tL (by decide +kernel) _ fun j => ?_
  blk_simp
  rw [after0_15]
  idx_vars j
  exact mfAt_last m c _ _ _
/-- Output 16's array. -/
theorem final16 (c : Dev nD) : (dats m 0 c).arrAt 16 cfg0.N = (fun y => lanes (hr (B0 m c) (B1 m c) (B2 m c) (y 0)) (y 1) : Vec Ideal ⟨2, ![256, 128]⟩ .f32) := by
  refine (dats m 0 c).arrAt_eq_of_after_last 16 tL (by decide +kernel) _ fun j => ?_
  blk_simp
  rw [after0_16]
  idx_vars j
  exact mrAt_last m c _ _ _

end Cert.GateUpIdeal.Gen

end
-- ==== Proof.GateUpRun.lean ====
/- The gate/up call's run, its results at their stated values. -/
module

public import proofs.«01_k».proof.Proof.GateUpValue

@[expose] public section

set_option maxRecDepth 16384

noncomputable section

namespace Cert.GateUpIdeal.Gen

open Idealize.ShloMosaic Idealize.ShloMosaic.TcCoe Idealize.ShloMosaic.Tactic
open Cert.GateUpSpec Idealize.SL.Sem

variable (m : (ℓ : Loc nD τ sig) → Buf (Elt Ideal) ℓ) (ρ : Dev nD → PrngReg)

/-- The run: every result at its stated value. -/
theorem run_values : θ_run defs (onTc (τ := τ) (main (F := Ideal))) ⟨m, fun _ => 0, ρ⟩ (fun r => ∀ c : Dev nD,
      r.2.mem ((c.tc : Thread nD τ).loc main_v0_0) = (k0_pay8 (B0 m c) : Vec Ideal AX .i8) ∧
      r.2.mem ((c.tc : Thread nD τ).loc main_v0_1) = (k0_pay7 (B0 m c) : Vec Ideal AS .f32) ∧
      r.2.mem ((c.tc : Thread nD τ).loc main_v0_2) = (fun y => hf (k0_pay8 (B0 m c)) (k0_pay7 (B0 m c)) (B3 m c) (B6 m c) (B5 m c) (B4 m c) (B8 m c) (B7 m c) (y 0) (y 1) : Vec Ideal ⟨2, ![256, 18432]⟩ .f32) ∧
      r.2.mem ((c.tc : Thread nD τ).loc main_v0_3) = (fun y => hr (B0 m c) (B1 m c) (B2 m c) (y 0) (y 1) : Vec Ideal ⟨2, ![256, 18432]⟩ .f32) ∧
      r.2.mem ((c.tc : Thread nD τ).loc main_v0_4) = (fun y => hg (k0_pay8 (B0 m c)) (k0_pay7 (B0 m c)) (B3 m c) (B6 m c) (B5 m c) (B0 m c) (B2 m c) (y 0) (y 1) : Vec Ideal ⟨2, ![256, 18432]⟩ .bf16) ∧
      r.2.mem ((c.tc : Thread nD τ).loc main_v0_5) = (fun y => hu (B0 m c) (B1 m c) (k0_pay8 (B0 m c)) (k0_pay7 (B0 m c)) (B4 m c) (B8 m c) (B7 m c) (y 0) (y 1) : Vec Ideal ⟨2, ![256, 18432]⟩ .bf16) ∧
      r.2.mem ((c.tc : Thread nD τ).loc main_v0_6) = (fun y => lanes (hf (k0_pay8 (B0 m c)) (k0_pay7 (B0 m c)) (B3 m c) (B6 m c) (B5 m c) (B4 m c) (B8 m c) (B7 m c) (y 0)) (y 1) : Vec Ideal ⟨2, ![256, 128]⟩ .f32) ∧
      r.2.mem ((c.tc : Thread nD τ).loc main_v0_7) = (fun y => lanes (hr (B0 m c) (B1 m c) (B2 m c) (y 0)) (y 1) : Vec Ideal ⟨2, ![256, 128]⟩ .f32)) :=
  (θ_run defs _ _).mono (fun r h c => ⟨((h c).1 9).trans (final9 m c), ((h c).1 10).trans (final10 m c), ((h c).1 11).trans (final11 m c), ((h c).1 12).trans (final12 m c), ((h c).1 13).trans (final13 m c), ((h c).1 14).trans (final14 m c), ((h c).1 15).trans (final15 m c), ((h c).1 16).trans (final16 m c)⟩) (run_main m ρ)
/-- And every argument as it was. -/
theorem run : θ_run defs (onTc (τ := τ) (main (F := Ideal))) ⟨m, fun _ => 0, ρ⟩ (fun r => ∀ c : Dev nD,
      r.2.mem ((c.tc : Thread nD τ).loc main_v0_0) = (k0_pay8 (B0 m c) : Vec Ideal AX .i8) ∧
      r.2.mem ((c.tc : Thread nD τ).loc main_v0_1) = (k0_pay7 (B0 m c) : Vec Ideal AS .f32) ∧
      r.2.mem ((c.tc : Thread nD τ).loc main_v0_2) = (fun y => hf (k0_pay8 (B0 m c)) (k0_pay7 (B0 m c)) (B3 m c) (B6 m c) (B5 m c) (B4 m c) (B8 m c) (B7 m c) (y 0) (y 1) : Vec Ideal ⟨2, ![256, 18432]⟩ .f32) ∧
      r.2.mem ((c.tc : Thread nD τ).loc main_v0_3) = (fun y => hr (B0 m c) (B1 m c) (B2 m c) (y 0) (y 1) : Vec Ideal ⟨2, ![256, 18432]⟩ .f32) ∧
      r.2.mem ((c.tc : Thread nD τ).loc main_v0_4) = (fun y => hg (k0_pay8 (B0 m c)) (k0_pay7 (B0 m c)) (B3 m c) (B6 m c) (B5 m c) (B0 m c) (B2 m c) (y 0) (y 1) : Vec Ideal ⟨2, ![256, 18432]⟩ .bf16) ∧
      r.2.mem ((c.tc : Thread nD τ).loc main_v0_5) = (fun y => hu (B0 m c) (B1 m c) (k0_pay8 (B0 m c)) (k0_pay7 (B0 m c)) (B4 m c) (B8 m c) (B7 m c) (y 0) (y 1) : Vec Ideal ⟨2, ![256, 18432]⟩ .bf16) ∧
      r.2.mem ((c.tc : Thread nD τ).loc main_v0_6) = (fun y => lanes (hf (k0_pay8 (B0 m c)) (k0_pay7 (B0 m c)) (B3 m c) (B6 m c) (B5 m c) (B4 m c) (B8 m c) (B7 m c) (y 0)) (y 1) : Vec Ideal ⟨2, ![256, 128]⟩ .f32) ∧
      r.2.mem ((c.tc : Thread nD τ).loc main_v0_7) = (fun y => lanes (hr (B0 m c) (B1 m c) (B2 m c) (y 0)) (y 1) : Vec Ideal ⟨2, ![256, 128]⟩ .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8)) :=
  (θ_run defs _ _).mono (fun r h c => by
    obtain ⟨h0, h1, h2, h3, h4, h5, h6, h7⟩ := h.1 c
    exact ⟨h0, h1, h2, h3, h4, h5, h6, h7, h.2 c⟩) (θ_run_and (run_values m ρ) (unchanged m ρ))

end Cert.GateUpIdeal.Gen

end
-- ==== Proof.GateUpRefPoint.lean ====
/- The gate/up reference at an element: what it stores is the stated value of the arguments. -/
module

public import proofs.«01_k».proof.Proof.Gen.GateUpRefIdeal.Frame
public import proofs.«01_k».proof.Proof.GateUpSpec
public import Idealize.ShloMosaic.Lib.Pointwise
public import Idealize.ShloMosaic.Lib.Pipeline.ValueKit

@[expose] public section

set_option maxRecDepth 16384

noncomputable section

namespace Cert.GateUpRefIdeal.Gen

open Idealize.ShloMosaic Idealize.ShloMosaic.TcCoe Idealize.ShloMosaic.Tactic
open Cert.GateUpSpec

/-! ## The stored vectors at an element -/

variable (x0 : Vec Ideal S256x7168 .bf16) (x1 : Vec Ideal S7168x18432 .bf16) (x2 : Vec Ideal S7168x18432 .bf16) (x3 : Vec Ideal S3584x18432 .i8)
  (x4 : Vec Ideal S3584x18432 .i8) (x5 : Vec Ideal S56x18432 .f32) (x6 : Vec Ideal S56x18432 .i8) (x7 : Vec Ideal S56x18432 .f32) (x8 : Vec Ideal S56x18432 .i8)
  (i : Fin 256) (j : Fin 18432)

/-- The even codes. -/
theorem even_at (p : Fin 3584) : k0_pay16 x0 (ix2 i p) = FloatOps.sitofp (F := Ideal) FTy.bf16 (k0_pay14 x0 (ix2 i ⟨p.val * 2, by omega⟩)) := by
  pointwise [k0_pay16, k0_pay15]
/-- The odd codes. -/
theorem odd_at (p : Fin 3584) : k0_pay17 x0 (ix2 i p) = FloatOps.sitofp (F := Ideal) FTy.bf16 (k0_pay14 x0 (ix2 i ⟨p.val * 2 + 1, by omega⟩)) := by
  pointwise [k0_pay17, k0_pay15]
/-- The gate's quantised projection. -/
theorem gate_at : k0_pay20 (k0_pay13 x0) (k0_pay16 x0) (k0_pay17 x0) x3 (k0_pay18 x6) (k0_pay19 x5) (ix2 i j) = qproj (k0_pay14 x0) (k0_pay13 x0) x3 x6 x5 i j := by
  pointwise [k0_pay20, k0_pay18, k0_pay19]
  simp only [even_at, odd_at]
  rfl
/-- The up projection's. -/
theorem up_at : k0_pay1 (k0_pay13 x0) (k0_pay16 x0) (k0_pay17 x0) (k0_pay23 x4 x7 x8) (k0_pay24 x4 x7 x8) (ix2 i j) = qproj (k0_pay14 x0) (k0_pay13 x0) x4 x8 x7 i j := by
  pointwise [k0_pay1, k0_pay23, k0_pay24, k0_pay21, k0_pay22]
  simp only [even_at, odd_at]
  rfl
/-- The reference gate projection. -/
theorem rgate_at : k0_pay10 x0 x1 (ix2 i j) = rdot x0 x1 i j := by
  pointwise [k0_pay10]
  rfl
/-- The reference up projection. -/
theorem rup_at : k0_pay11 x0 x2 (ix2 i j) = rdot x0 x2 i j := by
  pointwise [k0_pay11]
  rfl

/-- Output 9 is the stated value. -/
theorem out9_eq : out0_9 x0 x1 x2 x3 x4 x5 x6 x7 x8 = k0_pay14 x0 := by
  frame_out
/-- Output 10 is the stated value. -/
theorem out10_eq : out0_10 x0 x1 x2 x3 x4 x5 x6 x7 x8 = k0_pay13 x0 := by
  unfold_out out0_10
  frame_out
/-- Output 11 is the stated value. -/
theorem out11_at : out0_11 x0 x1 x2 x3 x4 x5 x6 x7 x8 (ix2 i j) = hf (k0_pay14 x0) (k0_pay13 x0) x3 x6 x5 x4 x8 x7 i j := by
  unfold_out out0_11
  frame_out
  pointwise [k0_pay4, k0_pay2]
  simp only [gate_at, up_at, rgate_at, rup_at]
  rfl
/-- Output 12 is the stated value. -/
theorem out12_at : out0_12 x0 x1 x2 x3 x4 x5 x6 x7 x8 (ix2 i j) = hr x0 x1 x2 i j := by
  unfold_out out0_12
  frame_out
  pointwise [k0_pay5, k0_pay3]
  simp only [gate_at, up_at, rgate_at, rup_at]
  rfl
/-- Output 13 is the stated value. -/
theorem out13_at : out0_13 x0 x1 x2 x3 x4 x5 x6 x7 x8 (ix2 i j) = hg (k0_pay14 x0) (k0_pay13 x0) x3 x6 x5 x0 x2 i j := by
  unfold_out out0_13
  frame_out
  pointwise [k0_pay6, k0_pay2]
  simp only [gate_at, up_at, rgate_at, rup_at]
  rfl
/-- Output 14 is the stated value. -/
theorem out14_at : out0_14 x0 x1 x2 x3 x4 x5 x6 x7 x8 (ix2 i j) = hu x0 x1 (k0_pay14 x0) (k0_pay13 x0) x4 x8 x7 i j := by
  unfold_out out0_14
  frame_out
  pointwise [k0_pay7, k0_pay3]
  simp only [gate_at, up_at, rgate_at, rup_at]
  rfl
/-- Output 15 is the stated value. -/
theorem out15_at (l : Fin 128) : out0_15 x0 x1 x2 x3 x4 x5 x6 x7 x8 (ix2 i l) = lanes (hf (k0_pay14 x0) (k0_pay13 x0) x3 x6 x5 x4 x8 x7 i) l := by
  unfold_out out0_15
  frame_out
  pointwise [k0_pay8, k0_pay4, k0_pay2]
  simp only [gate_at, up_at, rgate_at, rup_at]
  rfl
/-- Output 16 is the stated value. -/
theorem out16_at (l : Fin 128) : out0_16 x0 x1 x2 x3 x4 x5 x6 x7 x8 (ix2 i l) = lanes (hr x0 x1 x2 i) l := by
  unfold_out out0_16
  frame_out
  pointwise [k0_pay9, k0_pay5, k0_pay3]
  simp only [gate_at, up_at, rgate_at, rup_at]
  rfl

end Cert.GateUpRefIdeal.Gen

end
-- ==== Proof.GateUpRefValue.lean ====
/- The gate/up reference arrays after the run, as the stated values of the arguments. -/
module

public import proofs.«01_k».proof.Proof.GateUpRefPoint

@[expose] public section

set_option maxRecDepth 16384

noncomputable section

namespace Cert.GateUpRefIdeal.Gen

open Idealize.ShloMosaic Idealize.ShloMosaic.TcCoe Idealize.ShloMosaic.Tactic
open Cert.GateUpSpec

variable (m : (ℓ : Loc nD τ sig) → Buf (Elt Ideal) ℓ) (ρ : Dev nD → PrngReg)

/-- Argument 0, by its shape. -/
def B0 (c : Dev nD) : Vec Ideal AX .bf16 := m ((c.tc : Thread nD τ).loc main_arg0)
/-- Argument 1, by its shape. -/
def B1 (c : Dev nD) : Vec Ideal AW .bf16 := m ((c.tc : Thread nD τ).loc main_arg1)
/-- Argument 2, by its shape. -/
def B2 (c : Dev nD) : Vec Ideal AW .bf16 := m ((c.tc : Thread nD τ).loc main_arg2)
/-- Argument 3, by its shape. -/
def B3 (c : Dev nD) : Vec Ideal AQ .i8 := m ((c.tc : Thread nD τ).loc main_arg3)
/-- Argument 4, by its shape. -/
def B4 (c : Dev nD) : Vec Ideal AQ .i8 := m ((c.tc : Thread nD τ).loc main_arg4)
/-- Argument 5, by its shape. -/
def B5 (c : Dev nD) : Vec Ideal AZ .f32 := m ((c.tc : Thread nD τ).loc main_arg5)
/-- Argument 6, by its shape. -/
def B6 (c : Dev nD) : Vec Ideal AZ .i8 := m ((c.tc : Thread nD τ).loc main_arg6)
/-- Argument 7, by its shape. -/
def B7 (c : Dev nD) : Vec Ideal AZ .f32 := m ((c.tc : Thread nD τ).loc main_arg7)
/-- Argument 8, by its shape. -/
def B8 (c : Dev nD) : Vec Ideal AZ .i8 := m ((c.tc : Thread nD τ).loc main_arg8)

/-- The one grid point. -/
def tR : Fin cfg0.N := ⟨0, by decide +kernel⟩
/-- The block of argument 0 is the same at every grid point. -/
theorem iblk0_eq (c : Dev nD) : iblk m c 0 tR = B0 m c := by
  funext y
  idx_vars y
  unfold B0
  blk_ext [iblk, V, show win0_0.index tR = ![0, 0] from by decide +kernel]
/-- The block of argument 1 is the same at every grid point. -/
theorem iblk1_eq (c : Dev nD) : iblk m c 1 tR = B1 m c := by
  funext y
  idx_vars y
  unfold B1
  blk_ext [iblk, V, show win0_1.index tR = ![0, 0] from by decide +kernel]
/-- The block of argument 2 is the same at every grid point. -/
theorem iblk2_eq (c : Dev nD) : iblk m c 2 tR = B2 m c := by
  funext y
  idx_vars y
  unfold B2
  blk_ext [iblk, V, show win0_2.index tR = ![0, 0] from by decide +kernel]
/-- The block of argument 3 is the same at every grid point. -/
theorem iblk3_eq (c : Dev nD) : iblk m c 3 tR = B3 m c := by
  funext y
  idx_vars y
  unfold B3
  blk_ext [iblk, V, show win0_3.index tR = ![0, 0] from by decide +kernel]
/-- The block of argument 4 is the same at every grid point. -/
theorem iblk4_eq (c : Dev nD) : iblk m c 4 tR = B4 m c := by
  funext y
  idx_vars y
  unfold B4
  blk_ext [iblk, V, show win0_4.index tR = ![0, 0] from by decide +kernel]
/-- The block of argument 5 is the same at every grid point. -/
theorem iblk5_eq (c : Dev nD) : iblk m c 5 tR = B5 m c := by
  funext y
  idx_vars y
  unfold B5
  blk_ext [iblk, V, show win0_5.index tR = ![0, 0] from by decide +kernel]
/-- The block of argument 6 is the same at every grid point. -/
theorem iblk6_eq (c : Dev nD) : iblk m c 6 tR = B6 m c := by
  funext y
  idx_vars y
  unfold B6
  blk_ext [iblk, V, show win0_6.index tR = ![0, 0] from by decide +kernel]
/-- The block of argument 7 is the same at every grid point. -/
theorem iblk7_eq (c : Dev nD) : iblk m c 7 tR = B7 m c := by
  funext y
  idx_vars y
  unfold B7
  blk_ext [iblk, V, show win0_7.index tR = ![0, 0] from by decide +kernel]
/-- The block of argument 8 is the same at every grid point. -/
theorem iblk8_eq (c : Dev nD) : iblk m c 8 tR = B8 m c := by
  funext y
  idx_vars y
  unfold B8
  blk_ext [iblk, V, show win0_8.index tR = ![0, 0] from by decide +kernel]
/-- Output 9's array. -/
theorem final9 (c : Dev nD) : (dats m 0 c).arrAt 9 cfg0.N = (k0_pay14 (B0 m c) : Vec Ideal AX .i8) := by
  refine (dats m 0 c).arrAt_eq_of_after_last 9 tR (by decide +kernel) _ fun j => ?_
  blk_simp
  rw [after0_9, out9_eq, iblk0_eq]
/-- Output 10's array. -/
theorem final10 (c : Dev nD) : (dats m 0 c).arrAt 10 cfg0.N = (k0_pay13 (B0 m c) : Vec Ideal AS .f32) := by
  refine (dats m 0 c).arrAt_eq_of_after_last 10 tR (by decide +kernel) _ fun j => ?_
  blk_simp
  rw [after0_10, out10_eq, iblk0_eq]
/-- Output 11's array. -/
theorem final11 (c : Dev nD) : (dats m 0 c).arrAt 11 cfg0.N = (fun y => hf (k0_pay14 (B0 m c)) (k0_pay13 (B0 m c)) (B3 m c) (B6 m c) (B5 m c) (B4 m c) (B8 m c) (B7 m c) (y 0) (y 1) : Vec Ideal ⟨2, ![256, 18432]⟩ .f32) := by
  refine (dats m 0 c).arrAt_eq_of_after_last 11 tR (by decide +kernel) _ fun j => ?_
  blk_simp
  rw [after0_11, iblk0_eq, iblk1_eq, iblk2_eq, iblk3_eq, iblk4_eq, iblk5_eq, iblk6_eq, iblk7_eq, iblk8_eq]
  idx_vars j
  exact out11_at _ _ _ _ _ _ _ _ _ _ _
/-- Output 12's array. -/
theorem final12 (c : Dev nD) : (dats m 0 c).arrAt 12 cfg0.N = (fun y => hr (B0 m c) (B1 m c) (B2 m c) (y 0) (y 1) : Vec Ideal ⟨2, ![256, 18432]⟩ .f32) := by
  refine (dats m 0 c).arrAt_eq_of_after_last 12 tR (by decide +kernel) _ fun j => ?_
  blk_simp
  rw [after0_12, iblk0_eq, iblk1_eq, iblk2_eq, iblk3_eq, iblk4_eq, iblk5_eq, iblk6_eq, iblk7_eq, iblk8_eq]
  idx_vars j
  exact out12_at _ _ _ _ _ _ _ _ _ _ _
/-- Output 13's array. -/
theorem final13 (c : Dev nD) : (dats m 0 c).arrAt 13 cfg0.N = (fun y => hg (k0_pay14 (B0 m c)) (k0_pay13 (B0 m c)) (B3 m c) (B6 m c) (B5 m c) (B0 m c) (B2 m c) (y 0) (y 1) : Vec Ideal ⟨2, ![256, 18432]⟩ .bf16) := by
  refine (dats m 0 c).arrAt_eq_of_after_last 13 tR (by decide +kernel) _ fun j => ?_
  blk_simp
  rw [after0_13, iblk0_eq, iblk1_eq, iblk2_eq, iblk3_eq, iblk4_eq, iblk5_eq, iblk6_eq, iblk7_eq, iblk8_eq]
  idx_vars j
  exact out13_at _ _ _ _ _ _ _ _ _ _ _
/-- Output 14's array. -/
theorem final14 (c : Dev nD) : (dats m 0 c).arrAt 14 cfg0.N = (fun y => hu (B0 m c) (B1 m c) (k0_pay14 (B0 m c)) (k0_pay13 (B0 m c)) (B4 m c) (B8 m c) (B7 m c) (y 0) (y 1) : Vec Ideal ⟨2, ![256, 18432]⟩ .bf16) := by
  refine (dats m 0 c).arrAt_eq_of_after_last 14 tR (by decide +kernel) _ fun j => ?_
  blk_simp
  rw [after0_14, iblk0_eq, iblk1_eq, iblk2_eq, iblk3_eq, iblk4_eq, iblk5_eq, iblk6_eq, iblk7_eq, iblk8_eq]
  idx_vars j
  exact out14_at _ _ _ _ _ _ _ _ _ _ _
/-- Output 15's array. -/
theorem final15 (c : Dev nD) : (dats m 0 c).arrAt 15 cfg0.N = (fun y => lanes (hf (k0_pay14 (B0 m c)) (k0_pay13 (B0 m c)) (B3 m c) (B6 m c) (B5 m c) (B4 m c) (B8 m c) (B7 m c) (y 0)) (y 1) : Vec Ideal ⟨2, ![256, 128]⟩ .f32) := by
  refine (dats m 0 c).arrAt_eq_of_after_last 15 tR (by decide +kernel) _ fun j => ?_
  blk_simp
  rw [after0_15, iblk0_eq, iblk1_eq, iblk2_eq, iblk3_eq, iblk4_eq, iblk5_eq, iblk6_eq, iblk7_eq, iblk8_eq]
  idx_vars j
  exact out15_at _ _ _ _ _ _ _ _ _ _ _
/-- Output 16's array. -/
theorem final16 (c : Dev nD) : (dats m 0 c).arrAt 16 cfg0.N = (fun y => lanes (hr (B0 m c) (B1 m c) (B2 m c) (y 0)) (y 1) : Vec Ideal ⟨2, ![256, 128]⟩ .f32) := by
  refine (dats m 0 c).arrAt_eq_of_after_last 16 tR (by decide +kernel) _ fun j => ?_
  blk_simp
  rw [after0_16, iblk0_eq, iblk1_eq, iblk2_eq, iblk3_eq, iblk4_eq, iblk5_eq, iblk6_eq, iblk7_eq, iblk8_eq]
  idx_vars j
  exact out16_at _ _ _ _ _ _ _ _ _ _ _

end Cert.GateUpRefIdeal.Gen

end
-- ==== Proof.GateUpRefRun.lean ====
/- The gate/up reference's run, its results at their stated values. -/
module

public import proofs.«01_k».proof.Proof.GateUpRefValue

@[expose] public section

set_option maxRecDepth 16384

noncomputable section

namespace Cert.GateUpRefIdeal.Gen

open Idealize.ShloMosaic Idealize.ShloMosaic.TcCoe Idealize.ShloMosaic.Tactic
open Cert.GateUpSpec Idealize.SL.Sem

variable (m : (ℓ : Loc nD τ sig) → Buf (Elt Ideal) ℓ) (ρ : Dev nD → PrngReg)

/-- The run: every result at its stated value. -/
theorem run_values : θ_run defs (onTc (τ := τ) (main (F := Ideal))) ⟨m, fun _ => 0, ρ⟩ (fun r => ∀ c : Dev nD,
      r.2.mem ((c.tc : Thread nD τ).loc main_v0_0) = (k0_pay14 (B0 m c) : Vec Ideal AX .i8) ∧
      r.2.mem ((c.tc : Thread nD τ).loc main_v0_1) = (k0_pay13 (B0 m c) : Vec Ideal AS .f32) ∧
      r.2.mem ((c.tc : Thread nD τ).loc main_v0_2) = (fun y => hf (k0_pay14 (B0 m c)) (k0_pay13 (B0 m c)) (B3 m c) (B6 m c) (B5 m c) (B4 m c) (B8 m c) (B7 m c) (y 0) (y 1) : Vec Ideal ⟨2, ![256, 18432]⟩ .f32) ∧
      r.2.mem ((c.tc : Thread nD τ).loc main_v0_3) = (fun y => hr (B0 m c) (B1 m c) (B2 m c) (y 0) (y 1) : Vec Ideal ⟨2, ![256, 18432]⟩ .f32) ∧
      r.2.mem ((c.tc : Thread nD τ).loc main_v0_4) = (fun y => hg (k0_pay14 (B0 m c)) (k0_pay13 (B0 m c)) (B3 m c) (B6 m c) (B5 m c) (B0 m c) (B2 m c) (y 0) (y 1) : Vec Ideal ⟨2, ![256, 18432]⟩ .bf16) ∧
      r.2.mem ((c.tc : Thread nD τ).loc main_v0_5) = (fun y => hu (B0 m c) (B1 m c) (k0_pay14 (B0 m c)) (k0_pay13 (B0 m c)) (B4 m c) (B8 m c) (B7 m c) (y 0) (y 1) : Vec Ideal ⟨2, ![256, 18432]⟩ .bf16) ∧
      r.2.mem ((c.tc : Thread nD τ).loc main_v0_6) = (fun y => lanes (hf (k0_pay14 (B0 m c)) (k0_pay13 (B0 m c)) (B3 m c) (B6 m c) (B5 m c) (B4 m c) (B8 m c) (B7 m c) (y 0)) (y 1) : Vec Ideal ⟨2, ![256, 128]⟩ .f32) ∧
      r.2.mem ((c.tc : Thread nD τ).loc main_v0_7) = (fun y => lanes (hr (B0 m c) (B1 m c) (B2 m c) (y 0)) (y 1) : Vec Ideal ⟨2, ![256, 128]⟩ .f32)) :=
  (θ_run defs _ _).mono (fun r h c => ⟨((h c).1 9).trans (final9 m c), ((h c).1 10).trans (final10 m c), ((h c).1 11).trans (final11 m c), ((h c).1 12).trans (final12 m c), ((h c).1 13).trans (final13 m c), ((h c).1 14).trans (final14 m c), ((h c).1 15).trans (final15 m c), ((h c).1 16).trans (final16 m c)⟩) (run_main m ρ)
/-- And every argument as it was. -/
theorem run : θ_run defs (onTc (τ := τ) (main (F := Ideal))) ⟨m, fun _ => 0, ρ⟩ (fun r => ∀ c : Dev nD,
      r.2.mem ((c.tc : Thread nD τ).loc main_v0_0) = (k0_pay14 (B0 m c) : Vec Ideal AX .i8) ∧
      r.2.mem ((c.tc : Thread nD τ).loc main_v0_1) = (k0_pay13 (B0 m c) : Vec Ideal AS .f32) ∧
      r.2.mem ((c.tc : Thread nD τ).loc main_v0_2) = (fun y => hf (k0_pay14 (B0 m c)) (k0_pay13 (B0 m c)) (B3 m c) (B6 m c) (B5 m c) (B4 m c) (B8 m c) (B7 m c) (y 0) (y 1) : Vec Ideal ⟨2, ![256, 18432]⟩ .f32) ∧
      r.2.mem ((c.tc : Thread nD τ).loc main_v0_3) = (fun y => hr (B0 m c) (B1 m c) (B2 m c) (y 0) (y 1) : Vec Ideal ⟨2, ![256, 18432]⟩ .f32) ∧
      r.2.mem ((c.tc : Thread nD τ).loc main_v0_4) = (fun y => hg (k0_pay14 (B0 m c)) (k0_pay13 (B0 m c)) (B3 m c) (B6 m c) (B5 m c) (B0 m c) (B2 m c) (y 0) (y 1) : Vec Ideal ⟨2, ![256, 18432]⟩ .bf16) ∧
      r.2.mem ((c.tc : Thread nD τ).loc main_v0_5) = (fun y => hu (B0 m c) (B1 m c) (k0_pay14 (B0 m c)) (k0_pay13 (B0 m c)) (B4 m c) (B8 m c) (B7 m c) (y 0) (y 1) : Vec Ideal ⟨2, ![256, 18432]⟩ .bf16) ∧
      r.2.mem ((c.tc : Thread nD τ).loc main_v0_6) = (fun y => lanes (hf (k0_pay14 (B0 m c)) (k0_pay13 (B0 m c)) (B3 m c) (B6 m c) (B5 m c) (B4 m c) (B8 m c) (B7 m c) (y 0)) (y 1) : Vec Ideal ⟨2, ![256, 128]⟩ .f32) ∧
      r.2.mem ((c.tc : Thread nD τ).loc main_v0_7) = (fun y => lanes (hr (B0 m c) (B1 m c) (B2 m c) (y 0)) (y 1) : Vec Ideal ⟨2, ![256, 128]⟩ .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8)) :=
  (θ_run defs _ _).mono (fun r h c => by
    obtain ⟨h0, h1, h2, h3, h4, h5, h6, h7⟩ := h.1 c
    exact ⟨h0, h1, h2, h3, h4, h5, h6, h7, h.2 c⟩) (θ_run_and (run_values m ρ) (unchanged m ρ))

end Cert.GateUpRefIdeal.Gen

end
-- ==== Proof.GateUpAlgebraic.lean ====
/- The gate/up call against its reference over the extended reals. -/
module

public import proofs.«01_k».proof.Defs
public import proofs.«01_k».proof.Proof.GateUpRun
public import proofs.«01_k».proof.Proof.GateUpRefRun

@[expose] public section

set_option maxRecDepth 16384

noncomputable section

namespace Cert.Proof

open Idealize.ShloMosaic Idealize.ShloMosaic.TcCoe Idealize.ShloMosaic.Tactic
open Cert.GateUpSpec Idealize.SL.Sem

/-- The two quantisers' codes are the same function of the tokens. -/
theorem codes_eq (x : Vec Ideal AX .bf16) : Cert.GateUpRefIdeal.Gen.k0_pay14 x = Cert.GateUpIdeal.Gen.k0_pay8 x := rfl
/-- And so are their scales. -/
theorem scales_eq (x : Vec Ideal AX .bf16) : Cert.GateUpRefIdeal.Gen.k0_pay13 x = Cert.GateUpIdeal.Gen.k0_pay7 x := rfl

/-- The idealized gate/up call's results are the idealized reference's, element by element. -/
theorem gate_up_algebraic : algebraic_GateUpIdeal_GateUpRefIdeal (hGateUpIdeal := Cert.GateUpIdeal.Gen.facts) (hGateUpRefIdeal := Cert.GateUpRefIdeal.Gen.facts) := by
  intro m g m' g' _ hagree
  refine ⟨fun c => (Cert.GateUpIdeal.Gen.k0_pay8 (Cert.GateUpIdeal.Gen.B0 m c) : Vec Ideal AX .i8),
    fun c => (Cert.GateUpIdeal.Gen.k0_pay7 (Cert.GateUpIdeal.Gen.B0 m c) : Vec Ideal AS .f32),
    fun c => (fun y => hf (Cert.GateUpIdeal.Gen.k0_pay8 (Cert.GateUpIdeal.Gen.B0 m c)) (Cert.GateUpIdeal.Gen.k0_pay7 (Cert.GateUpIdeal.Gen.B0 m c)) (Cert.GateUpIdeal.Gen.B3 m c) (Cert.GateUpIdeal.Gen.B6 m c) (Cert.GateUpIdeal.Gen.B5 m c) (Cert.GateUpIdeal.Gen.B4 m c) (Cert.GateUpIdeal.Gen.B8 m c) (Cert.GateUpIdeal.Gen.B7 m c) (y 0) (y 1) : Vec Ideal ⟨2, ![256, 18432]⟩ .f32),
    fun c => (fun y => hr (Cert.GateUpIdeal.Gen.B0 m c) (Cert.GateUpIdeal.Gen.B1 m c) (Cert.GateUpIdeal.Gen.B2 m c) (y 0) (y 1) : Vec Ideal ⟨2, ![256, 18432]⟩ .f32),
    fun c => (fun y => hg (Cert.GateUpIdeal.Gen.k0_pay8 (Cert.GateUpIdeal.Gen.B0 m c)) (Cert.GateUpIdeal.Gen.k0_pay7 (Cert.GateUpIdeal.Gen.B0 m c)) (Cert.GateUpIdeal.Gen.B3 m c) (Cert.GateUpIdeal.Gen.B6 m c) (Cert.GateUpIdeal.Gen.B5 m c) (Cert.GateUpIdeal.Gen.B0 m c) (Cert.GateUpIdeal.Gen.B2 m c) (y 0) (y 1) : Vec Ideal ⟨2, ![256, 18432]⟩ .bf16),
    fun c => (fun y => hu (Cert.GateUpIdeal.Gen.B0 m c) (Cert.GateUpIdeal.Gen.B1 m c) (Cert.GateUpIdeal.Gen.k0_pay8 (Cert.GateUpIdeal.Gen.B0 m c)) (Cert.GateUpIdeal.Gen.k0_pay7 (Cert.GateUpIdeal.Gen.B0 m c)) (Cert.GateUpIdeal.Gen.B4 m c) (Cert.GateUpIdeal.Gen.B8 m c) (Cert.GateUpIdeal.Gen.B7 m c) (y 0) (y 1) : Vec Ideal ⟨2, ![256, 18432]⟩ .bf16),
    fun c => (fun y => lanes (hf (Cert.GateUpIdeal.Gen.k0_pay8 (Cert.GateUpIdeal.Gen.B0 m c)) (Cert.GateUpIdeal.Gen.k0_pay7 (Cert.GateUpIdeal.Gen.B0 m c)) (Cert.GateUpIdeal.Gen.B3 m c) (Cert.GateUpIdeal.Gen.B6 m c) (Cert.GateUpIdeal.Gen.B5 m c) (Cert.GateUpIdeal.Gen.B4 m c) (Cert.GateUpIdeal.Gen.B8 m c) (Cert.GateUpIdeal.Gen.B7 m c) (y 0)) (y 1) : Vec Ideal ⟨2, ![256, 128]⟩ .f32),
    fun c => (fun y => lanes (hr (Cert.GateUpIdeal.Gen.B0 m c) (Cert.GateUpIdeal.Gen.B1 m c) (Cert.GateUpIdeal.Gen.B2 m c) (y 0)) (y 1) : Vec Ideal ⟨2, ![256, 128]⟩ .f32), Cert.GateUpIdeal.Gen.run m g, ?_⟩
  refine (θ_run _ _ _).mono (fun r h c => ?_) (Cert.GateUpRefIdeal.Gen.run m' g')
  obtain ⟨a0, a1, a2, a3, a4, a5, a6, a7, a8⟩ := hagree c
  have b0 : Cert.GateUpRefIdeal.Gen.B0 m' c = Cert.GateUpIdeal.Gen.B0 m c := a0
  have b1 : Cert.GateUpRefIdeal.Gen.B1 m' c = Cert.GateUpIdeal.Gen.B1 m c := a1
  have b2 : Cert.GateUpRefIdeal.Gen.B2 m' c = Cert.GateUpIdeal.Gen.B2 m c := a2
  have b3 : Cert.GateUpRefIdeal.Gen.B3 m' c = Cert.GateUpIdeal.Gen.B3 m c := a3
  have b4 : Cert.GateUpRefIdeal.Gen.B4 m' c = Cert.GateUpIdeal.Gen.B4 m c := a4
  have b5 : Cert.GateUpRefIdeal.Gen.B5 m' c = Cert.GateUpIdeal.Gen.B5 m c := a5
  have b6 : Cert.GateUpRefIdeal.Gen.B6 m' c = Cert.GateUpIdeal.Gen.B6 m c := a6
  have b7 : Cert.GateUpRefIdeal.Gen.B7 m' c = Cert.GateUpIdeal.Gen.B7 m c := a7
  have b8 : Cert.GateUpRefIdeal.Gen.B8 m' c = Cert.GateUpIdeal.Gen.B8 m c := a8
  have h := h c
  rw [b0, b1, b2, b3, b4, b5, b6, b7, b8] at h
  simp only [codes_eq, scales_eq] at h
  exact h

end Cert.Proof

end
-- ==== Proof.DownKit.lean ====
/- What the certificate of the down call is stated over: the body's branch conditions in closed form, where the windows
are idle, the staging memrefs and the scratch buffers. -/
module

public import proofs.«01_k».proof.Proof.Gen.DownIdeal.Frame
public import proofs.«01_k».proof.Proof.Gen.DownIdeal.Skeleton
public import Idealize.ShloMosaic.Lib.Pipeline.TableIdle

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body's five branches -/

/-- The condition of `pl.when((n == 0) & (k == 0))`. -/
abbrev cond0_1 (i : grid0.Coords) : Prop := k0_cond1 i = 1#1
/-- The condition of `pl.when(n == 0)`. -/
abbrev cond0_2 (i : grid0.Coords) : Prop := k0_cond2 i = 1#1
/-- The condition of `pl.when(k == 0)`. -/
abbrev cond0_3 (i : grid0.Coords) : Prop :=
  Scalar.cmpi .ne (Scalar.extui (Scalar.cmpi .eq (BitVec.ofNat 32 (i 1).val) 0#32) : BitVec 32) 0#32 = 1#1
/-- The condition of `pl.when(k == nk - 1)`. -/
abbrev cond0_4 (i : grid0.Coords) : Prop := k0_cond4 i = 1#1
/-- The condition of `pl.when((n == nn - 1) & (k == nk - 1))`. -/
abbrev cond0_5 (i : grid0.Coords) : Prop := k0_cond5 i = 1#1
/-- The first branch is taken at the first grid point only. -/
theorem hcond0_1 : ∀ t : Fin cfg0.N, cond0_1 (grid0.coords t) ↔ t.val = 0 := (by decide +kernel : ∀ t : Fin grid0.N, cond0_1 (grid0.coords t) ↔ t.val = 0)
/-- The second branch is taken in the first column block. -/
theorem hcond0_2 : ∀ t : Fin cfg0.N, cond0_2 (grid0.coords t) ↔ t.val < 12 := (by decide +kernel : ∀ t : Fin grid0.N, cond0_2 (grid0.coords t) ↔ t.val < 12)
/-- The third branch is taken at the first chunk of a column block. -/
theorem hcond0_3 : ∀ t : Fin cfg0.N, cond0_3 (grid0.coords t) ↔ t.val % 12 = 0 := (by decide +kernel : ∀ t : Fin grid0.N, cond0_3 (grid0.coords t) ↔ t.val % 12 = 0)
/-- The fourth branch is taken at the last chunk of a column block. -/
theorem hcond0_4 : ∀ t : Fin cfg0.N, cond0_4 (grid0.coords t) ↔ t.val % 12 = 11 := (by decide +kernel : ∀ t : Fin grid0.N, cond0_4 (grid0.coords t) ↔ t.val % 12 = 11)
/-- The fifth branch is taken at the last grid point only. -/
theorem hcond0_5 : ∀ t : Fin cfg0.N, cond0_5 (grid0.coords t) ↔ t.val = 167 := (by decide +kernel : ∀ t : Fin grid0.N, cond0_5 (grid0.coords t) ↔ t.val = 167)

/-! ## Where the windows are idle -/

/-- Window 0 is used at every grid point. -/
theorem liveAt0_0 : ∀ t : Fin cfg0.N, cfg0.idle 0 (grid0.coords t) = false := fun _ => rfl
/-- Window 1 is used at every grid point. -/
theorem liveAt0_1 : ∀ t : Fin cfg0.N, cfg0.idle 1 (grid0.coords t) = false := fun _ => rfl
/-- Window 2 is used at every grid point. -/
theorem liveAt0_2 : ∀ t : Fin cfg0.N, cfg0.idle 2 (grid0.coords t) = false := fun _ => rfl
/-- Window 3 is used at every grid point. -/
theorem liveAt0_3 : ∀ t : Fin cfg0.N, cfg0.idle 3 (grid0.coords t) = false := fun _ => rfl
/-- Window 4 is used at every grid point. -/
theorem liveAt0_4 : ∀ t : Fin cfg0.N, cfg0.idle 4 (grid0.coords t) = false := fun _ => rfl
/-- Window 5 is used at every grid point. -/
theorem liveAt0_5 : ∀ t : Fin cfg0.N, cfg0.idle 5 (grid0.coords t) = false := fun _ => rfl
/-- Window 6 is used at every grid point. -/
theorem liveAt0_6 : ∀ t : Fin cfg0.N, cfg0.idle 6 (grid0.coords t) = false := fun _ => rfl
/-- Window 7 is used at every grid point. -/
theorem liveAt0_7 : ∀ t : Fin cfg0.N, cfg0.idle 7 (grid0.coords t) = false := fun _ => rfl
/-- Window 8 is used at every grid point. -/
theorem liveAt0_8 : ∀ t : Fin cfg0.N, cfg0.idle 8 (grid0.coords t) = false := fun _ => rfl
/-- Window 9 is used at every grid point. -/
theorem liveAt0_9 : ∀ t : Fin cfg0.N, cfg0.idle 9 (grid0.coords t) = false := fun _ => rfl
/-- Output 10 is stored under the body's condition 5 and idle where it fails. -/
theorem liveAt0_10 : ∀ t : Fin cfg0.N, t.val = 167 → cfg0.idle 10 (grid0.coords t) = false := by decide +kernel
/-- Window 10 is not touched at these grid points. -/
theorem idleAt0_10 : ∀ t : Fin cfg0.N, ¬(t.val = 167) → cfg0.idle 10 (grid0.coords t) = true := by decide +kernel
/-- And window 10 is not written back there. -/
theorem noFlush0_10 : ∀ t : Fin cfg0.N, ¬(t.val = 167) → (cfg0.win 10).flush t = false := by decide +kernel
/-- Output 11 is stored under the body's condition 5 and idle where it fails. -/
theorem liveAt0_11 : ∀ t : Fin cfg0.N, t.val = 167 → cfg0.idle 11 (grid0.coords t) = false := by decide +kernel
/-- Window 11 is not touched at these grid points. -/
theorem idleAt0_11 : ∀ t : Fin cfg0.N, ¬(t.val = 167) → cfg0.idle 11 (grid0.coords t) = true := by decide +kernel
/-- And window 11 is not written back there. -/
theorem noFlush0_11 : ∀ t : Fin cfg0.N, ¬(t.val = 167) → (cfg0.win 11).flush t = false := by decide +kernel
/-- Output 12 is stored under the body's condition 4 and idle where it fails. -/
theorem liveAt0_12 : ∀ t : Fin cfg0.N, t.val % 12 = 11 → cfg0.idle 12 (grid0.coords t) = false := by decide +kernel
/-- Window 12 is not touched at these grid points. -/
theorem idleAt0_12 : ∀ t : Fin cfg0.N, ¬(t.val % 12 = 11) → cfg0.idle 12 (grid0.coords t) = true := by decide +kernel
/-- And window 12 is not written back there. -/
theorem noFlush0_12 : ∀ t : Fin cfg0.N, ¬(t.val % 12 = 11) → (cfg0.win 12).flush t = false := by decide +kernel
/-- Output 13 is stored under the body's condition 4 and idle where it fails. -/
theorem liveAt0_13 : ∀ t : Fin cfg0.N, t.val % 12 = 11 → cfg0.idle 13 (grid0.coords t) = false := by decide +kernel
/-- Window 13 is not touched at these grid points. -/
theorem idleAt0_13 : ∀ t : Fin cfg0.N, ¬(t.val % 12 = 11) → cfg0.idle 13 (grid0.coords t) = true := by decide +kernel
/-- And window 13 is not written back there. -/
theorem noFlush0_13 : ∀ t : Fin cfg0.N, ¬(t.val % 12 = 11) → (cfg0.win 13).flush t = false := by decide +kernel
/-- Output 14 is stored under the body's condition 2 and idle where it fails. -/
theorem liveAt0_14 : ∀ t : Fin cfg0.N, t.val < 12 → cfg0.idle 14 (grid0.coords t) = false := by decide +kernel
/-- Window 14 is not touched at these grid points. -/
theorem idleAt0_14 : ∀ t : Fin cfg0.N, ¬(t.val < 12) → cfg0.idle 14 (grid0.coords t) = true := by decide +kernel
/-- Output 15 is stored under the body's condition 1 and idle where it fails. -/
theorem liveAt0_15 : ∀ t : Fin cfg0.N, t.val = 0 → cfg0.idle 15 (grid0.coords t) = false := by decide +kernel
/-- Window 15 is not touched at these grid points. -/
theorem idleAt0_15 : ∀ t : Fin cfg0.N, ¬(t.val = 0) → cfg0.idle 15 (grid0.coords t) = true := by decide +kernel
/-- Output 16 is stored under the body's condition 2 and idle where it fails. -/
theorem liveAt0_16 : ∀ t : Fin cfg0.N, t.val < 12 → cfg0.idle 16 (grid0.coords t) = false := by decide +kernel
/-- Window 16 is not touched at these grid points. -/
theorem idleAt0_16 : ∀ t : Fin cfg0.N, ¬(t.val < 12) → cfg0.idle 16 (grid0.coords t) = true := by decide +kernel
/-- Output 17 is stored under the body's condition 1 and idle where it fails. -/
theorem liveAt0_17 : ∀ t : Fin cfg0.N, t.val = 0 → cfg0.idle 17 (grid0.coords t) = false := by decide +kernel
/-- Window 17 is not touched at these grid points. -/
theorem idleAt0_17 : ∀ t : Fin cfg0.N, ¬(t.val = 0) → cfg0.idle 17 (grid0.coords t) = true := by decide +kernel
/-- Where output 14's buffer holds nothing stored since its last write-back. -/
def freshTab0_14 : ℕ → Bool
  | 0 => true
  | n + 1 => (0x8000000000000000000000000000000000000007ff : ℕ).testBit n
/-- The table of window 14 obeys the recursion that says when its buffer holds nothing yet. -/
theorem freshTab0_14_step : ∀ t : Fin cfg0.N,
    freshTab0_14 (t.val + 1) = ((cfg0.win 14).flush t || (cfg0.idle 14 (cfg0.grid.coords t) && freshTab0_14 t.val)) := by decide +kernel
/-- So the table says when window 14 holds nothing yet. -/
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- Where output 14 is idle, its buffer holds what was stored last. -/
theorem notFresh0_14 : ∀ t : Fin cfg0.N, ¬(t.val < 12) → cfg0.fresh 14 t.val = false := by
  intro t; rw [fresh0_14_eq t]; revert t; decide +kernel
/-- Where output 15's buffer holds nothing stored since its last write-back. -/
def freshTab0_15 : ℕ → Bool
  | 0 => true
  | n + 1 => (0x800000000000000000000000000000000000000000 : ℕ).testBit n
/-- The table of window 15 obeys the recursion that says when its buffer holds nothing yet. -/
theorem freshTab0_15_step : ∀ t : Fin cfg0.N,
    freshTab0_15 (t.val + 1) = ((cfg0.win 15).flush t || (cfg0.idle 15 (cfg0.grid.coords t) && freshTab0_15 t.val)) := by decide +kernel
/-- So the table says when window 15 holds nothing yet. -/
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- Where output 15 is idle, its buffer holds what was stored last. -/
theorem notFresh0_15 : ∀ t : Fin cfg0.N, ¬(t.val = 0) → cfg0.fresh 15 t.val = false := by
  intro t; rw [fresh0_15_eq t]; revert t; decide +kernel
/-- Where output 16's buffer holds nothing stored since its last write-back. -/
def freshTab0_16 : ℕ → Bool
  | 0 => true
  | n + 1 => (0x8000000000000000000000000000000000000007ff : ℕ).testBit n
/-- The table of window 16 obeys the recursion that says when its buffer holds nothing yet. -/
theorem freshTab0_16_step : ∀ t : Fin cfg0.N,
    freshTab0_16 (t.val + 1) = ((cfg0.win 16).flush t || (cfg0.idle 16 (cfg0.grid.coords t) && freshTab0_16 t.val)) := by decide +kernel
/-- So the table says when window 16 holds nothing yet. -/
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- Where output 16 is idle, its buffer holds what was stored last. -/
theorem notFresh0_16 : ∀ t : Fin cfg0.N, ¬(t.val < 12) → cfg0.fresh 16 t.val = false := by
  intro t; rw [fresh0_16_eq t]; revert t; decide +kernel
/-- Where output 17's buffer holds nothing stored since its last write-back. -/
def freshTab0_17 : ℕ → Bool
  | 0 => true
  | n + 1 => (0x800000000000000000000000000000000000000000 : ℕ).testBit n
/-- The table of window 17 obeys the recursion that says when its buffer holds nothing yet. -/
theorem freshTab0_17_step : ∀ t : Fin cfg0.N,
    freshTab0_17 (t.val + 1) = ((cfg0.win 17).flush t || (cfg0.idle 17 (cfg0.grid.coords t) && freshTab0_17 t.val)) := by decide +kernel
/-- So the table says when window 17 holds nothing yet. -/
theorem fresh0_17_eq (t : Fin cfg0.N) : cfg0.fresh 17 t.val = freshTab0_17 t.val :=
  Pipeline.Cfg.fresh_tab cfg0 17 freshTab0_17 rfl freshTab0_17_step t.val (Nat.le_of_lt t.isLt)
/-- Where output 17 is idle, its buffer holds what was stored last. -/
theorem notFresh0_17 : ∀ t : Fin cfg0.N, ¬(t.val = 0) → cfg0.fresh 17 t.val = false := by
  intro t; rw [fresh0_17_eq t]; revert t; decide +kernel
/-- Each window's current staging memref at point `t`, spelled as the pipeline passes it (`bodyAt0`), and its wholeness. -/
abbrev ms0_0 (t : Fin cfg0.N) : Memref sig .tc .vmem S256x1536 .f32 := win0_0.stage (cfg0.slots t 0)
/-- Window 0's buffer is a whole array. -/
abbrev hs0_0 (t : Fin cfg0.N) : (ms0_0 t).IsWhole := hstage0_0 ((cfg0.slots t 0).cast nbuf0_0)
/-- Window 1's buffer at a grid point. -/
abbrev ms0_1 (t : Fin cfg0.N) : Memref sig .tc .vmem S256x1536 .f32 := win0_1.stage (cfg0.slots t 1)
/-- Window 1's buffer is a whole array. -/
abbrev hs0_1 (t : Fin cfg0.N) : (ms0_1 t).IsWhole := hstage0_1 ((cfg0.slots t 1).cast nbuf0_1)
/-- Window 2's buffer at a grid point. -/
abbrev ms0_2 (t : Fin cfg0.N) : Memref sig .tc .vmem S256x1536 .bf16 := win0_2.stage (cfg0.slots t 2)
/-- Window 2's buffer is a whole array. -/
abbrev hs0_2 (t : Fin cfg0.N) : (ms0_2 t).IsWhole := hstage0_2 ((cfg0.slots t 2).cast nbuf0_2)
/-- Window 3's buffer at a grid point. -/
abbrev ms0_3 (t : Fin cfg0.N) : Memref sig .tc .vmem S256x1536 .bf16 := win0_3.stage (cfg0.slots t 3)
/-- Window 3's buffer is a whole array. -/
abbrev hs0_3 (t : Fin cfg0.N) : (ms0_3 t).IsWhole := hstage0_3 ((cfg0.slots t 3).cast nbuf0_3)
/-- Window 4's buffer at a grid point. -/
abbrev ms0_4 (t : Fin cfg0.N) : Memref sig .tc .vmem S256x128 .f32 := win0_4.stage (cfg0.slots t 4)
/-- Window 4's buffer is a whole array. -/
abbrev hs0_4 (t : Fin cfg0.N) : (ms0_4 t).IsWhole := hstage0_4 ((cfg0.slots t 4).cast nbuf0_4)
/-- Window 5's buffer at a grid point. -/
abbrev ms0_5 (t : Fin cfg0.N) : Memref sig .tc .vmem S256x128 .f32 := win0_5.stage (cfg0.slots t 5)
/-- Window 5's buffer is a whole array. -/
abbrev hs0_5 (t : Fin cfg0.N) : (ms0_5 t).IsWhole := hstage0_5 ((cfg0.slots t 5).cast nbuf0_5)
/-- Window 6's buffer at a grid point. -/
abbrev ms0_6 (t : Fin cfg0.N) : Memref sig .tc .vmem S1536x512 .bf16 := win0_6.stage (cfg0.slots t 6)
/-- Window 6's buffer is a whole array. -/
abbrev hs0_6 (t : Fin cfg0.N) : (ms0_6 t).IsWhole := hstage0_6 ((cfg0.slots t 6).cast nbuf0_6)
/-- Window 7's buffer at a grid point. -/
abbrev ms0_7 (t : Fin cfg0.N) : Memref sig .tc .vmem S768x512 .i8 := win0_7.stage (cfg0.slots t 7)
/-- Window 7's buffer is a whole array. -/
abbrev hs0_7 (t : Fin cfg0.N) : (ms0_7 t).IsWhole := hstage0_7 ((cfg0.slots t 7).cast nbuf0_7)
/-- Window 8's buffer at a grid point. -/
abbrev ms0_8 (t : Fin cfg0.N) : Memref sig .tc .vmem S1x12x512 .f32 := win0_8.stage (cfg0.slots t 8)
/-- Window 8's buffer is a whole array. -/
abbrev hs0_8 (t : Fin cfg0.N) : (ms0_8 t).IsWhole := hstage0_8 ((cfg0.slots t 8).cast nbuf0_8)
/-- Window 9's buffer at a grid point. -/
abbrev ms0_9 (t : Fin cfg0.N) : Memref sig .tc .vmem S1x12x512 .i8 := win0_9.stage (cfg0.slots t 9)
/-- Window 9's buffer is a whole array. -/
abbrev hs0_9 (t : Fin cfg0.N) : (ms0_9 t).IsWhole := hstage0_9 ((cfg0.slots t 9).cast nbuf0_9)
/-- Window 10's buffer at a grid point. -/
abbrev ms0_10 (t : Fin cfg0.N) : Memref sig .tc .vmem S4x256x1 .f32 := win0_10.stage (cfg0.slots t 10)
/-- Window 10's buffer is a whole array. -/
abbrev hs0_10 (t : Fin cfg0.N) : (ms0_10 t).IsWhole := hstage0_10 ((cfg0.slots t 10).cast nbuf0_10)
/-- Window 11's buffer at a grid point. -/
abbrev ms0_11 (t : Fin cfg0.N) : Memref sig .tc .vmem S256x1 .f32 := win0_11.stage (cfg0.slots t 11)
/-- Window 11's buffer is a whole array. -/
abbrev hs0_11 (t : Fin cfg0.N) : (ms0_11 t).IsWhole := hstage0_11 ((cfg0.slots t 11).cast nbuf0_11)
/-- Window 12's buffer at a grid point. -/
abbrev ms0_12 (t : Fin cfg0.N) : Memref sig .tc .vmem S4x512 .f32 := win0_12.stage (cfg0.slots t 12)
/-- Window 12's buffer is a whole array. -/
abbrev hs0_12 (t : Fin cfg0.N) : (ms0_12 t).IsWhole := hstage0_12 ((cfg0.slots t 12).cast nbuf0_12)
/-- Window 13's buffer at a grid point. -/
abbrev ms0_13 (t : Fin cfg0.N) : Memref sig .tc .vmem S256x512 .bf16 := win0_13.stage (cfg0.slots t 13)
/-- Window 13's buffer is a whole array. -/
abbrev hs0_13 (t : Fin cfg0.N) : (ms0_13 t).IsWhole := hstage0_13 ((cfg0.slots t 13).cast nbuf0_13)
/-- Window 14's buffer at a grid point. -/
abbrev ms0_14 (t : Fin cfg0.N) : Memref sig .tc .vmem S256x1536 .i8 := win0_14.stage (cfg0.slots t 14)
/-- Window 14's buffer is a whole array. -/
abbrev hs0_14 (t : Fin cfg0.N) : (ms0_14 t).IsWhole := hstage0_14 ((cfg0.slots t 14).cast nbuf0_14)
/-- Window 15's buffer at a grid point. -/
abbrev ms0_15 (t : Fin cfg0.N) : Memref sig .tc .vmem S256x1 .f32 := win0_15.stage (cfg0.slots t 15)
/-- Window 15's buffer is a whole array. -/
abbrev hs0_15 (t : Fin cfg0.N) : (ms0_15 t).IsWhole := hstage0_15 ((cfg0.slots t 15).cast nbuf0_15)
/-- Window 16's buffer at a grid point. -/
abbrev ms0_16 (t : Fin cfg0.N) : Memref sig .tc .vmem S256x1536 .i8 := win0_16.stage (cfg0.slots t 16)
/-- Window 16's buffer is a whole array. -/
abbrev hs0_16 (t : Fin cfg0.N) : (ms0_16 t).IsWhole := hstage0_16 ((cfg0.slots t 16).cast nbuf0_16)
/-- Window 17's buffer at a grid point. -/
abbrev ms0_17 (t : Fin cfg0.N) : Memref sig .tc .vmem S256x1 .f32 := win0_17.stage (cfg0.slots t 17)
/-- Window 17's buffer is a whole array. -/
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S768x18432 .bf16 := Memref.whole cc0_scratch0
/-- Scratch buffer 1. -/
abbrev scM0_1 : Memref sig .tc .vmem S512x18432 .i8 := Memref.whole cc0_scratch1
/-- Scratch buffer 2. -/
abbrev scM0_2 : Memref sig .tc .vmem S1536x512 .bf16 := Memref.whole cc0_scratch2
/-- Scratch buffer 3. -/
abbrev scM0_3 : Memref sig .tc .vmem S768x512 .f32 := Memref.whole cc0_scratch3
/-- Scratch buffer 4. -/
abbrev scM0_4 : Memref sig .tc .vmem S512x512 .f32 := Memref.whole cc0_scratch4
/-- Scratch buffer 5. -/
abbrev scM0_5 : Memref sig .tc .vmem S5x256x128 .f32 := Memref.whole cc0_scratch5

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.DownIdeal.Gen

end
-- ==== Proof.DownMath.lean ====
/- The values the down body stores, as functions of the values it loads, for any arithmetic; and how a load reads what
whole-block, per-chunk and per-group stores left. -/
module

public import proofs.«01_k».proof.Proof.DownKit
public import Idealize.ShloMosaic.Lib.Pointwise
public import Idealize.ShloMosaic.Lib.WholeRead
public import Idealize.ShloMosaic.Lib.WritesUnit
public import Idealize.ShloMosaic.Lib.Pipeline.ReadBack

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores, as functions of what it loads -/

/-- 256 rows of the reference products' accumulator, from row `o` on. -/
def rowsB (o : ℕ) (ho : o + 256 ≤ 768) (w : Vec F S768x512 .f32) : Vec F S256x512 .f32 := fun j =>
  w (ix2 ⟨o + (j 0).val, by have : (j 0).val < 256 := (j 0).isLt; omega⟩ (j 1))
/-- 256 rows of the quantised products' accumulator, from row `o` on. -/
def rowsQ (o : ℕ) (ho : o + 256 ≤ 512) (w : Vec F S512x512 .f32) : Vec F S256x512 .f32 := fun j =>
  w (ix2 ⟨o + (j 0).val, by have : (j 0).val < 256 := (j 0).isLt; omega⟩ (j 1))
/-- One of the five lane-wise token accumulators. -/
def tokSl (k : ℕ) (hk : k < 5) (w : Vec F S5x256x128 .f32) : Vec F S1x256x128 .f32 := fun j => w (ix3 ⟨k, hk⟩ (j 1) (j 2))
/-- Chunk `k` of the carried activations: 1536 columns. -/
def hcRead (k : Fin 12) (h : Vec F S768x18432 .bf16) : Vec F S768x1536 .bf16 := fun j =>
  h (ix2 (j 0) ⟨1536 * k.val + (j 1).val, by have : (j 1).val < 1536 := (j 1).isLt; omega⟩)
/-- Chunk `k` of the carried codes: 1536 columns. -/
def qcRead (k : Fin 12) (h : Vec F S512x18432 .i8) : Vec F S512x1536 .i8 := fun j =>
  h (ix2 (j 0) ⟨1536 * k.val + (j 1).val, by have : (j 1).val < 1536 := (j 1).isLt; omega⟩)
/-- Three blocks of 256 rows on top of each other. -/
def hRows (a b d : Vec F S256x1536 .bf16) : Vec F S768x1536 .bf16 := fun y =>
  if h : (y 0).val < 256 then a (ix2 ⟨(y 0).val, h⟩ (y 1))
  else if h2 : (y 0).val < 512 then b (ix2 ⟨(y 0).val - 256, by omega⟩ (y 1))
  else d (ix2 ⟨(y 0).val - 512, by have : (y 0).val < 768 := (y 0).isLt; omega⟩ (y 1))
/-- Two blocks of 256 rows of codes on top of each other. -/
def qRows (a b : Vec F S256x1536 .i8) : Vec F S512x1536 .i8 := fun y =>
  if h : (y 0).val < 256 then a (ix2 ⟨(y 0).val, h⟩ (y 1))
  else b (ix2 ⟨(y 0).val - 256, by have : (y 0).val < 512 := (y 0).isLt; omega⟩ (y 1))
/-- The chunk of activations a point of the first column block stores: `h_ref` in bfloat16, the gate and the up product. -/
def hChunk (x3 : Vec F S256x1536 .f32) (x4 x5 : Vec F S256x1536 .bf16) : Vec F S768x1536 .bf16 := hRows (k0_pay8 x3) (k0_pay9 x4) (k0_pay10 x5)
/-- The chunk of codes it stores: those of `h_full` and those of `h_ref`. -/
def qChunk (x2 x3 : Vec F S256x1536 .f32) (fs rs : Vec F S256x1 .f32) : Vec F S512x1536 .i8 :=
  qRows (k0_pay31 (k0_pay11 x2 fs)) (k0_pay32 (k0_pay12 x3 rs))
/-- The carried activations with chunk `k` replaced. -/
def hcPut (k : Fin 12) (ch : Vec F S768x1536 .bf16) (old : Vec F S768x18432 .bf16) : Vec F S768x18432 .bf16 := fun y =>
  if (y 1).val / 1536 = k.val then ch (ix2 (y 0) ⟨(y 1).val % 1536, Nat.mod_lt _ (by decide)⟩) else old y
/-- The carried codes with chunk `k` replaced. -/
def qcPut (k : Fin 12) (ch : Vec F S512x1536 .i8) (old : Vec F S512x18432 .i8) : Vec F S512x18432 .i8 := fun y =>
  if (y 1).val / 1536 = k.val then ch (ix2 (y 0) ⟨(y 1).val % 1536, Nat.mod_lt _ (by decide)⟩) else old y
/-- The dequantised weights the twelve groups leave in the scratch: row `y 0` belongs to group `y 0 / 128`, and is the body's own group
    computation on the group's zero-point row, its 64 rows of packed codes and its scale row. -/
def deqAll (q : Vec F S768x512 .i8) (s : Vec F S1x12x512 .f32) (z : Vec F S1x12x512 .i8) : Vec F S1536x512 .bf16 := fun y =>
  k0_pay39 (fun x => z (ix3 0 ⟨(y 0).val / 128, by have : (y 0).val < 1536 := (y 0).isLt; omega⟩ (x 2)))
    (fun x => q (ix2 ⟨64 * ((y 0).val / 128) + (x 0).val, by
      have h1 : (y 0).val < 1536 := (y 0).isLt; have h2 : (x 0).val < 64 := (x 0).isLt; omega⟩ (x 1)))
    (fun x => s (ix3 0 ⟨(y 0).val / 128, by have : (y 0).val < 1536 := (y 0).isLt; omega⟩ (x 2)))
    (ix2 ⟨(y 0).val % 128, Nat.mod_lt _ (by decide)⟩ (y 1))
/-- The reference products' accumulator after one more product. -/
def accbNew (old : Vec F S768x512 .f32) (h : Vec F S768x1536 .bf16) (w : Vec F S1536x512 .bf16) : Vec F S768x512 .f32 :=
  k0_pay1 old h w (constant S768x512 .f32 0x00000000#32)
/-- The quantised products' accumulator after one more product. -/
def accqNew (old : Vec F S512x512 .f32) (q : Vec F S512x1536 .i8) (d : Vec F S1536x512 .bf16) : Vec F S512x512 .f32 := k0_pay2 old q d
/-- `y_ref` of a column block: the first 256 rows. -/
def B0 (a : Vec F S768x512 .f32) : Vec F S256x512 .f32 := rowsB 0 (by decide) a
/-- Another third of the accumulator's rows. -/
def B1 (a : Vec F S768x512 .f32) : Vec F S256x512 .f32 := rowsB 256 (by decide) a
/-- Another third of the accumulator's rows. -/
def B2 (a : Vec F S768x512 .f32) : Vec F S256x512 .f32 := rowsB 512 (by decide) a
/-- A half of the quantised accumulator's rows. -/
def Q0 (q : Vec F S512x512 .f32) : Vec F S256x512 .f32 := rowsQ 0 (by decide) q
/-- A half of the quantised accumulator's rows. -/
def Q1 (q : Vec F S512x512 .f32) : Vec F S256x512 .f32 := rowsQ 256 (by decide) q
/-- The token accumulators after a column block. -/
def tokNew (a : Vec F S768x512 .f32) (q : Vec F S512x512 .f32) (fs rs : Vec F S256x1 .f32) (old : Vec F S5x256x128 .f32) : Vec F S5x256x128 .f32 := fun y =>
  if (y 0).val = 0 then k0_pay18 (k0_pay16 (B0 a) (Q0 q) fs) (tokSl 0 (by decide) old) (ix3 0 (y 1) (y 2))
  else if (y 0).val = 1 then k0_pay21 (B0 a) (B1 a) (tokSl 1 (by decide) old) (ix3 0 (y 1) (y 2))
  else if (y 0).val = 2 then k0_pay3 (k0_pay22 (B0 a) (B2 a)) (tokSl 2 (by decide) old) (ix3 0 (y 1) (y 2))
  else if (y 0).val = 3 then k0_pay6 (B0 a) (k0_pay15 (Q1 q) rs) (tokSl 3 (by decide) old) (ix3 0 (y 1) (y 2))
  else k0_pay14 (B0 a) (tokSl 4 (by decide) old) (ix3 0 (y 1) (y 2))
/-- The channel errors of a column block. -/
def ecNew (a : Vec F S768x512 .f32) (q : Vec F S512x512 .f32) (fs rs : Vec F S256x1 .f32) : Vec F S4x512 .f32 := fun y =>
  if (y 0).val = 0 then k0_pay17 (B0 a) (Q0 q) fs (ix2 0 (y 1))
  else if (y 0).val = 1 then k0_pay20 (B0 a) (B1 a) (ix2 0 (y 1))
  else if (y 0).val = 2 then k0_pay23 (B0 a) (B2 a) (ix2 0 (y 1))
  else k0_pay5 (B0 a) (k0_pay15 (Q1 q) rs) (ix2 0 (y 1))
/-- The token errors: the lanes of the first four accumulators summed. -/
def etNew (w : Vec F S5x256x128 .f32) : Vec F S4x256x1 .f32 := fun y =>
  if (y 0).val = 0 then k0_pay24 (tokSl 0 (by decide) w) (ix3 0 (y 1) (y 2))
  else if (y 0).val = 1 then k0_pay25 (tokSl 1 (by decide) w) (ix3 0 (y 1) (y 2))
  else if (y 0).val = 2 then k0_pay26 (tokSl 2 (by decide) w) (ix3 0 (y 1) (y 2))
  else k0_pay27 (tokSl 3 (by decide) w) (ix3 0 (y 1) (y 2))
/-- The token signals: the lanes of the last accumulator summed. -/
def stNew (w : Vec F S5x256x128 .f32) : Vec F S256x1 .f32 := k0_pay7 (tokSl 4 (by decide) w)

/-! ## Loads and stores of whole buffers and of parts -/

/-- The zero offsets. -/
theorem zero2 : (![0, 0] : Fin 2 → ℕ) = fun _ => 0 := by funext a; fin_cases a <;> rfl
/-- The zero offsets. -/
theorem zero3 : (![0, 0, 0] : Fin 3 → ℕ) = fun _ => 0 := by funext a; fin_cases a <;> rfl

/-- A load of a whole buffer held at `X` reads `X`. -/
theorem readAt_whole {s : Shape} {e : EltTy} {κ : Kind} {sp : Space} {a : Memref sig κ sp s e} (h : a.IsWhole) (X : s.Idx → Elt F e)
    {off : Fin s.rank → ℕ} (ho : off = fun _ => 0) (inb : ∀ i, off i + s.size i ≤ s.size i) :
    View.readAt (Elt F) a.view (Rect.unit (s := s) off s.size inb).toLoadRect (h.unread X) = X := by
  subst ho
  funext x
  rw [h.readAt_unread]
  exact congrArg X (funext fun i => Fin.ext (by show 0 + 1 * (x i).val = _; omega))

/-- Storing one whole block leaves its payload, whatever was there. -/
theorem read_store {s : Shape} {e : EltTy} {κ : Kind} {sp : Space} (v : View sig κ sp s e) (f : v.ty.Contents (Elt F)) {off : Fin s.rank → ℕ} (ho : off = fun _ => 0)
    (inb : ∀ i, off i + s.size i ≤ s.size i) (w w' : s.Idx → Elt F e) (hw : w = w') (L : List (View.Piece (Elt F) s e)) :
    v.read (Elt F) (v.writes (Elt F) f (⟨Rect.unit off s.size inb, w⟩ :: L)) = w' := by
  subst hw
  rw [View.read_writes_eq_canon v f _ (fun y => ⟨_, List.mem_cons_self, View.mem_set_unit_zero ho inb y⟩), View.canon_cons_unit_zero ho]

/-- A load of a whole buffer last stored whole reads the payload. -/
theorem readCov_whole {s : Shape} {e : EltTy} {κ : Kind} {sp : Space} (v : View sig κ sp s e) {off : Fin s.rank → ℕ}
    (inb : ∀ i, off i + s.size i ≤ s.size i) (w w' : s.Idx → Elt F e) (hw : w = w') (L : List (View.Piece (Elt F) s e)) :
    v.readCov (⟨Rect.unit off s.size inb, w⟩ :: L) (Rect.unit off s.size inb).toLoadRect = w' :=
  (View.readCov_cons_toLoadRect v (Rect.unit off s.size inb) w L).trans hw

/-- A load of 256 rows of a buffer last stored whole reads those rows of the payload. -/
theorem readCov_rowsB {κ : Kind} {sp : Space} (v : View sig κ sp S768x512 .f32) (inb : ∀ i, ![0, 0] i + S768x512.size i ≤ S768x512.size i)
    (w w' : Vec F S768x512 .f32) (hw : w = w') (o : ℕ) (ho : o + 256 ≤ 768) (inb' : ∀ i, ![o, 0] i + S256x512.size i ≤ S768x512.size i) :
    v.readCov [⟨Rect.unit (s := S768x512) ![0, 0] S768x512.size inb, w⟩] (Rect.unit (s := S768x512) ![o, 0] S256x512.size inb').toLoadRect = rowsB o ho w' := by
  funext j
  refine (congrFun (read_store v v.junk zero2 inb w w' hw []) _).trans (congrArg w' (funext fun i => Fin.ext ?_))
  fin_cases i
  · show o + 1 * (j 0).val = o + (j 0).val; omega
  · show 0 + 1 * (j 1).val = (j 1).val; omega
/-- Reading a half of the quantised accumulator. -/
theorem readCov_rowsQ {κ : Kind} {sp : Space} (v : View sig κ sp S512x512 .f32) (inb : ∀ i, ![0, 0] i + S512x512.size i ≤ S512x512.size i)
    (w w' : Vec F S512x512 .f32) (hw : w = w') (o : ℕ) (ho : o + 256 ≤ 512) (inb' : ∀ i, ![o, 0] i + S256x512.size i ≤ S512x512.size i) :
    v.readCov [⟨Rect.unit (s := S512x512) ![0, 0] S512x512.size inb, w⟩] (Rect.unit (s := S512x512) ![o, 0] S256x512.size inb').toLoadRect = rowsQ o ho w' := by
  funext j
  refine (congrFun (read_store v v.junk zero2 inb w w' hw []) _).trans (congrArg w' (funext fun i => Fin.ext ?_))
  fin_cases i
  · show o + 1 * (j 0).val = o + (j 0).val; omega
  · show 0 + 1 * (j 1).val = (j 1).val; omega

/-- A load of one token accumulator of a buffer held at `X`. -/
theorem readAt_tok {κ : Kind} {sp : Space} {a : Memref sig κ sp S5x256x128 .f32} (h : a.IsWhole) (X : Vec F S5x256x128 .f32) (k : ℕ) (hk : k < 5)
    (inb : ∀ i, ![k, 0, 0] i + S1x256x128.size i ≤ S5x256x128.size i) :
    View.readAt (Elt F) a.view (Rect.unit (s := S5x256x128) ![k, 0, 0] S1x256x128.size inb).toLoadRect (h.unread X) = tokSl k hk X := by
  funext j
  rw [h.readAt_unread]
  have : (j 0).val < 1 := (j 0).isLt
  refine congrArg X (funext fun i => Fin.ext ?_)
  fin_cases i
  · show k + 1 * (j 0).val = k; omega
  · show 0 + 1 * (j 1).val = (j 1).val; omega
  · show 0 + 1 * (j 2).val = (j 2).val; omega

/-- Stores that are blocks of `G` and cover the buffer leave `G`. -/
theorem read_pieces {s : Shape} {e : EltTy} {κ : Kind} {sp : Space} (v : View sig κ sp s e) (f : v.ty.Contents (Elt F)) (G : s.Idx → Elt F e)
    (L : List (View.Piece (Elt F) s e)) (size : Fin s.rank → ℕ) (hP : View.PiecesOf G L) (hT : View.Piece.tiledL L size = true) :
    v.read (Elt F) (v.writes (Elt F) f L) = G := by
  rw [View.read_writes_eq_canon v f L (View.cover_of_tiledL L size hT)]
  funext y
  have h := View.canon_append_of_piecesOf G [] L hP y (View.cover_of_tiledL L size hT y)
  rwa [List.append_nil] at h
/-- and a load of the whole buffer reads `G`. -/
theorem readCov_pieces {s : Shape} {e : EltTy} {κ : Kind} {sp : Space} (v : View sig κ sp s e) (G : s.Idx → Elt F e)
    (L : List (View.Piece (Elt F) s e)) (size : Fin s.rank → ℕ) (hP : View.PiecesOf G L) (hT : View.Piece.tiledL L size = true)
    {off : Fin s.rank → ℕ} (ho : off = fun _ => 0) (inb : ∀ i, off i + s.size i ≤ s.size i) :
    v.readCov L (Rect.unit off s.size inb).toLoadRect = G := by
  subst ho
  funext j
  refine (congrFun (read_pieces v v.junk G L size hP hT) _).trans (congrArg G (funext fun i => Fin.ext ?_))
  show 0 + 1 * (j i).val = (j i).val; omega
/-- A load of one token accumulator after such stores. -/
theorem readCov_tok {κ : Kind} {sp : Space} (v : View sig κ sp S5x256x128 .f32) (G : Vec F S5x256x128 .f32)
    (L : List (View.Piece (Elt F) S5x256x128 .f32)) (hP : View.PiecesOf G L) (hT : View.Piece.tiledL L ![1, 256, 128] = true)
    (k : ℕ) (hk : k < 5) (inb : ∀ i, ![k, 0, 0] i + S1x256x128.size i ≤ S5x256x128.size i) :
    v.readCov L (Rect.unit (s := S5x256x128) ![k, 0, 0] S1x256x128.size inb).toLoadRect = tokSl k hk G := by
  funext j
  have : (j 0).val < 1 := (j 0).isLt
  refine (congrFun (read_pieces v v.junk G L _ hP hT) _).trans (congrArg G (funext fun i => Fin.ext ?_))
  fin_cases i
  · show k + 1 * (j 0).val = k; omega
  · show 0 + 1 * (j 1).val = (j 1).val; omega
  · show 0 + 1 * (j 2).val = (j 2).val; omega

/-- A piece with one leading row is a block of `G` when it agrees with that row of `G`. -/
theorem lead2 {n m : ℕ} {e : EltTy} (G : Vec F (⟨2, ![n, m]⟩ : Shape) e) (w w' : Vec F (⟨2, ![1, m]⟩ : Shape) e) (hw : w = w') (k : ℕ) (hk : k < n)
    (inb : ∀ i, ![k, 0] i + (⟨2, ![1, m]⟩ : Shape).size i ≤ (⟨2, ![n, m]⟩ : Shape).size i) (h : ∀ b : Fin m, w' (ix2 0 b) = G (ix2 ⟨k, hk⟩ b)) :
    ∀ x : (⟨2, ![1, m]⟩ : Shape).Idx, w x = G ((Rect.unit (s := (⟨2, ![n, m]⟩ : Shape)) ![k, 0] (⟨2, ![1, m]⟩ : Shape).size inb).emb x) := by
  subst hw
  intro x
  have h0 : (x 0).val < 1 := (x 0).isLt
  rw [show x = ix2 0 (x 1) from funext fun i => Fin.ext (by
    fin_cases i
    · show (x 0).val = 0; omega
    · rfl)]
  refine (h (x 1)).trans (congrArg G (funext fun i => Fin.ext ?_))
  fin_cases i
  · show k = k + 1 * 0; omega
  · show (x 1).val = 0 + 1 * (x 1).val; omega
/-- Equal leading slices. -/
theorem lead3 {n m l : ℕ} {e : EltTy} (G : Vec F (⟨3, ![n, m, l]⟩ : Shape) e) (w w' : Vec F (⟨3, ![1, m, l]⟩ : Shape) e) (hw : w = w') (k : ℕ) (hk : k < n)
    (inb : ∀ i, ![k, 0, 0] i + (⟨3, ![1, m, l]⟩ : Shape).size i ≤ (⟨3, ![n, m, l]⟩ : Shape).size i)
    (h : ∀ (b : Fin m) (d : Fin l), w' (ix3 0 b d) = G (ix3 ⟨k, hk⟩ b d)) :
    ∀ x : (⟨3, ![1, m, l]⟩ : Shape).Idx, w x = G ((Rect.unit (s := (⟨3, ![n, m, l]⟩ : Shape)) ![k, 0, 0] (⟨3, ![1, m, l]⟩ : Shape).size inb).emb x) := by
  subst hw
  intro x
  have h0 : (x 0).val < 1 := (x 0).isLt
  rw [show x = ix3 0 (x 1) (x 2) from funext fun i => Fin.ext (by
    fin_cases i
    · show (x 0).val = 0; omega
    · rfl
    · rfl)]
  refine (h (x 1) (x 2)).trans (congrArg G (funext fun i => Fin.ext ?_))
  fin_cases i
  · show k = k + 1 * 0; omega
  · show (x 1).val = 0 + 1 * (x 1).val; omega
  · show (x 2).val = 0 + 1 * (x 2).val; omega

/-! ## Equal values stored -/

/-- Equal arguments give equal values. -/
theorem congr3 {α β γ δ : Sort*} (f : α → β → γ → δ) {a a' : α} {b b' : β} {d d' : γ} (ha : a = a') (hb : b = b') (hd : d = d') : f a b d = f a' b' d' := by
  subst ha hb hd; rfl
/-- Equal operands give equal accumulators. -/
theorem accb_congr {o o' : Vec F S768x512 .f32} {h h' : Vec F S768x1536 .bf16} {w w' : Vec F S1536x512 .bf16} (ho : o = o') (hh : h = h') (hw : w = w') :
    k0_pay1 o h w (constant S768x512 .f32 0x00000000#32) = accbNew o' h' w' := by
  subst ho hh hw; rfl
/-- Equal operands give equal accumulators. -/
theorem accq_congr {o o' : Vec F S512x512 .f32} {q q' : Vec F S512x1536 .i8} {w w' : Vec F S1536x512 .bf16} (ho : o = o') (hq : q = q') (hw : w = w') :
    k0_pay2 o q w = accqNew o' q' w' := by
  subst ho hq hw; rfl

/-! ## The carried activations and codes -/

/-- Which operand a row of the stack is from. -/
theorem hRows_lo (p1 p2 p3 : Vec F S256x1536 .bf16) (a : Fin 768) (b : Fin 1536) (h : a.val < 256) : hRows p1 p2 p3 (ix2 a b) = p1 (ix2 ⟨a.val, h⟩ b) := dif_pos h
/-- Which operand a row of the stack is from. -/
theorem hRows_mid (p1 p2 p3 : Vec F S256x1536 .bf16) (a : Fin 768) (b : Fin 1536) (h : ¬a.val < 256) (h2 : a.val < 512) :
    hRows p1 p2 p3 (ix2 a b) = p2 (ix2 ⟨a.val - 256, by omega⟩ b) := (dif_neg h).trans (dif_pos h2)
/-- Which operand a row of the stack is from. -/
theorem hRows_hi (p1 p2 p3 : Vec F S256x1536 .bf16) (a : Fin 768) (b : Fin 1536) (h : ¬a.val < 256) (h2 : ¬a.val < 512) :
    hRows p1 p2 p3 (ix2 a b) = p3 (ix2 ⟨a.val - 512, by omega⟩ b) := (dif_neg h).trans (dif_neg h2)
/-- Which operand a row of the stack is from. -/
theorem qRows_lo (p1 p2 : Vec F S256x1536 .i8) (a : Fin 512) (b : Fin 1536) (h : a.val < 256) : qRows p1 p2 (ix2 a b) = p1 (ix2 ⟨a.val, h⟩ b) := dif_pos h
/-- Which operand a row of the stack is from. -/
theorem qRows_hi (p1 p2 : Vec F S256x1536 .i8) (a : Fin 512) (b : Fin 1536) (h : ¬a.val < 256) :
    qRows p1 p2 (ix2 a b) = p2 (ix2 ⟨a.val - 256, by omega⟩ b) := dif_neg h

/-- The three stores of a chunk of activations, read at an index. -/
theorem read_hcat {κ : Kind} {sp : Space} (v : View sig κ sp S768x18432 .bf16) (f : v.ty.Contents (Elt F)) (i : grid0.Coords)
    (p1 p2 p3 : Vec F S256x1536 .bf16) (inb1 : ∀ a, k0_off1 i a + S256x1536.size a ≤ S768x18432.size a)
    (inb2 : ∀ a, k0_off2 i a + S256x1536.size a ≤ S768x18432.size a) (inb3 : ∀ a, k0_off3 i a + S256x1536.size a ≤ S768x18432.size a) (y : S768x18432.Idx) :
    v.read (Elt F) (v.writes (Elt F) f [⟨Rect.unit (s := S768x18432) (k0_off3 i) S256x1536.size inb3, p3⟩,
        ⟨Rect.unit (s := S768x18432) (k0_off2 i) S256x1536.size inb2, p2⟩, ⟨Rect.unit (s := S768x18432) (k0_off1 i) S256x1536.size inb1, p1⟩]) y
      = if (y 1).val / 1536 = (i 1).val then hRows p1 p2 p3 (ix2 (y 0) ⟨(y 1).val % 1536, Nat.mod_lt _ (by decide)⟩) else v.read (Elt F) f y := by
  have hy : (y 0).val < 768 := (y 0).isLt
  by_cases hk : (y 1).val / 1536 = (i 1).val
  · rw [if_pos hk]
    have hc : (y 1).val = 1536 * (i 1).val + (y 1).val % 1536 := by have := Nat.div_add_mod (y 1).val 1536; rw [← hk]; omega
    by_cases h1 : (y 0).val < 256
    · rw [View.read_writes_cons_unit_of_not_mem v f inb3 _ _ y (k0_off3_eq i) 0 (Or.inl (by show (y 0).val < 512; omega)),
        View.read_writes_cons_unit_of_not_mem v f inb2 _ _ y (k0_off2_eq i) 0 (Or.inl (by show (y 0).val < 256; omega))]
      refine Eq.trans ?_ (hRows_lo p1 p2 p3 (y 0) ⟨(y 1).val % 1536, Nat.mod_lt _ (by decide)⟩ h1).symm
      refine View.read_writes_cons_unit_of_mem v f inb1 _ _ y _ (k0_off1_eq i) fun a => ?_
      fin_cases a
      · show (y 0).val = 0 + (y 0).val; omega
      · exact hc
    · by_cases h2 : (y 0).val < 512
      · rw [View.read_writes_cons_unit_of_not_mem v f inb3 _ _ y (k0_off3_eq i) 0 (Or.inl (by show (y 0).val < 512; omega))]
        refine Eq.trans ?_ (hRows_mid p1 p2 p3 (y 0) ⟨(y 1).val % 1536, Nat.mod_lt _ (by decide)⟩ h1 h2).symm
        refine View.read_writes_cons_unit_of_mem v f inb2 _ _ y _ (k0_off2_eq i) fun a => ?_
        fin_cases a
        · show (y 0).val = 256 + ((y 0).val - 256); omega
        · exact hc
      · refine Eq.trans ?_ (hRows_hi p1 p2 p3 (y 0) ⟨(y 1).val % 1536, Nat.mod_lt _ (by decide)⟩ h1 h2).symm
        refine View.read_writes_cons_unit_of_mem v f inb3 _ _ y _ (k0_off3_eq i) fun a => ?_
        fin_cases a
        · show (y 0).val = 512 + ((y 0).val - 512); omega
        · exact hc
  · rw [if_neg hk]
    have hn : (y 1).val < 1536 * (i 1).val ∨ 1536 * (i 1).val + 1536 ≤ (y 1).val := by omega
    rw [View.read_writes_cons_unit_of_not_mem v f inb3 _ _ y (k0_off3_eq i) 1 hn,
      View.read_writes_cons_unit_of_not_mem v f inb2 _ _ y (k0_off2_eq i) 1 hn,
      View.read_writes_cons_unit_of_not_mem v f inb1 _ _ y (k0_off1_eq i) 1 hn]
    rfl
/-- The two stores of a chunk of codes, read at an index. -/
theorem read_qcat {κ : Kind} {sp : Space} (v : View sig κ sp S512x18432 .i8) (f : v.ty.Contents (Elt F)) (i : grid0.Coords)
    (p1 p2 : Vec F S256x1536 .i8) (inb1 : ∀ a, k0_off4 i a + S256x1536.size a ≤ S512x18432.size a)
    (inb2 : ∀ a, k0_off5 i a + S256x1536.size a ≤ S512x18432.size a) (y : S512x18432.Idx) :
    v.read (Elt F) (v.writes (Elt F) f [⟨Rect.unit (s := S512x18432) (k0_off5 i) S256x1536.size inb2, p2⟩,
        ⟨Rect.unit (s := S512x18432) (k0_off4 i) S256x1536.size inb1, p1⟩]) y
      = if (y 1).val / 1536 = (i 1).val then qRows p1 p2 (ix2 (y 0) ⟨(y 1).val % 1536, Nat.mod_lt _ (by decide)⟩) else v.read (Elt F) f y := by
  have hy : (y 0).val < 512 := (y 0).isLt
  by_cases hk : (y 1).val / 1536 = (i 1).val
  · rw [if_pos hk]
    have hc : (y 1).val = 1536 * (i 1).val + (y 1).val % 1536 := by have := Nat.div_add_mod (y 1).val 1536; rw [← hk]; omega
    by_cases h1 : (y 0).val < 256
    · rw [View.read_writes_cons_unit_of_not_mem v f inb2 _ _ y (k0_off5_eq i) 0 (Or.inl (by show (y 0).val < 256; omega))]
      refine Eq.trans ?_ (qRows_lo p1 p2 (y 0) ⟨(y 1).val % 1536, Nat.mod_lt _ (by decide)⟩ h1).symm
      refine View.read_writes_cons_unit_of_mem v f inb1 _ _ y _ (k0_off4_eq i) fun a => ?_
      fin_cases a
      · show (y 0).val = 0 + (y 0).val; omega
      · exact hc
    · refine Eq.trans ?_ (qRows_hi p1 p2 (y 0) ⟨(y 1).val % 1536, Nat.mod_lt _ (by decide)⟩ h1).symm
      refine View.read_writes_cons_unit_of_mem v f inb2 _ _ y _ (k0_off5_eq i) fun a => ?_
      fin_cases a
      · show (y 0).val = 256 + ((y 0).val - 256); omega
      · exact hc
  · rw [if_neg hk]
    have hn : (y 1).val < 1536 * (i 1).val ∨ 1536 * (i 1).val + 1536 ≤ (y 1).val := by omega
    rw [View.read_writes_cons_unit_of_not_mem v f inb2 _ _ y (k0_off5_eq i) 1 hn,
      View.read_writes_cons_unit_of_not_mem v f inb1 _ _ y (k0_off4_eq i) 1 hn]
    rfl

/-- The stores of a chunk over a buffer held at `X`. -/
theorem hcat_put {κ : Kind} {sp : Space} {a : Memref sig κ sp S768x18432 .bf16} (h : a.IsWhole) (X : Vec F S768x18432 .bf16) (i : grid0.Coords)
    (p1 p2 p3 p1' p2' p3' : Vec F S256x1536 .bf16) (hp1 : p1 = p1') (hp2 : p2 = p2') (hp3 : p3 = p3') (inb3 : ∀ a, k0_off3 i a + S256x1536.size a ≤ S768x18432.size a) (inb2 : ∀ a, k0_off2 i a + S256x1536.size a ≤ S768x18432.size a) (inb1 : ∀ a, k0_off1 i a + S256x1536.size a ≤ S768x18432.size a) :
    a.view.read (Elt F) (a.view.writes (Elt F) (h.unread X) [⟨Rect.unit (s := S768x18432) (k0_off3 i) S256x1536.size inb3, p3⟩, ⟨Rect.unit (s := S768x18432) (k0_off2 i) S256x1536.size inb2, p2⟩, ⟨Rect.unit (s := S768x18432) (k0_off1 i) S256x1536.size inb1, p1⟩]) = hcPut (i 1) (hRows p1' p2' p3') X := by
  subst hp1; subst hp2; subst hp3
  funext y
  rw [read_hcat, h.read_unread]; rfl
/-- The chunk just stored, read back. -/
theorem hcat_cov {κ : Kind} {sp : Space} (v : View sig κ sp S768x18432 .bf16) (i : grid0.Coords)
    (p1 p2 p3 p1' p2' p3' : Vec F S256x1536 .bf16) (hp1 : p1 = p1') (hp2 : p2 = p2') (hp3 : p3 = p3') (inb3 : ∀ a, k0_off3 i a + S256x1536.size a ≤ S768x18432.size a) (inb2 : ∀ a, k0_off2 i a + S256x1536.size a ≤ S768x18432.size a) (inb1 : ∀ a, k0_off1 i a + S256x1536.size a ≤ S768x18432.size a) (inb : ∀ a, k0_off6 i a + S768x1536.size a ≤ S768x18432.size a) :
    v.readCov [⟨Rect.unit (s := S768x18432) (k0_off3 i) S256x1536.size inb3, p3⟩, ⟨Rect.unit (s := S768x18432) (k0_off2 i) S256x1536.size inb2, p2⟩, ⟨Rect.unit (s := S768x18432) (k0_off1 i) S256x1536.size inb1, p1⟩] (Rect.unit (s := S768x18432) (k0_off6 i) S768x1536.size inb).toLoadRect = hRows p1' p2' p3' := by
  subst hp1; subst hp2; subst hp3
  funext j
  have hj : (j 1).val < 1536 := (j 1).isLt
  have e0 : ((Rect.unit (s := S768x18432) (k0_off6 i) S768x1536.size inb).toLoadRect.idx j 0).val = (j 0).val := by
    show k0_off6 i 0 + 1 * (j 0).val = (j 0).val; have o0 : k0_off6 i 0 = 0 := congrFun (k0_off6_eq i) 0; omega
  have e1 : ((Rect.unit (s := S768x18432) (k0_off6 i) S768x1536.size inb).toLoadRect.idx j 1).val = 1536 * (i 1).val + (j 1).val := by
    show k0_off6 i 1 + 1 * (j 1).val = 1536 * (i 1).val + (j 1).val; have o1 : k0_off6 i 1 = 1536 * (i 1).val := congrFun (k0_off6_eq i) 1; omega
  refine (read_hcat v v.junk i p1 p2 p3 inb1 inb2 inb3 _).trans ?_
  rw [if_pos (by rw [e1]; omega)]
  refine congrArg (hRows p1 p2 p3) (funext fun a => Fin.ext ?_)
  fin_cases a
  · exact e0
  · show _ % 1536 = (j 1).val; rw [e1]; omega
/-- A chunk of a buffer held at `X`. -/
theorem hcat_read {κ : Kind} {sp : Space} {a : Memref sig κ sp S768x18432 .bf16} (h : a.IsWhole) (X : Vec F S768x18432 .bf16) (i : grid0.Coords)
    (inb : ∀ a, k0_off6 i a + S768x1536.size a ≤ S768x18432.size a) :
    View.readAt (Elt F) a.view (Rect.unit (s := S768x18432) (k0_off6 i) S768x1536.size inb).toLoadRect (h.unread X) = hcRead (i 1) X := by
  funext j
  rw [h.readAt_unread]
  refine congrArg X (funext fun a => Fin.ext ?_)
  fin_cases a
  · show k0_off6 i 0 + 1 * (j 0).val = (j 0).val; have o0 : k0_off6 i 0 = 0 := congrFun (k0_off6_eq i) 0; omega
  · show k0_off6 i 1 + 1 * (j 1).val = 1536 * (i 1).val + (j 1).val; have o1 : k0_off6 i 1 = 1536 * (i 1).val := congrFun (k0_off6_eq i) 1; omega

/-- The stores of a chunk over a buffer held at `X`. -/
theorem qcat_put {κ : Kind} {sp : Space} {a : Memref sig κ sp S512x18432 .i8} (h : a.IsWhole) (X : Vec F S512x18432 .i8) (i : grid0.Coords)
    (p1 p2 p1' p2' : Vec F S256x1536 .i8) (hp1 : p1 = p1') (hp2 : p2 = p2') (inb5 : ∀ a, k0_off5 i a + S256x1536.size a ≤ S512x18432.size a) (inb4 : ∀ a, k0_off4 i a + S256x1536.size a ≤ S512x18432.size a) :
    a.view.read (Elt F) (a.view.writes (Elt F) (h.unread X) [⟨Rect.unit (s := S512x18432) (k0_off5 i) S256x1536.size inb5, p2⟩, ⟨Rect.unit (s := S512x18432) (k0_off4 i) S256x1536.size inb4, p1⟩]) = qcPut (i 1) (qRows p1' p2') X := by
  subst hp1; subst hp2
  funext y
  rw [read_qcat, h.read_unread]; rfl
/-- The chunk just stored, read back. -/
theorem qcat_cov {κ : Kind} {sp : Space} (v : View sig κ sp S512x18432 .i8) (i : grid0.Coords)
    (p1 p2 p1' p2' : Vec F S256x1536 .i8) (hp1 : p1 = p1') (hp2 : p2 = p2') (inb5 : ∀ a, k0_off5 i a + S256x1536.size a ≤ S512x18432.size a) (inb4 : ∀ a, k0_off4 i a + S256x1536.size a ≤ S512x18432.size a) (inb : ∀ a, k0_off7 i a + S512x1536.size a ≤ S512x18432.size a) :
    v.readCov [⟨Rect.unit (s := S512x18432) (k0_off5 i) S256x1536.size inb5, p2⟩, ⟨Rect.unit (s := S512x18432) (k0_off4 i) S256x1536.size inb4, p1⟩] (Rect.unit (s := S512x18432) (k0_off7 i) S512x1536.size inb).toLoadRect = qRows p1' p2' := by
  subst hp1; subst hp2
  funext j
  have hj : (j 1).val < 1536 := (j 1).isLt
  have e0 : ((Rect.unit (s := S512x18432) (k0_off7 i) S512x1536.size inb).toLoadRect.idx j 0).val = (j 0).val := by
    show k0_off7 i 0 + 1 * (j 0).val = (j 0).val; have o0 : k0_off7 i 0 = 0 := congrFun (k0_off7_eq i) 0; omega
  have e1 : ((Rect.unit (s := S512x18432) (k0_off7 i) S512x1536.size inb).toLoadRect.idx j 1).val = 1536 * (i 1).val + (j 1).val := by
    show k0_off7 i 1 + 1 * (j 1).val = 1536 * (i 1).val + (j 1).val; have o1 : k0_off7 i 1 = 1536 * (i 1).val := congrFun (k0_off7_eq i) 1; omega
  refine (read_qcat v v.junk i p1 p2 inb4 inb5 _).trans ?_
  rw [if_pos (by rw [e1]; omega)]
  refine congrArg (qRows p1 p2) (funext fun a => Fin.ext ?_)
  fin_cases a
  · exact e0
  · show _ % 1536 = (j 1).val; rw [e1]; omega
/-- A chunk of a buffer held at `X`. -/
theorem qcat_read {κ : Kind} {sp : Space} {a : Memref sig κ sp S512x18432 .i8} (h : a.IsWhole) (X : Vec F S512x18432 .i8) (i : grid0.Coords)
    (inb : ∀ a, k0_off7 i a + S512x1536.size a ≤ S512x18432.size a) :
    View.readAt (Elt F) a.view (Rect.unit (s := S512x18432) (k0_off7 i) S512x1536.size inb).toLoadRect (h.unread X) = qcRead (i 1) X := by
  funext j
  rw [h.readAt_unread]
  refine congrArg X (funext fun a => Fin.ext ?_)
  fin_cases a
  · show k0_off7 i 0 + 1 * (j 0).val = (j 0).val; have o0 : k0_off7 i 0 = 0 := congrFun (k0_off7_eq i) 0; omega
  · show k0_off7 i 1 + 1 * (j 1).val = 1536 * (i 1).val + (j 1).val; have o1 : k0_off7 i 1 = 1536 * (i 1).val := congrFun (k0_off7_eq i) 1; omega

/-! ## The dequantised weights, group by group -/

/-- The rows of a group lie inside the array. -/
theorem inbO (k : ℕ) (hk : k < 12) : ∀ a, ![128 * k, 0] a + S128x512.size a ≤ S1536x512.size a := fun a => by
  fin_cases a
  · show 128 * k + 128 ≤ 1536; omega
  · show 0 + 512 ≤ 512; omega
/-- The rows of a group lie inside the array. -/
theorem inbZ (k : ℕ) (hk : k < 12) : ∀ a, ![0, k, 0] a + S1x1x512.size a ≤ S1x12x512.size a := fun a => by
  fin_cases a
  · show 0 + 1 ≤ 1; omega
  · show k + 1 ≤ 12; omega
  · show 0 + 512 ≤ 512; omega
/-- The rows of a group lie inside the array. -/
theorem inbQ (k : ℕ) (hk : k < 12) : ∀ a, ![64 * k, 0] a + S64x512.size a ≤ S768x512.size a := fun a => by
  fin_cases a
  · show 64 * k + 64 ≤ 768; omega
  · show 0 + 512 ≤ 512; omega

/-- One group's store is the group's block of `deqAll`. -/
theorem deq_piece {a11 : Memref sig .tc .vmem S1x12x512 .i8} (h11 : a11.IsWhole) {a9 : Memref sig .tc .vmem S768x512 .i8} (h9 : a9.IsWhole)
    {a10 : Memref sig .tc .vmem S1x12x512 .f32} (h10 : a10.IsWhole)
    (q : Vec F S768x512 .i8) (s : Vec F S1x12x512 .f32) (z : Vec F S1x12x512 .i8) (k : ℕ) (hk : k < 12) (x : S128x512.Idx) :
    k0_pay39 (View.readAt (Elt F) a11.view (Rect.unit (s := S1x12x512) ![0, k, 0] S1x1x512.size (inbZ k hk)).toLoadRect (h11.unread z))
      (View.readAt (Elt F) a9.view (Rect.unit (s := S768x512) ![64 * k, 0] S64x512.size (inbQ k hk)).toLoadRect (h9.unread q))
      (View.readAt (Elt F) a10.view (Rect.unit (s := S1x12x512) ![0, k, 0] S1x1x512.size (inbZ k hk)).toLoadRect (h10.unread s)) x
      = deqAll q s z ((Rect.unit (s := S1536x512) ![128 * k, 0] S128x512.size (inbO k hk)).emb x) := by
  have hx0 : (x 0).val < 128 := (x 0).isLt
  obtain ⟨Y, hY⟩ : ∃ Y, Y = (Rect.unit (s := S1536x512) ![128 * k, 0] S128x512.size (inbO k hk)).emb x := ⟨_, rfl⟩
  have e0 : (Y 0).val = 128 * k + (x 0).val := by
    rw [hY]; show 128 * k + 1 * (x 0).val = _; omega
  have e1 : (Y 1).val = (x 1).val := by
    rw [hY]; show 0 + 1 * (x 1).val = _; omega
  have hd : (Y 0).val / 128 = k := by omega
  have hm : (Y 0).val % 128 = (x 0).val := by omega
  rw [← hY]
  unfold deqAll
  congr 1
  · funext x'
    rw [h11.readAt_unread]
    have h0 : (x' 0).val < 1 := (x' 0).isLt
    have h1 : (x' 1).val < 1 := (x' 1).isLt
    refine congrArg z (funext fun i => Fin.ext ?_)
    fin_cases i
    · show 0 + 1 * (x' 0).val = 0; omega
    · show k + 1 * (x' 1).val = (Y 0).val / 128; omega
    · show 0 + 1 * (x' 2).val = (x' 2).val; omega
  · funext x'
    rw [h9.readAt_unread]
    refine congrArg q (funext fun i => Fin.ext ?_)
    fin_cases i
    · show 64 * k + 1 * (x' 0).val = 64 * ((Y 0).val / 128) + (x' 0).val; rw [hd]; omega
    · show 0 + 1 * (x' 1).val = (x' 1).val; omega
  · funext x'
    rw [h10.readAt_unread]
    have h0 : (x' 0).val < 1 := (x' 0).isLt
    have h1 : (x' 1).val < 1 := (x' 1).isLt
    refine congrArg s (funext fun i => Fin.ext ?_)
    fin_cases i
    · show 0 + 1 * (x' 0).val = 0; omega
    · show k + 1 * (x' 1).val = (Y 0).val / 128; omega
    · show 0 + 1 * (x' 2).val = (x' 2).val; omega
  · funext i
    refine Fin.ext ?_
    fin_cases i
    · exact hm.symm
    · exact e1.symm

end Cert.DownIdeal.Gen

end
-- ==== Proof.DownDats.lean ====
/- The proof data of the down call: what each buffer holds after each grid point, and the invariant of the carried scratch. -/
module

public import proofs.«01_k».proof.Proof.DownMath
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the point values, by their shapes -/

/-- The grid has 168 points. -/
theorem N168 : cfg0.N = 168 := N_0
/-- Point `min n 11` of the first column block. -/
def tK (n : ℕ) : Fin cfg0.N := ⟨min n 11, by have := N168; omega⟩
/-- In the first column block the chunk in hand is the grid point. -/
theorem tK_eq (t : Fin cfg0.N) (h : t.val < 12) : tK t.val = t := Fin.ext (by show min t.val 11 = t.val; omega)
/-- The lane maxima of `|h_full|` and `|h_ref|`, one block for the whole grid. -/
def MFB (c : Dev nD) : Vec F S256x128 .f32 := iblk m c 4 (tK 0)
/-- The lane maxima of `h_ref`, as their block. -/
def MRB (c : Dev nD) : Vec F S256x128 .f32 := iblk m c 5 (tK 0)
/-- The block of argument 4 is the same at every grid point. -/
theorem iblk4_eq (c : Dev nD) (t : Fin cfg0.N) : iblk m c 4 t = MFB m c := rfl
/-- The block of argument 5 is the same at every grid point. -/
theorem iblk5_eq (c : Dev nD) (t : Fin cfg0.N) : iblk m c 5 t = MRB m c := rfl
/-- The tokens' scales of `h_full` and of `h_ref`. -/
def FS (c : Dev nD) : Vec F S256x1 .f32 := k0_pay28 (MFB m c)
/-- The scales of `h_ref`. -/
def RS (c : Dev nD) : Vec F S256x1 .f32 := k0_pay29 (MRB m c)
/-- The codes stored at point `min t 11`. -/
def fcAt (c : Dev nD) (t : Fin cfg0.N) : Vec F S256x1536 .i8 := k0_pay11 (iblk m c 0 (tK t.val)) (FS m c)
/-- The codes of `h_ref` that its window holds after a grid point. -/
def rcAt (c : Dev nD) (t : Fin cfg0.N) : Vec F S256x1536 .i8 := k0_pay12 (iblk m c 1 (tK t.val)) (RS m c)
/-- In the first column block these are the codes of the point's own chunk. -/
theorem fcAt_lt (c : Dev nD) (t : Fin cfg0.N) (h : t.val < 12) : fcAt m c t = k0_pay11 (iblk m c 0 t) (FS m c) := by unfold fcAt; rw [tK_eq t h]
/-- In the first column block these are the codes of the point's own chunk. -/
theorem rcAt_lt (c : Dev nD) (t : Fin cfg0.N) (h : t.val < 12) : rcAt m c t = k0_pay12 (iblk m c 1 t) (RS m c) := by unfold rcAt; rw [tK_eq t h]
/-- After the first column block the chunk in hand stays the last one. -/
theorem tK_late (t : Fin cfg0.N) (h : ¬t.val < 12) : tK t.val = tK (t.val - 1) := Fin.ext (by show min t.val 11 = min (t.val - 1) 11; omega)
/-- The carried activations and codes once the first column block is done. -/
def HC (c : Dev nD) : Vec F S768x18432 .bf16 := fun y =>
  hChunk (iblk m c 1 (tK ((y 1).val / 1536))) (iblk m c 2 (tK ((y 1).val / 1536))) (iblk m c 3 (tK ((y 1).val / 1536)))
    (ix2 (y 0) ⟨(y 1).val % 1536, Nat.mod_lt _ (by decide)⟩)
/-- The codes of `h_full` above those of `h_ref`, once all chunks are stored. -/
def QC (c : Dev nD) : Vec F S512x18432 .i8 := fun y =>
  qChunk (iblk m c 0 (tK ((y 1).val / 1536))) (iblk m c 1 (tK ((y 1).val / 1536))) (FS m c) (RS m c)
    (ix2 (y 0) ⟨(y 1).val % 1536, Nat.mod_lt _ (by decide)⟩)
/-- The chunk of point `t`. -/
def kc (t : Fin cfg0.N) : Fin 12 := grid0.coords t 1
/-- The chunk of a grid point is its remainder by 12. -/
theorem kc_val : ∀ t : Fin cfg0.N, (kc t).val = t.val % 12 := by
  have h : ∀ t : Fin grid0.N, (grid0.coords t 1).val = t.val % 12 := by decide +kernel
  exact h
/-- The point's dequantised weights. -/
def DQ (c : Dev nD) (t : Fin cfg0.N) : Vec F S1536x512 .bf16 := deqAll (iblk m c 7 t) (iblk m c 8 t) (iblk m c 9 t)

/-- The first `n` chunks of a carried buffer are done. -/
def HCP (c : Dev nD) (n : ℕ) (d : Vec F S768x18432 .bf16) : Prop := ∀ y : S768x18432.Idx, (y 1).val / 1536 < n → d y = HC m c y
/-- A point of the first column block stores the chunk of the full array. -/
theorem HC_chunk (c : Dev nD) (t : Fin cfg0.N) (h : t.val < 12) : hChunk (iblk m c 1 t) (iblk m c 2 t) (iblk m c 3 t) = hcRead (kc t) ((HC m c : Vec F S768x18432 .bf16)) := by
  funext j
  have hj : (j 1).val < 1536 := (j 1).isLt
  have hk := kc_val t
  show _ = HC m c (ix2 (j 0) ⟨1536 * (kc t).val + (j 1).val, _⟩)
  unfold HC
  have e1 : (1536 * (kc t).val + (j 1).val) / 1536 = t.val := by omega
  have e2 : (1536 * (kc t).val + (j 1).val) % 1536 = (j 1).val := by omega
  have e3 : tK ((1536 * (kc t).val + (j 1).val) / 1536) = t := by rw [e1]; exact tK_eq t h
  show _ = hChunk (iblk m c 1 (tK ((1536 * (kc t).val + (j 1).val) / 1536))) (iblk m c 2 (tK ((1536 * (kc t).val + (j 1).val) / 1536))) (iblk m c 3 (tK ((1536 * (kc t).val + (j 1).val) / 1536))) (ix2 (j 0) ⟨(1536 * (kc t).val + (j 1).val) % 1536, _⟩)
  rw [e3]
  refine congrArg (hChunk (iblk m c 1 t) (iblk m c 2 t) (iblk m c 3 t)) (funext fun a => Fin.ext ?_)
  fin_cases a
  · rfl
  · exact e2.symm
/-- Storing a chunk extends the part that is already right. -/
theorem HCP_put (c : Dev nD) (t : Fin cfg0.N) (h : t.val < 12) (d : Vec F S768x18432 .bf16) (hd : HCP m c t.val d) :
    HCP m c (t.val + 1) (hcPut (kc t) (hcRead (kc t) (HC m c)) d) := fun y hy => by
  have hk := kc_val t
  have hc : (y 1).val < 18432 := (y 1).isLt
  unfold hcPut
  by_cases he : (y 1).val / 1536 = (kc t).val
  · rw [if_pos he]
    refine congrArg (HC m c) (funext fun a => Fin.ext ?_)
    fin_cases a
    · rfl
    · show 1536 * (kc t).val + (y 1).val % 1536 = (y 1).val; omega
  · rw [if_neg he]; exact hd y (by omega)
/-- Before the first point nothing is claimed. -/
theorem HCP_zero (c : Dev nD) (d : Vec F S768x18432 .bf16) : HCP m c 0 d := fun y hy => absurd hy (Nat.not_lt_zero _)
/-- After the first column block the part that is right no longer grows. -/
theorem HCP_late (c : Dev nD) (n n' : ℕ) (h : ¬n < 12) (d : Vec F S768x18432 .bf16) (hd : HCP m c n d) : HCP m c n' d := fun y _ =>
  hd y (by have hc : (y 1).val < 18432 := (y 1).isLt; omega)
/-- After the first column block the buffer holds the full array. -/
theorem HC_late (c : Dev nD) (n : ℕ) (h : ¬n < 12) (d : Vec F S768x18432 .bf16) (hd : HCP m c n d) : d = HC m c := funext fun y =>
  hd y (by have hc : (y 1).val < 18432 := (y 1).isLt; omega)

/-- The first `n` chunks of a carried buffer are done. -/
def QCP (c : Dev nD) (n : ℕ) (d : Vec F S512x18432 .i8) : Prop := ∀ y : S512x18432.Idx, (y 1).val / 1536 < n → d y = QC m c y
/-- A point of the first column block stores the chunk of the full array. -/
theorem QC_chunk (c : Dev nD) (t : Fin cfg0.N) (h : t.val < 12) : qChunk (iblk m c 0 t) (iblk m c 1 t) (FS m c) (RS m c) = qcRead (kc t) ((QC m c : Vec F S512x18432 .i8)) := by
  funext j
  have hj : (j 1).val < 1536 := (j 1).isLt
  have hk := kc_val t
  show _ = QC m c (ix2 (j 0) ⟨1536 * (kc t).val + (j 1).val, _⟩)
  unfold QC
  have e1 : (1536 * (kc t).val + (j 1).val) / 1536 = t.val := by omega
  have e2 : (1536 * (kc t).val + (j 1).val) % 1536 = (j 1).val := by omega
  have e3 : tK ((1536 * (kc t).val + (j 1).val) / 1536) = t := by rw [e1]; exact tK_eq t h
  show _ = qChunk (iblk m c 0 (tK ((1536 * (kc t).val + (j 1).val) / 1536))) (iblk m c 1 (tK ((1536 * (kc t).val + (j 1).val) / 1536))) (FS m c) (RS m c) (ix2 (j 0) ⟨(1536 * (kc t).val + (j 1).val) % 1536, _⟩)
  rw [e3]
  refine congrArg (qChunk (iblk m c 0 t) (iblk m c 1 t) (FS m c) (RS m c)) (funext fun a => Fin.ext ?_)
  fin_cases a
  · rfl
  · exact e2.symm
/-- Storing a chunk extends the part that is already right. -/
theorem QCP_put (c : Dev nD) (t : Fin cfg0.N) (h : t.val < 12) (d : Vec F S512x18432 .i8) (hd : QCP m c t.val d) :
    QCP m c (t.val + 1) (qcPut (kc t) (qcRead (kc t) (QC m c)) d) := fun y hy => by
  have hk := kc_val t
  have hc : (y 1).val < 18432 := (y 1).isLt
  unfold qcPut
  by_cases he : (y 1).val / 1536 = (kc t).val
  · rw [if_pos he]
    refine congrArg (QC m c) (funext fun a => Fin.ext ?_)
    fin_cases a
    · rfl
    · show 1536 * (kc t).val + (y 1).val % 1536 = (y 1).val; omega
  · rw [if_neg he]; exact hd y (by omega)
/-- Before the first point nothing is claimed. -/
theorem QCP_zero (c : Dev nD) (d : Vec F S512x18432 .i8) : QCP m c 0 d := fun y hy => absurd hy (Nat.not_lt_zero _)
/-- After the first column block the part that is right no longer grows. -/
theorem QCP_late (c : Dev nD) (n n' : ℕ) (h : ¬n < 12) (d : Vec F S512x18432 .i8) (hd : QCP m c n d) : QCP m c n' d := fun y _ =>
  hd y (by have hc : (y 1).val < 18432 := (y 1).isLt; omega)
/-- After the first column block the buffer holds the full array. -/
theorem QC_late (c : Dev nD) (n : ℕ) (h : ¬n < 12) (d : Vec F S512x18432 .i8) (hd : QCP m c n d) : d = QC m c := funext fun y =>
  hd y (by have hc : (y 1).val < 18432 := (y 1).isLt; omega)

/-- The accumulator of the reference products after point `n`: it starts over at the first chunk. -/
def accbAt (c : Dev nD) : (n : ℕ) → n < cfg0.N → Vec F S768x512 .f32
  | 0, h => accbNew k0_pay33 (hcRead (kc ⟨0, h⟩) (HC m c)) (iblk m c 6 ⟨0, h⟩)
  | n + 1, h => accbNew (if (n + 1) % 12 = 0 then k0_pay33 else accbAt c n (by omega)) (hcRead (kc ⟨n + 1, h⟩) (HC m c)) (iblk m c 6 ⟨n + 1, h⟩)
/-- At the first chunk of a column block the accumulator starts again from zero. -/
theorem accbAt_reset (c : Dev nD) (t : Fin cfg0.N) (h : t.val % 12 = 0) : accbAt m c t.val t.isLt = accbNew k0_pay33 (hcRead (kc t) (HC m c)) (iblk m c 6 t) := by
  obtain ⟨n, hn⟩ := t
  cases n with
  | zero => rfl
  | succ n => exact (accbAt.eq_2 m c n hn).trans (by rw [if_pos h])
/-- At any other chunk it adds to what the point before left. -/
theorem accbAt_step (c : Dev nD) (t : Fin cfg0.N) (h : ¬t.val % 12 = 0) :
    accbAt m c t.val t.isLt = accbNew (accbAt m c (t.val - 1) (Nat.lt_of_le_of_lt (Nat.sub_le _ _) t.isLt)) (hcRead (kc t) (HC m c)) (iblk m c 6 t) := by
  obtain ⟨n, hn⟩ := t
  cases n with
  | zero => exact absurd rfl h
  | succ n => exact (accbAt.eq_2 m c n hn).trans (by rw [if_neg h]; rfl)

/-- The accumulator of the quantised products after point `n`: it starts over at the first chunk. -/
def accqAt (c : Dev nD) : (n : ℕ) → n < cfg0.N → Vec F S512x512 .f32
  | 0, h => accqNew k0_pay34 (qcRead (kc ⟨0, h⟩) (QC m c)) (DQ m c ⟨0, h⟩)
  | n + 1, h => accqNew (if (n + 1) % 12 = 0 then k0_pay34 else accqAt c n (by omega)) (qcRead (kc ⟨n + 1, h⟩) (QC m c)) (DQ m c ⟨n + 1, h⟩)
/-- At the first chunk of a column block the accumulator starts again from zero. -/
theorem accqAt_reset (c : Dev nD) (t : Fin cfg0.N) (h : t.val % 12 = 0) : accqAt m c t.val t.isLt = accqNew k0_pay34 (qcRead (kc t) (QC m c)) (DQ m c t) := by
  obtain ⟨n, hn⟩ := t
  cases n with
  | zero => rfl
  | succ n => exact (accqAt.eq_2 m c n hn).trans (by rw [if_pos h])
/-- At any other chunk it adds to what the point before left. -/
theorem accqAt_step (c : Dev nD) (t : Fin cfg0.N) (h : ¬t.val % 12 = 0) :
    accqAt m c t.val t.isLt = accqNew (accqAt m c (t.val - 1) (Nat.lt_of_le_of_lt (Nat.sub_le _ _) t.isLt)) (qcRead (kc t) (QC m c)) (DQ m c t) := by
  obtain ⟨n, hn⟩ := t
  cases n with
  | zero => exact absurd rfl h
  | succ n => exact (accqAt.eq_2 m c n hn).trans (by rw [if_neg h]; rfl)

/-- The token accumulators after point `n`: a column block's errors are added at its last chunk. -/
def tokAt (c : Dev nD) : (n : ℕ) → n < cfg0.N → Vec F S5x256x128 .f32
  | 0, _ => k0_pay30
  | n + 1, h => if (n + 1) % 12 = 11 then tokNew (accbAt m c (n + 1) h) (accqAt m c (n + 1) h) (FS m c) (RS m c) (tokAt c n (by omega)) else tokAt c n (by omega)
/-- At the first point the token sums are zero. -/
theorem tokAt_zero (c : Dev nD) (t : Fin cfg0.N) (h : t.val = 0) : tokAt m c t.val t.isLt = k0_pay30 := by
  obtain ⟨n, hn⟩ := t; simp only at h; subst h; rfl
/-- Away from the last chunk of a column block the token sums are kept. -/
theorem tokAt_keep (c : Dev nD) (t : Fin cfg0.N) (h0 : ¬t.val = 0) (h : ¬t.val % 12 = 11) :
    tokAt m c t.val t.isLt = tokAt m c (t.val - 1) (Nat.lt_of_le_of_lt (Nat.sub_le _ _) t.isLt) := by
  obtain ⟨n, hn⟩ := t
  cases n with
  | zero => exact absurd rfl h0
  | succ n => exact (tokAt.eq_2 m c n hn).trans (by rw [if_neg h]; rfl)
/-- At the last chunk of a column block the block's squares are added to the token sums. -/
theorem tokAt_new (c : Dev nD) (t : Fin cfg0.N) (h : t.val % 12 = 11) :
    tokAt m c t.val t.isLt = tokNew (accbAt m c t.val t.isLt) (accqAt m c t.val t.isLt) (FS m c) (RS m c)
      (tokAt m c (t.val - 1) (Nat.lt_of_le_of_lt (Nat.sub_le _ _) t.isLt)) := by
  obtain ⟨n, hn⟩ := t
  cases n with
  | zero => exact absurd h (by show ¬0 % 12 = 11; decide)
  | succ n => exact (tokAt.eq_2 m c n hn).trans (by rw [if_pos h]; rfl)

/-! ## The invariant between points -/

/-- The invariant before grid point `n`: what the scratch buffers hold. -/
def PhiS (c : Dev nD) : (n : ℕ) → n ≤ cfg0.N → sProp 𝕄
  | 0, _ => Pipeline.ΦA spec0 c
  | n + 1, hn => iprop(iprop((∃ d, ⌜HCP m c (n + 1) d⌝ ∗ owns (c : Thread nD τ) scM0_0 fullShare d) ∗ (∃ d, ⌜QCP m c (n + 1) d⌝ ∗ owns (c : Thread nD τ) scM0_1 fullShare d)
      ∗ (∃ d, owns (c : Thread nD τ) scM0_2 fullShare d) ∗ owns (c : Thread nD τ) scM0_3 fullShare (accbAt m c n hn) ∗ owns (c : Thread nD τ) scM0_4 fullShare (accqAt m c n hn)
      ∗ owns (c : Thread nD τ) scM0_5 fullShare (tokAt m c n hn)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl
/-- Before a later point they hold what the point before left. -/
theorem PhiS_pos (c : Dev nD) (n : ℕ) (h : n ≤ cfg0.N) (hz : ¬n = 0) :
    PhiS m c n h = iprop(iprop((∃ d, ⌜HCP m c n d⌝ ∗ owns (c : Thread nD τ) scM0_0 fullShare d) ∗ (∃ d, ⌜QCP m c n d⌝ ∗ owns (c : Thread nD τ) scM0_1 fullShare d)
      ∗ (∃ d, owns (c : Thread nD τ) scM0_2 fullShare d) ∗ owns (c : Thread nD τ) scM0_3 fullShare (accbAt m c (n - 1) (by omega)) ∗ owns (c : Thread nD τ) scM0_4 fullShare (accqAt m c (n - 1) (by omega))
      ∗ owns (c : Thread nD τ) scM0_5 fullShare (tokAt m c (n - 1) (by omega))) ∗ (∃ r, prngReg c r)) := by
  cases n with
  | zero => exact absurd rfl hz
  | succ n => rfl

/-- After a point they hold what that point leaves. -/
theorem PhiS_succ (c : Dev nD) (n : ℕ) (hn : n + 1 ≤ cfg0.N) :
    PhiS m c (n + 1) hn = iprop(iprop((∃ d, ⌜HCP m c (n + 1) d⌝ ∗ owns (c : Thread nD τ) scM0_0 fullShare d) ∗ (∃ d, ⌜QCP m c (n + 1) d⌝ ∗ owns (c : Thread nD τ) scM0_1 fullShare d)
      ∗ (∃ d, owns (c : Thread nD τ) scM0_2 fullShare d) ∗ owns (c : Thread nD τ) scM0_3 fullShare (accbAt m c n hn) ∗ owns (c : Thread nD τ) scM0_4 fullShare (accqAt m c n hn)
      ∗ owns (c : Thread nD τ) scM0_5 fullShare (tokAt m c n hn)) ∗ (∃ r, prngReg c r)) := rfl

/-! ## The pipeline's proof data -/

/-- The arrays as the region finds them; after the body at a point, each input's buffer at its block and each output's at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => etNew (tokAt m c t.val t.isLt)
    | ⟨11, _⟩ => stNew (tokAt m c t.val t.isLt)
    | ⟨12, _⟩ => ecNew (accbAt m c t.val t.isLt) (accqAt m c t.val t.isLt) (FS m c) (RS m c)
    | ⟨13, _⟩ => k0_pay13 (B0 (accbAt m c t.val t.isLt))
    | ⟨14, _⟩ => fcAt m c t
    | ⟨15, _⟩ => FS m c
    | ⟨16, _⟩ => rcAt m c t
    | ⟨17, _⟩ => RS m c
    | ⟨_ + 18, h⟩ => absurd h (Nat.not_lt.2 (Nat.le_add_left _ _))
  Φ t := PhiS m c t.val (Nat.le_of_lt_succ t.isLt)
  q _ := fullShare
  owed _ := 0

/-- The array behind a window at the start is the memory's. -/
theorem A_eq (c : Dev nD) (w : Fin cfg0.W) : (dats m 0 c).A w = V m c (Pipeline.arrRef spec0 w) := by
  dsimp only [dats]

/-- The invariant before a point, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a grid point. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = iblk m c 5 t := by dsimp only [dats]
/-- What window 6 holds after a grid point. -/
theorem after0_6 (c : Dev nD) (t : Fin cfg0.N) : (dats m 0 c).after 6 t = iblk m c 6 t := by dsimp only [dats]
/-- What window 7 holds after a grid point. -/
theorem after0_7 (c : Dev nD) (t : Fin cfg0.N) : (dats m 0 c).after 7 t = iblk m c 7 t := by dsimp only [dats]
/-- What window 8 holds after a grid point. -/
theorem after0_8 (c : Dev nD) (t : Fin cfg0.N) : (dats m 0 c).after 8 t = iblk m c 8 t := by dsimp only [dats]
/-- What window 9 holds after a grid point. -/
theorem after0_9 (c : Dev nD) (t : Fin cfg0.N) : (dats m 0 c).after 9 t = iblk m c 9 t := by dsimp only [dats]
/-- What window 10 holds after a grid point. -/
theorem after0_10 (c : Dev nD) (t : Fin cfg0.N) : (dats m 0 c).after 10 t = etNew (tokAt m c t.val t.isLt) := by dsimp only [dats]
/-- What window 11 holds after a grid point. -/
theorem after0_11 (c : Dev nD) (t : Fin cfg0.N) : (dats m 0 c).after 11 t = stNew (tokAt m c t.val t.isLt) := by dsimp only [dats]
/-- What window 12 holds after a grid point. -/
theorem after0_12 (c : Dev nD) (t : Fin cfg0.N) : (dats m 0 c).after 12 t = ecNew (accbAt m c t.val t.isLt) (accqAt m c t.val t.isLt) (FS m c) (RS m c) := by dsimp only [dats]
/-- What window 13 holds after a grid point. -/
theorem after0_13 (c : Dev nD) (t : Fin cfg0.N) : (dats m 0 c).after 13 t = k0_pay13 (B0 (accbAt m c t.val t.isLt)) := by dsimp only [dats]
/-- What window 14 holds after a grid point. -/
theorem after0_14 (c : Dev nD) (t : Fin cfg0.N) : (dats m 0 c).after 14 t = fcAt m c t := by dsimp only [dats]
/-- What window 15 holds after a grid point. -/
theorem after0_15 (c : Dev nD) (t : Fin cfg0.N) : (dats m 0 c).after 15 t = FS m c := by dsimp only [dats]
/-- What window 16 holds after a grid point. -/
theorem after0_16 (c : Dev nD) (t : Fin cfg0.N) : (dats m 0 c).after 16 t = rcAt m c t := by dsimp only [dats]
/-- What window 17 holds after a grid point. -/
theorem after0_17 (c : Dev nD) (t : Fin cfg0.N) : (dats m 0 c).after 17 t = RS m c := by dsimp only [dats]
/-- What window 0 holds before a grid point: its block. -/
theorem before0_0 (c : Dev nD) (t : Fin cfg0.N) (d) : (dats m 0 c).before 0 t d = iblk m c 0 t :=
  before0_0_of m (dats m 0 c) (A_eq m c 0) (after0_0 m c) t d
/-- What window 1 holds before a grid point: its block. -/
theorem before0_1 (c : Dev nD) (t : Fin cfg0.N) (d) : (dats m 0 c).before 1 t d = iblk m c 1 t :=
  before0_1_of m (dats m 0 c) (A_eq m c 1) (after0_1 m c) t d
/-- What window 2 holds before a grid point: its block. -/
theorem before0_2 (c : Dev nD) (t : Fin cfg0.N) (d) : (dats m 0 c).before 2 t d = iblk m c 2 t :=
  before0_2_of m (dats m 0 c) (A_eq m c 2) (after0_2 m c) t d
/-- What window 3 holds before a grid point: its block. -/
theorem before0_3 (c : Dev nD) (t : Fin cfg0.N) (d) : (dats m 0 c).before 3 t d = iblk m c 3 t :=
  before0_3_of m (dats m 0 c) (A_eq m c 3) (after0_3 m c) t d
/-- What window 4 holds before a grid point: its block. -/
theorem before0_4 (c : Dev nD) (t : Fin cfg0.N) (d) : (dats m 0 c).before 4 t d = iblk m c 4 t :=
  before0_4_of m (dats m 0 c) (A_eq m c 4) (after0_4 m c) t d
/-- What window 5 holds before a grid point: its block. -/
theorem before0_5 (c : Dev nD) (t : Fin cfg0.N) (d) : (dats m 0 c).before 5 t d = iblk m c 5 t :=
  before0_5_of m (dats m 0 c) (A_eq m c 5) (after0_5 m c) t d
/-- What window 6 holds before a grid point: its block. -/
theorem before0_6 (c : Dev nD) (t : Fin cfg0.N) (d) : (dats m 0 c).before 6 t d = iblk m c 6 t :=
  before0_6_of m (dats m 0 c) (A_eq m c 6) (after0_6 m c) t d
/-- What window 7 holds before a grid point: its block. -/
theorem before0_7 (c : Dev nD) (t : Fin cfg0.N) (d) : (dats m 0 c).before 7 t d = iblk m c 7 t :=
  before0_7_of m (dats m 0 c) (A_eq m c 7) (after0_7 m c) t d
/-- What window 8 holds before a grid point: its block. -/
theorem before0_8 (c : Dev nD) (t : Fin cfg0.N) (d) : (dats m 0 c).before 8 t d = iblk m c 8 t :=
  before0_8_of m (dats m 0 c) (A_eq m c 8) (after0_8 m c) t d
/-- What window 9 holds before a grid point: its block. -/
theorem before0_9 (c : Dev nD) (t : Fin cfg0.N) (d) : (dats m 0 c).before 9 t d = iblk m c 9 t :=
  before0_9_of m (dats m 0 c) (A_eq m c 9) (after0_9 m c) t d

/-- Where output 14 is idle, its buffer holds what was stored last. -/
theorem late0_14 (c : Dev nD) (t : Fin cfg0.N) (hc : ¬t.val < 12) (d) : (dats m 0 c).before 14 t d = fcAt m c t := by
  rw [Dat.before_out_traj _ 14 rfl (fun _ _ => rfl) (fun t _ hi _ => by
    rw [after0_14, after0_14]; unfold fcAt
    rw [tK_late t (fun h => by rw [liveAt0_14 t h] at hi; cases hi)]) t.val t rfl d,
    if_neg (by rw [notFresh0_14 t hc]; exact Bool.false_ne_true)]
  rw [after0_14]; unfold fcAt; rw [tK_late t hc]
/-- So leaving it alone there is what the pipeline asks. -/
theorem leaves0_14 (c : Dev nD) (t : Fin cfg0.N) (hc : ¬t.val < 12) (d : (cfg0.win 14).block.Idx → Elt F (cfg0.win 14).elt) :
    owns (c : Thread nD τ) (ms0_14 t) fullShare (fcAt m c t) ⊢ (dats m 0 c).leavesExact 14 t := by
  cases hf : (cfg0.win 14).flush t
  · rw [Dat.leavesExact_idle _ 14 t (idleAt0_14 t hc) hf]
    iintro H
    iexists d
    rw [late0_14 m c t hc]
    iexact H
  · rw [show (dats m 0 c).leavesExact 14 t = owns (c : Thread nD τ) (ms0_14 t) fullShare ((dats m 0 c).after 14 t) from by
      unfold Dat.leavesExact; rw [idleAt0_14 t hc, hf], after0_14]

/-- Where output 15 is idle, its buffer holds what was stored last. -/
theorem late0_15 (c : Dev nD) (t : Fin cfg0.N) (hc : ¬t.val = 0) (d) : (dats m 0 c).before 15 t d = FS m c := by
  rw [Dat.before_out_traj _ 15 rfl (fun _ _ => rfl) (fun t _ _ _ => by rw [after0_15, after0_15]) t.val t rfl d,
    if_neg (by rw [notFresh0_15 t hc]; exact Bool.false_ne_true)]
  rw [after0_15]
/-- So leaving it alone there is what the pipeline asks. -/
theorem leaves0_15 (c : Dev nD) (t : Fin cfg0.N) (hc : ¬t.val = 0) (d : (cfg0.win 15).block.Idx → Elt F (cfg0.win 15).elt) :
    owns (c : Thread nD τ) (ms0_15 t) fullShare (FS m c) ⊢ (dats m 0 c).leavesExact 15 t := by
  cases hf : (cfg0.win 15).flush t
  · rw [Dat.leavesExact_idle _ 15 t (idleAt0_15 t hc) hf]
    iintro H
    iexists d
    rw [late0_15 m c t hc]
    iexact H
  · rw [show (dats m 0 c).leavesExact 15 t = owns (c : Thread nD τ) (ms0_15 t) fullShare ((dats m 0 c).after 15 t) from by
      unfold Dat.leavesExact; rw [idleAt0_15 t hc, hf], after0_15]

/-- Where output 16 is idle, its buffer holds what was stored last. -/
theorem late0_16 (c : Dev nD) (t : Fin cfg0.N) (hc : ¬t.val < 12) (d) : (dats m 0 c).before 16 t d = rcAt m c t := by
  rw [Dat.before_out_traj _ 16 rfl (fun _ _ => rfl) (fun t _ hi _ => by
    rw [after0_16, after0_16]; unfold rcAt
    rw [tK_late t (fun h => by rw [liveAt0_16 t h] at hi; cases hi)]) t.val t rfl d,
    if_neg (by rw [notFresh0_16 t hc]; exact Bool.false_ne_true)]
  rw [after0_16]; unfold rcAt; rw [tK_late t hc]
/-- So leaving it alone there is what the pipeline asks. -/
theorem leaves0_16 (c : Dev nD) (t : Fin cfg0.N) (hc : ¬t.val < 12) (d : (cfg0.win 16).block.Idx → Elt F (cfg0.win 16).elt) :
    owns (c : Thread nD τ) (ms0_16 t) fullShare (rcAt m c t) ⊢ (dats m 0 c).leavesExact 16 t := by
  cases hf : (cfg0.win 16).flush t
  · rw [Dat.leavesExact_idle _ 16 t (idleAt0_16 t hc) hf]
    iintro H
    iexists d
    rw [late0_16 m c t hc]
    iexact H
  · rw [show (dats m 0 c).leavesExact 16 t = owns (c : Thread nD τ) (ms0_16 t) fullShare ((dats m 0 c).after 16 t) from by
      unfold Dat.leavesExact; rw [idleAt0_16 t hc, hf], after0_16]

/-- Where output 17 is idle, its buffer holds what was stored last. -/
theorem late0_17 (c : Dev nD) (t : Fin cfg0.N) (hc : ¬t.val = 0) (d) : (dats m 0 c).before 17 t d = RS m c := by
  rw [Dat.before_out_traj _ 17 rfl (fun _ _ => rfl) (fun t _ _ _ => by rw [after0_17, after0_17]) t.val t rfl d,
    if_neg (by rw [notFresh0_17 t hc]; exact Bool.false_ne_true)]
  rw [after0_17]
/-- So leaving it alone there is what the pipeline asks. -/
theorem leaves0_17 (c : Dev nD) (t : Fin cfg0.N) (hc : ¬t.val = 0) (d : (cfg0.win 17).block.Idx → Elt F (cfg0.win 17).elt) :
    owns (c : Thread nD τ) (ms0_17 t) fullShare (RS m c) ⊢ (dats m 0 c).leavesExact 17 t := by
  cases hf : (cfg0.win 17).flush t
  · rw [Dat.leavesExact_idle _ 17 t (idleAt0_17 t hc) hf]
    iintro H
    iexists d
    rw [late0_17 m c t hc]
    iexact H
  · rw [show (dats m 0 c).leavesExact 17 t = owns (c : Thread nD τ) (ms0_17 t) fullShare ((dats m 0 c).after 17 t) from by
      unfold Dat.leavesExact; rw [idleAt0_17 t hc, hf], after0_17]

/-! ## The body obligation's two sides -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

end Cert.DownIdeal.Gen

end
-- ==== Proof.DownRunE.lean ====
/- The whole down body run at a point inside a later column block. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at a point inside a later column block, run on whole buffers: those it reads at their contents, those it only stores into at anything. The pieces each
    buffer ends with are the run's witness. -/
noncomputable def kernelRun0_E (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : ¬cond0_3 i) (hc4 : ¬cond0_4 i) (hc5 : ¬cond0_5 i)
    (x8 : Vec F S1536x512 .bf16) (x9 : Vec F S768x512 .i8) (x10 : Vec F S1x12x512 .f32) (x11 : Vec F S1x12x512 .i8) (x20 : Vec F S768x18432 .bf16) (x21 : Vec F S512x18432 .i8) (x23 : Vec F S768x512 .f32) (x24 : Vec F S512x512 .f32) :
    Σ' (L22 : List (View.Piece (Elt F) S1536x512 .bf16)), Σ' (L23 : List (View.Piece (Elt F) S768x512 .f32)), { L24 : List (View.Piece (Elt F) S512x512 .f32) //
      ∀ (E : Set ℕ) (K : PUnit → sProp 𝕄),
        iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24
            ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f8, %hf8, H8⟩, ⟨%f9, %hf9, H9⟩, ⟨%f10, %hf10, H10⟩, ⟨%f11, %hf11, H11⟩, ⟨%f20, %hf20, H20⟩, ⟨%f21, %hf21, H21⟩, ⟨%d22, %f22, -, H22⟩, ⟨%f23, %hf23, H23⟩, ⟨%f24, %hf24, H24⟩, Hk⟩
    obtain rfl := harg8.eq_unread hf8; obtain rfl := harg9.eq_unread hf9; obtain rfl := harg10.eq_unread hf10; obtain rfl := harg11.eq_unread hf11; obtain rfl := harg20.eq_unread hf20; obtain rfl := harg21.eq_unread hf21; obtain rfl := harg23.eq_unread hf23; obtain rfl := harg24.eq_unread hf24
    sl_exec (disch := first | sl_exact hc1 | sl_exact hc2 | sl_exact hc3 | sl_exact hc4 | sl_exact hc5)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H20]
    · iexists _; isplitr; · ipureintro; exact harg20.read_unread _
      iexact H20
    isplitl [H21]
    · iexists _; isplitr; · ipureintro; exact harg21.read_unread _
      iexact H21
    isplitl [H22]
    · iexists _; iexact H22
    isplitl [H23]
    · iexists _; iexact H23
    iexists _; iexact H24

end Cert.DownIdeal.Gen

end
-- ==== Proof.DownDeq.lean ====
/- The weight scratch of the down body: after the twelve groups it holds the dequantised weights. -/
module

public import proofs.«01_k».proof.Proof.DownMath
public import proofs.«01_k».proof.Proof.DownRunE

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The twelve groups' stores, read back whole: the dequantised weights. -/
theorem deq_E (c : Dev nD) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg22 : Memref sig .tc .vmem S1536x512 .bf16)
    (x9 : Vec F S768x512 .i8) (x10 : Vec F S1x12x512 .f32) (x11 : Vec F S1x12x512 .i8) :
    kernelRun0_E.sl.v374 (F := F) c arg9 harg9 arg10 harg10 arg11 harg11 arg22 x9 x10 x11 = deqAll x9 x10 x11 := by
  unfold kernelRun0_E.sl.v374
  refine readCov_pieces _ _ _ ![128, 512] ?_ (by sl_kernel_rfl) zero2 _
  refine ⟨deq_piece harg11 harg9 harg10 x9 x10 x11 11 (by decide), deq_piece harg11 harg9 harg10 x9 x10 x11 10 (by decide), deq_piece harg11 harg9 harg10 x9 x10 x11 9 (by decide), deq_piece harg11 harg9 harg10 x9 x10 x11 8 (by decide), deq_piece harg11 harg9 harg10 x9 x10 x11 7 (by decide), deq_piece harg11 harg9 harg10 x9 x10 x11 6 (by decide), deq_piece harg11 harg9 harg10 x9 x10 x11 5 (by decide), deq_piece harg11 harg9 harg10 x9 x10 x11 4 (by decide), deq_piece harg11 harg9 harg10 x9 x10 x11 3 (by decide), deq_piece harg11 harg9 harg10 x9 x10 x11 2 (by decide), deq_piece harg11 harg9 harg10 x9 x10 x11 1 (by decide), deq_piece harg11 harg9 harg10 x9 x10 x11 0 (by decide), trivial⟩

end Cert.DownIdeal.Gen

end
-- ==== Proof.DownRunA.lean ====
/- The whole down body run at the first grid point. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at the first grid point, run on whole buffers: those it reads at their contents, those it only stores into at anything. The pieces each
    buffer ends with are the run's witness. -/
noncomputable def kernelRun0_A (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : cond0_1 i) (hc2 : cond0_2 i) (hc3 : cond0_3 i) (hc4 : ¬cond0_4 i) (hc5 : ¬cond0_5 i)
    (x2 : Vec F S256x1536 .f32) (x3 : Vec F S256x1536 .f32) (x4 : Vec F S256x1536 .bf16) (x5 : Vec F S256x1536 .bf16) (x6 : Vec F S256x128 .f32) (x7 : Vec F S256x128 .f32) (x8 : Vec F S1536x512 .bf16) (x9 : Vec F S768x512 .i8) (x10 : Vec F S1x12x512 .f32) (x11 : Vec F S1x12x512 .i8) (x20 : Vec F S768x18432 .bf16) (x21 : Vec F S512x18432 .i8) :
    Σ' (L16 : List (View.Piece (Elt F) S256x1536 .i8)), Σ' (L17 : List (View.Piece (Elt F) S256x1 .f32)), Σ' (L18 : List (View.Piece (Elt F) S256x1536 .i8)), Σ' (L19 : List (View.Piece (Elt F) S256x1 .f32)), Σ' (L20 : List (View.Piece (Elt F) S768x18432 .bf16)), Σ' (L21 : List (View.Piece (Elt F) S512x18432 .i8)), Σ' (L22 : List (View.Piece (Elt F) S1536x512 .bf16)), Σ' (L23 : List (View.Piece (Elt F) S768x512 .f32)), Σ' (L24 : List (View.Piece (Elt F) S512x512 .f32)), { L25 : List (View.Piece (Elt F) S5x256x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg20.eq_unread hf20; obtain rfl := harg21.eq_unread hf21
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H16]
    · iexists _; iexact H16
    isplitl [H17]
    · iexists _; iexact H17
    isplitl [H18]
    · iexists _; iexact H18
    isplitl [H19]
    · iexists _; iexact H19
    isplitl [H20]
    · iexact H20
    isplitl [H21]
    · iexact H21
    isplitl [H22]
    · iexists _; iexact H22
    isplitl [H23]
    · iexists _; iexact H23
    isplitl [H24]
    · iexists _; iexact H24
    iexists _; iexact H25

end Cert.DownIdeal.Gen

end
-- ==== Proof.DownOutA.lean ====
/- The down body at the first grid point: the contents of its buffers after the run. -/
module

public import proofs.«01_k».proof.Proof.DownDeq
public import proofs.«01_k».proof.Proof.DownRunA

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the first grid point, its buffers' contents stated. -/
theorem run_A (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : cond0_1 i) (hc2 : cond0_2 i) (hc3 : cond0_3 i) (hc4 : ¬cond0_4 i) (hc5 : ¬cond0_5 i)
    (x2 : Vec F S256x1536 .f32) (x3 : Vec F S256x1536 .f32) (x4 : Vec F S256x1536 .bf16) (x5 : Vec F S256x1536 .bf16) (x6 : Vec F S256x128 .f32) (x7 : Vec F S256x128 .f32) (x8 : Vec F S1536x512 .bf16) (x9 : Vec F S768x512 .i8) (x10 : Vec F S1x12x512 .f32) (x11 : Vec F S1x12x512 .i8) (x20 : Vec F S768x18432 .bf16) (x21 : Vec F S512x18432 .i8) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg16 fullShare (k0_pay11 x2 (k0_pay28 x6)) ∗ owns (c : Thread nD τ) arg17 fullShare ((k0_pay28 x6)) ∗ owns (c : Thread nD τ) arg18 fullShare (k0_pay12 x3 (k0_pay29 x7)) ∗ owns (c : Thread nD τ) arg19 fullShare ((k0_pay29 x7)) ∗ owns (c : Thread nD τ) arg20 fullShare (hcPut (i 1) (hChunk x3 x4 x5) x20) ∗ owns (c : Thread nD τ) arg21 fullShare (qcPut (i 1) (qChunk x2 x3 (k0_pay28 x6) (k0_pay29 x7)) x21) ∗ (∃ d, owns (c : Thread nD τ) arg22 fullShare d) ∗ owns (c : Thread nD τ) arg23 fullShare ((accbNew k0_pay33 (hChunk x3 x4 x5) x8)) ∗ owns (c : Thread nD τ) arg24 fullShare ((accqNew k0_pay34 (qChunk x2 x3 (k0_pay28 x6) (k0_pay29 x7)) (deqAll x9 x10 x11))) ∗ owns (c : Thread nD τ) arg25 fullShare (k0_pay30)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_A.sl.v374 (F := F) c arg9 harg9 arg10 harg10 arg11 harg11 arg22 x9 x10 x11) = deqAll x9 x10 x11 := deq_E c arg9 harg9 arg10 harg10 arg11 harg11 arg22 x9 x10 x11
  have fE : (kernelRun0_A.sl.v414 (F := F) c arg2 harg2 arg6 harg6 arg17 x2 x6) = k0_pay11 x2 (k0_pay28 x6) := congrArg₂ k0_pay11 (readAt_whole harg2 x2 zero2 _) (readCov_whole arg17.view _ _ _ (congrArg k0_pay28 (readAt_whole harg6 x6 zero2 _)) [])
  have rE : (kernelRun0_A.sl.v424 (F := F) c arg3 harg3 arg7 harg7 arg19 x3 x7) = k0_pay12 x3 (k0_pay29 x7) := congrArg₂ k0_pay12 (readAt_whole harg3 x3 zero2 _) (readCov_whole arg19.view _ _ _ (congrArg k0_pay29 (readAt_whole harg7 x7 zero2 _)) [])
  have hE : (kernelRun0_A.sl.v363 (F := F) c i arg3 harg3 arg4 harg4 arg5 harg5 arg20 hc2 x3 x4 x5) = hChunk x3 x4 x5 :=
    hcat_cov arg20.view i _ _ _ _ _ _ (congrArg k0_pay8 (readAt_whole harg3 x3 zero2 _)) (congrArg k0_pay9 (readAt_whole harg4 x4 zero2 _)) (congrArg k0_pay10 (readAt_whole harg5 x5 zero2 _)) _ _ _ _
  have qE : (kernelRun0_A.sl.v372 (F := F) c i arg2 harg2 arg3 harg3 arg6 harg6 arg7 harg7 arg17 arg19 arg21 hc2 x2 x3 x6 x7) = (qChunk x2 x3 (k0_pay28 x6) (k0_pay29 x7)) :=
    qcat_cov arg21.view i _ _ _ _ (congrArg k0_pay31 fE) (congrArg k0_pay32 rE) _ _ _
  iintro ⟨H2, H3, H4, H5, H6, H7, H8, H9, H10, H11, H16, H17, H18, H19, H20, H21, H22, H23, H24, H25, Hk⟩
  iapply ((kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x5 x6 x7 x8 x9 x10 x11 x20 x21).2.2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H6, H7, H8, H9, H10, H11, ⟨%f16, H16⟩, ⟨%f17, H17⟩, ⟨%f18, H18⟩, ⟨%f19, H19⟩, H20, H21, ⟨%f22, H22⟩, ⟨%f23, H23⟩, ⟨%f24, H24⟩, ⟨%f25, H25⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]
  · unfold owns; iexists _; isplitr
    swap; · iexact H16
    ipureintro; exact read_store arg16.view _ zero2 _ _ _ (congrArg₂ k0_pay11 (readAt_whole harg2 x2 zero2 _) (readCov_whole arg17.view _ _ _ (congrArg k0_pay28 (readAt_whole harg6 x6 zero2 _)) [])) _
  isplitl [H17]
  · unfold owns; iexists _; isplitr
    swap; · iexact H17
    ipureintro; exact read_store arg17.view _ zero2 _ _ _ (congrArg k0_pay28 (readAt_whole harg6 x6 zero2 _)) _
  isplitl [H18]
  · unfold owns; iexists _; isplitr
    swap; · iexact H18
    ipureintro; exact read_store arg18.view _ zero2 _ _ _ (congrArg₂ k0_pay12 (readAt_whole harg3 x3 zero2 _) (readCov_whole arg19.view _ _ _ (congrArg k0_pay29 (readAt_whole harg7 x7 zero2 _)) [])) _
  isplitl [H19]
  · unfold owns; iexists _; isplitr
    swap; · iexact H19
    ipureintro; exact read_store arg19.view _ zero2 _ _ _ (congrArg k0_pay29 (readAt_whole harg7 x7 zero2 _)) _
  isplitl [H20]
  · unfold owns; iexists _; isplitr
    swap; · iexact H20
    ipureintro; exact hcat_put harg20 x20 i _ _ _ _ _ _ (congrArg k0_pay8 (readAt_whole harg3 x3 zero2 _)) (congrArg k0_pay9 (readAt_whole harg4 x4 zero2 _)) (congrArg k0_pay10 (readAt_whole harg5 x5 zero2 _)) _ _ _
  isplitl [H21]
  · unfold owns; iexists _; isplitr
    swap; · iexact H21
    ipureintro; exact qcat_put harg21 x21 i _ _ _ _ (congrArg k0_pay31 fE) (congrArg k0_pay32 rE) _ _
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readCov_whole arg23.view _ _ _ rfl []) hE (readAt_whole harg8 x8 zero2 _))) _
  isplitl [H24]
  · unfold owns; iexists _; isplitr
    swap; · iexact H24
    ipureintro; exact read_store arg24.view _ zero2 _ _ _ ((accq_congr (readCov_whole arg24.view _ _ _ rfl []) qE dE)) _
  unfold owns; iexists _; isplitr
  swap; · iexact H25
  ipureintro; exact read_store arg25.view _ zero3 _ _ _ (rfl) _

end Cert.DownIdeal.Gen

end
-- ==== Proof.DownBodyA.lean ====
/- The down body meets its obligation at the first grid point. -/
module

public import proofs.«01_k».proof.Proof.DownDats
public import proofs.«01_k».proof.Proof.DownOutA

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at the first grid point. -/
theorem sound_A (c : Dev nD) (t : Fin cfg0.N) (h1 : t.val = 0) (h2 : t.val < 12) (h3 : t.val % 12 = 0) (h4 : ¬t.val % 12 = 11) (h5 : ¬t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 14 t = owns (c : Thread nD τ) (ms0_14 t) fullShare ((dats m 0 c).after 14 t) from by
    unfold Dat.leavesExact; rw [liveAt0_14 t h2], after0_14]
  rw [show (dats m 0 c).leavesExact 16 t = owns (c : Thread nD τ) (ms0_16 t) fullShare ((dats m 0 c).after 16 t) from by
    unfold Dat.leavesExact; rw [liveAt0_16 t h2], after0_16]
  rw [show (dats m 0 c).leavesExact 15 t = owns (c : Thread nD τ) (ms0_15 t) fullShare ((dats m 0 c).after 15 t) from by
    unfold Dat.leavesExact; rw [liveAt0_15 t h1], after0_15]
  rw [show (dats m 0 c).leavesExact 17 t = owns (c : Thread nD τ) (ms0_17 t) fullShare ((dats m 0 c).after 17 t) from by
    unfold Dat.leavesExact; rw [liveAt0_17 t h1], after0_17]
  rw [Dat.leavesExact_idle _ 10 t (idleAt0_10 t h5) (noFlush0_10 t h5)]
  rw [Dat.leavesExact_idle _ 11 t (idleAt0_11 t h5) (noFlush0_11 t h5)]
  rw [Dat.leavesExact_idle _ 12 t (idleAt0_12 t h4) (noFlush0_12 t h4)]
  rw [Dat.leavesExact_idle _ 13 t (idleAt0_13 t h4) (noFlush0_13 t h4)]
  rw [PhiS_castSucc m c t, PhiS_zero m c _ _ h1, PhiA0_eq, tokAt_zero m c t h1]
  rw [accbAt_reset m c t h3, accqAt_reset m c t h3]
  rw [fcAt_lt m c t h2, rcAt_lt m c t h2, ← HC_chunk m c t h2, ← QC_chunk m c t h2]
  iintro ⟨⟨⟨⟨%x20, H20⟩, ⟨%x21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  iapply (run_A (F := F) c (grid0.coords t) _ _ _ _ _ _ _ _ _ _ _ _ _ _ _ _ _ _ _ _ _ _ _ _ _ _ _ _ _ _ _ _ _ _ _ _ _ _ _ _ _ _ _ _ _ _ _ _ ((hcond0_1 t).mpr h1) ((hcond0_2 t).mpr h2) ((hcond0_3 t).mpr h3) (fun h => h4 ((hcond0_4 t).mp h)) (fun h => h5 ((hcond0_5 t).mp h)) (iblk m c 0 t) (iblk m c 1 t) (iblk m c 2 t) (iblk m c 3 t) (iblk m c 4 t) (iblk m c 5 t) (iblk m c 6 t) (iblk m c 7 t) (iblk m c 8 t) (iblk m c 9 t) x20 x21 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]; · iexists _; iexact H16
  isplitl [H17]; · iexists _; iexact H17
  isplitl [H18]; · iexists _; iexact H18
  isplitl [H19]; · iexists _; iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H6, H7, H8, H9, H10, H11, H16, H17, H18, H19, H20, H21, H22, H23, H24, H25⟩
  isplitl [H20 H21 H22 H23 H24 H25 Hg]
  · isplitl [H20 H21 H22 H23 H24 H25]
    · isplitl [H20]
      · iexists _; isplitr
        swap; · iexact H20
        ipureintro; have h := HCP_put m c t h2 x20 (h1.symm ▸ HCP_zero m c x20); rw [← HC_chunk m c t h2] at h; exact h
      isplitl [H21]
      · iexists _; isplitr
        swap; · iexact H21
        ipureintro; have h := QCP_put m c t h2 x21 (h1.symm ▸ QCP_zero m c x21); rw [← QC_chunk m c t h2] at h; exact h
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d10; iexact H12
  isplitl [H13]; · iexists d11; iexact H13
  isplitl [H14]; · iexists d12; iexact H14
  isplitl [H15]; · iexists d13; iexact H15
  isplitl [H16]; · iexact H16
  isplitl [H17]; · iexact H17
  isplitl [H18]; · iexact H18
  iexact H19

end Cert.DownIdeal.Gen

end
-- ==== Proof.DownRunB.lean ====
/- The whole down body run at a point of the first column block that is neither its first nor its last. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at a point of the first column block that is neither its first nor its last, run on whole buffers: those it reads at their contents, those it only stores into at anything. The pieces each
    buffer ends with are the run's witness. -/
noncomputable def kernelRun0_B (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : cond0_2 i) (hc3 : ¬cond0_3 i) (hc4 : ¬cond0_4 i) (hc5 : ¬cond0_5 i)
    (x2 : Vec F S256x1536 .f32) (x3 : Vec F S256x1536 .f32) (x4 : Vec F S256x1536 .bf16) (x5 : Vec F S256x1536 .bf16) (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) :
    Σ' (L16 : List (View.Piece (Elt F) S256x1536 .i8)), Σ' (L18 : List (View.Piece (Elt F) S256x1536 .i8)), Σ' (L20 : List (View.Piece (Elt F) S768x18432 .bf16)), Σ' (L21 : List (View.Piece (Elt F) S512x18432 .i8)), Σ' (L22 : List (View.Piece (Elt F) S1536x512 .bf16)), Σ' (L23 : List (View.Piece (Elt F) S768x512 .f32)), { L24 : List (View.Piece (Elt F) S512x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg16 fullShare d) ∗ owns (c : Thread nD τ) arg17 fullShare x17 ∗ (∃ d, owns (c : Thread nD τ) arg18 fullShare d) ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg16.view.loc (c : Thread nD τ) ↦[arg16.view.set]{fullShare} arg16.view.writes (Elt F) f L16) ∗ owns (c : Thread nD τ) arg17 fullShare x17 ∗ (∃ f, arg18.view.loc (c : Thread nD τ) ↦[arg18.view.set]{fullShare} arg18.view.writes (Elt F) f L18) ∗ owns (c : Thread nD τ) arg19 fullShare x19 ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, ⟨%d16, %f16, -, H16⟩, ⟨%f17, %hf17, H17⟩, ⟨%d18, %f18, -, H18⟩, ⟨%f19, %hf19, H19⟩, ⟨%f20, %hf20, H20⟩, ⟨%f21, %hf21, H21⟩, ⟨%d22, %f22, -, H22⟩, ⟨%f23, %hf23, H23⟩, ⟨%f24, %hf24, H24⟩, Hk⟩
    obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11; obtain rfl := harg17.eq_unread hf17; obtain rfl := harg19.eq_unread hf19; obtain rfl := harg20.eq_unread hf20; obtain rfl := harg21.eq_unread hf21; obtain rfl := harg23.eq_unread hf23; obtain rfl := harg24.eq_unread hf24
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H16]
    · iexists _; iexact H16
    isplitl [H17]
    · iexists _; isplitr; · ipureintro; exact harg17.read_unread _
      iexact H17
    isplitl [H18]
    · iexists _; iexact H18
    isplitl [H19]
    · iexists _; isplitr; · ipureintro; exact harg19.read_unread _
      iexact H19
    isplitl [H20]
    · iexact H20
    isplitl [H21]
    · iexact H21
    isplitl [H22]
    · iexists _; iexact H22
    isplitl [H23]
    · iexists _; iexact H23
    iexists _; iexact H24

end Cert.DownIdeal.Gen

end
-- ==== Proof.DownOutB.lean ====
/- The down body at a point of the first column block that is neither its first nor its last: the contents of its buffers after the run. -/
module

public import proofs.«01_k».proof.Proof.DownDeq
public import proofs.«01_k».proof.Proof.DownRunB

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a point of the first column block that is neither its first nor its last, its buffers' contents stated. -/
theorem run_B (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : cond0_2 i) (hc3 : ¬cond0_3 i) (hc4 : ¬cond0_4 i) (hc5 : ¬cond0_5 i)
    (x2 : Vec F S256x1536 .f32) (x3 : Vec F S256x1536 .f32) (x4 : Vec F S256x1536 .bf16) (x5 : Vec F S256x1536 .bf16) (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg16 fullShare d) ∗ owns (c : Thread nD τ) arg17 fullShare x17 ∗ (∃ d, owns (c : Thread nD τ) arg18 fullShare d) ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg16 fullShare (k0_pay11 x2 x17) ∗ owns (c : Thread nD τ) arg17 fullShare x17 ∗ owns (c : Thread nD τ) arg18 fullShare (k0_pay12 x3 x19) ∗ owns (c : Thread nD τ) arg19 fullShare x19 ∗ owns (c : Thread nD τ) arg20 fullShare (hcPut (i 1) (hChunk x3 x4 x5) x20) ∗ owns (c : Thread nD τ) arg21 fullShare (qcPut (i 1) (qChunk x2 x3 x17 x19) x21) ∗ (∃ d, owns (c : Thread nD τ) arg22 fullShare d) ∗ owns (c : Thread nD τ) arg23 fullShare ((accbNew x23 (hChunk x3 x4 x5) x8)) ∗ owns (c : Thread nD τ) arg24 fullShare ((accqNew x24 (qChunk x2 x3 x17 x19) (deqAll x9 x10 x11)))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_B.sl.v374 (F := F) c arg9 harg9 arg10 harg10 arg11 harg11 arg22 x9 x10 x11) = deqAll x9 x10 x11 := deq_E c arg9 harg9 arg10 harg10 arg11 harg11 arg22 x9 x10 x11
  have fE : (kernelRun0_B.sl.v414 (F := F) c arg2 harg2 arg17 harg17 x2 x17) = k0_pay11 x2 x17 := congrArg₂ k0_pay11 (readAt_whole harg2 x2 zero2 _) (readAt_whole harg17 x17 zero2 _)
  have rE : (kernelRun0_B.sl.v424 (F := F) c arg3 harg3 arg19 harg19 x3 x19) = k0_pay12 x3 x19 := congrArg₂ k0_pay12 (readAt_whole harg3 x3 zero2 _) (readAt_whole harg19 x19 zero2 _)
  have hE : (kernelRun0_B.sl.v363 (F := F) c i arg3 harg3 arg4 harg4 arg5 harg5 arg20 hc2 x3 x4 x5) = hChunk x3 x4 x5 :=
    hcat_cov arg20.view i _ _ _ _ _ _ (congrArg k0_pay8 (readAt_whole harg3 x3 zero2 _)) (congrArg k0_pay9 (readAt_whole harg4 x4 zero2 _)) (congrArg k0_pay10 (readAt_whole harg5 x5 zero2 _)) _ _ _ _
  have qE : (kernelRun0_B.sl.v372 (F := F) c i arg2 harg2 arg3 harg3 arg17 harg17 arg19 harg19 arg21 hc2 x2 x3 x17 x19) = (qChunk x2 x3 x17 x19) :=
    qcat_cov arg21.view i _ _ _ _ (congrArg k0_pay31 fE) (congrArg k0_pay32 rE) _ _ _
  iintro ⟨H2, H3, H4, H5, H8, H9, H10, H11, H16, H17, H18, H19, H20, H21, H22, H23, H24, Hk⟩
  iapply ((kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x5 x8 x9 x10 x11 x17 x19 x20 x21 x23 x24).2.2.2.2.2.2.2 E K)
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H2, H3, H4, H5, H8, H9, H10, H11, ⟨%f16, H16⟩, H17, ⟨%f18, H18⟩, H19, H20, H21, ⟨%f22, H22⟩, ⟨%f23, H23⟩, ⟨%f24, H24⟩⟩
  iapply Hk
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H16]
  · unfold owns; iexists _; isplitr
    swap; · iexact H16
    ipureintro; exact read_store arg16.view _ zero2 _ _ _ (congrArg₂ k0_pay11 (readAt_whole harg2 x2 zero2 _) (readAt_whole harg17 x17 zero2 _)) _
  isplitl [H17]; · iexact H17
  isplitl [H18]
  · unfold owns; iexists _; isplitr
    swap; · iexact H18
    ipureintro; exact read_store arg18.view _ zero2 _ _ _ (congrArg₂ k0_pay12 (readAt_whole harg3 x3 zero2 _) (readAt_whole harg19 x19 zero2 _)) _
  isplitl [H19]; · iexact H19
  isplitl [H20]
  · unfold owns; iexists _; isplitr
    swap; · iexact H20
    ipureintro; exact hcat_put harg20 x20 i _ _ _ _ _ _ (congrArg k0_pay8 (readAt_whole harg3 x3 zero2 _)) (congrArg k0_pay9 (readAt_whole harg4 x4 zero2 _)) (congrArg k0_pay10 (readAt_whole harg5 x5 zero2 _)) _ _ _
  isplitl [H21]
  · unfold owns; iexists _; isplitr
    swap; · iexact H21
    ipureintro; exact qcat_put harg21 x21 i _ _ _ _ (congrArg k0_pay31 fE) (congrArg k0_pay32 rE) _ _
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readAt_whole harg23 x23 zero2 _) hE (readAt_whole harg8 x8 zero2 _))) _
  unfold owns; iexists _; isplitr
  swap; · iexact H24
  ipureintro; exact read_store arg24.view _ zero2 _ _ _ ((accq_congr (readAt_whole harg24 x24 zero2 _) qE dE)) _

end Cert.DownIdeal.Gen

end
-- ==== Proof.DownBodyB.lean ====
/- The down body meets its obligation at a point of the first column block that is neither its first nor its last. -/
module

public import proofs.«01_k».proof.Proof.DownDats
public import proofs.«01_k».proof.Proof.DownOutB

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at a point of the first column block that is neither its first nor its last. -/
theorem sound_B (c : Dev nD) (t : Fin cfg0.N) (h1 : ¬t.val = 0) (h2 : t.val < 12) (h3 : ¬t.val % 12 = 0) (h4 : ¬t.val % 12 = 11) (h5 : ¬t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 14 t = owns (c : Thread nD τ) (ms0_14 t) fullShare ((dats m 0 c).after 14 t) from by
    unfold Dat.leavesExact; rw [liveAt0_14 t h2], after0_14]
  rw [show (dats m 0 c).leavesExact 16 t = owns (c : Thread nD τ) (ms0_16 t) fullShare ((dats m 0 c).after 16 t) from by
    unfold Dat.leavesExact; rw [liveAt0_16 t h2], after0_16]
  rw [Dat.leavesExact_idle _ 10 t (idleAt0_10 t h5) (noFlush0_10 t h5)]
  rw [Dat.leavesExact_idle _ 11 t (idleAt0_11 t h5) (noFlush0_11 t h5)]
  rw [Dat.leavesExact_idle _ 12 t (idleAt0_12 t h4) (noFlush0_12 t h4)]
  rw [Dat.leavesExact_idle _ 13 t (idleAt0_13 t h4) (noFlush0_13 t h4)]
  simp only [late0_15 m c t h1, late0_17 m c t h1]
  rw [PhiS_castSucc m c t, PhiS_pos m c _ _ h1]
  rw [tokAt_keep m c t h1 h4]
  rw [accbAt_step m c t h3, accqAt_step m c t h3]
  rw [fcAt_lt m c t h2, rcAt_lt m c t h2, ← HC_chunk m c t h2, ← QC_chunk m c t h2]
  iintro ⟨⟨⟨⟨%x20, %hx20, H20⟩, ⟨%x21, %hx21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  iapply (run_B (F := F) c (grid0.coords t) _ _ _ _ _ _ _ _ _ _ _ _ _ _ _ _ _ _ _ _ _ _ _ _ _ _ _ _ _ _ _ _ _ _ _ _ _ _ _ _ _ _ _ _ _ _ _ _ (fun h => h1 ((hcond0_1 t).mp h)) ((hcond0_2 t).mpr h2) (fun h => h3 ((hcond0_3 t).mp h)) (fun h => h4 ((hcond0_4 t).mp h)) (fun h => h5 ((hcond0_5 t).mp h)) (iblk m c 0 t) (iblk m c 1 t) (iblk m c 2 t) (iblk m c 3 t) (iblk m c 6 t) (iblk m c 7 t) (iblk m c 8 t) (iblk m c 9 t) (FS m c) (RS m c) x20 x21 _ _ Set.univ _)
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H16]; · iexists _; iexact H16
  isplitl [H17]; · iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  iintro ⟨H2, H3, H4, H5, H8, H9, H10, H11, H16, H17, H18, H19, H20, H21, H22, H23, H24⟩
  isplitl [H20 H21 H22 H23 H24 H25 Hg]
  · isplitl [H20 H21 H22 H23 H24 H25]
    · isplitl [H20]
      · iexists _; isplitr
        swap; · iexact H20
        ipureintro; have h := HCP_put m c t h2 x20 hx20; rw [← HC_chunk m c t h2] at h; exact h
      isplitl [H21]
      · iexists _; isplitr
        swap; · iexact H21
        ipureintro; have h := QCP_put m c t h2 x21 hx21; rw [← QC_chunk m c t h2] at h; exact h
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d10; iexact H12
  isplitl [H13]; · iexists d11; iexact H13
  isplitl [H14]; · iexists d12; iexact H14
  isplitl [H15]; · iexists d13; iexact H15
  isplitl [H16]; · iexact H16
  isplitl [H17]; · iapply (leaves0_15 m c t h1 d15) $$ H17
  isplitl [H18]; · iexact H18
  iapply (leaves0_17 m c t h1 d17) $$ H19

end Cert.DownIdeal.Gen

end
-- ==== Proof.DownRunC.lean ====
/- The whole down body run at the last point of the first column block. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at the last point of the first column block, run on whole buffers: those it reads at their contents, those it only stores into at anything. The pieces each
    buffer ends with are the run's witness. -/
noncomputable def kernelRun0_C (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : cond0_2 i) (hc3 : ¬cond0_3 i) (hc4 : cond0_4 i) (hc5 : ¬cond0_5 i)
    (x2 : Vec F S256x1536 .f32) (x3 : Vec F S256x1536 .f32) (x4 : Vec F S256x1536 .bf16) (x5 : Vec F S256x1536 .bf16) (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (x25 : Vec F S5x256x128 .f32) :
    Σ' (L14 : List (View.Piece (Elt F) S4x512 .f32)), Σ' (L15 : List (View.Piece (Elt F) S256x512 .bf16)), Σ' (L16 : List (View.Piece (Elt F) S256x1536 .i8)), Σ' (L18 : List (View.Piece (Elt F) S256x1536 .i8)), Σ' (L20 : List (View.Piece (Elt F) S768x18432 .bf16)), Σ' (L21 : List (View.Piece (Elt F) S512x18432 .i8)), Σ' (L22 : List (View.Piece (Elt F) S1536x512 .bf16)), Σ' (L23 : List (View.Piece (Elt F) S768x512 .f32)), Σ' (L24 : List (View.Piece (Elt F) S512x512 .f32)), { L25 : List (View.Piece (Elt F) S5x256x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x17 ∗ (∃ d, owns (c : Thread nD τ) arg18 fullShare d) ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24 ∗ owns (c : Thread nD τ) arg25 fullShare x25
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ owns (c : Thread nD τ) arg17 fullShare x17 ∗ (∃ f, arg18.view.loc (c : Thread nD τ) ↦[arg18.view.set]{fullShare} arg18.view.writes (Elt F) f L18) ∗ owns (c : Thread nD τ) arg19 fullShare x19 ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, ⟨%d14, %f14, -, H14⟩, ⟨%d15, %f15, -, H15⟩, ⟨%d16, %f16, -, H16⟩, ⟨%f17, %hf17, H17⟩, ⟨%d18, %f18, -, H18⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, Hk⟩
    obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11; obtain rfl := harg17.eq_unread hf17; obtain rfl := harg19.eq_unread hf19; obtain rfl := harg20.eq_unread hf20; obtain rfl := harg21.eq_unread hf21; obtain rfl := harg23.eq_unread hf23; obtain rfl := harg24.eq_unread hf24; obtain rfl := harg25.eq_unread hf25
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H14]
    · iexists _; iexact H14
    isplitl [H15]
    · iexists _; iexact H15
    isplitl [H16]
    · iexists _; iexact H16
    isplitl [H17]
    · iexists _; isplitr; · ipureintro; exact harg17.read_unread _
      iexact H17
    isplitl [H18]
    · iexists _; iexact H18
    isplitl [H19]
    · iexists _; isplitr; · ipureintro; exact harg19.read_unread _
      iexact H19
    isplitl [H20]
    · iexact H20
    isplitl [H21]
    · iexact H21
    isplitl [H22]
    · iexists _; iexact H22
    isplitl [H23]
    · iexists _; iexact H23
    isplitl [H24]
    · iexists _; iexact H24
    iexists _; iexact H25

end Cert.DownIdeal.Gen

end
-- ==== Proof.DownOutC.lean ====
/- The down body at the last point of the first column block: the contents of its buffers after the run. -/
module

public import proofs.«01_k».proof.Proof.DownDeq
public import proofs.«01_k».proof.Proof.DownRunC

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the last point of the first column block, its buffers' contents stated. -/
theorem run_C (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : cond0_2 i) (hc3 : ¬cond0_3 i) (hc4 : cond0_4 i) (hc5 : ¬cond0_5 i)
    (x2 : Vec F S256x1536 .f32) (x3 : Vec F S256x1536 .f32) (x4 : Vec F S256x1536 .bf16) (x5 : Vec F S256x1536 .bf16) (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (x25 : Vec F S5x256x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x17 ∗ (∃ d, owns (c : Thread nD τ) arg18 fullShare d) ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24 ∗ owns (c : Thread nD τ) arg25 fullShare x25
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare (ecNew (accbNew x23 (hChunk x3 x4 x5) x8) (accqNew x24 (qChunk x2 x3 x17 x19) (deqAll x9 x10 x11)) x17 x19) ∗ owns (c : Thread nD τ) arg15 fullShare (k0_pay13 (B0 (accbNew x23 (hChunk x3 x4 x5) x8))) ∗ owns (c : Thread nD τ) arg16 fullShare (k0_pay11 x2 x17) ∗ owns (c : Thread nD τ) arg17 fullShare x17 ∗ owns (c : Thread nD τ) arg18 fullShare (k0_pay12 x3 x19) ∗ owns (c : Thread nD τ) arg19 fullShare x19 ∗ owns (c : Thread nD τ) arg20 fullShare (hcPut (i 1) (hChunk x3 x4 x5) x20) ∗ owns (c : Thread nD τ) arg21 fullShare (qcPut (i 1) (qChunk x2 x3 x17 x19) x21) ∗ (∃ d, owns (c : Thread nD τ) arg22 fullShare d) ∗ owns (c : Thread nD τ) arg23 fullShare ((accbNew x23 (hChunk x3 x4 x5) x8)) ∗ owns (c : Thread nD τ) arg24 fullShare ((accqNew x24 (qChunk x2 x3 x17 x19) (deqAll x9 x10 x11))) ∗ owns (c : Thread nD τ) arg25 fullShare ((tokNew (accbNew x23 (hChunk x3 x4 x5) x8) (accqNew x24 (qChunk x2 x3 x17 x19) (deqAll x9 x10 x11)) x17 x19 x25))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_C.sl.v374 (F := F) c arg9 harg9 arg10 harg10 arg11 harg11 arg22 x9 x10 x11) = deqAll x9 x10 x11 := deq_E c arg9 harg9 arg10 harg10 arg11 harg11 arg22 x9 x10 x11
  have fE : (kernelRun0_C.sl.v414 (F := F) c arg2 harg2 arg17 harg17 x2 x17) = k0_pay11 x2 x17 := congrArg₂ k0_pay11 (readAt_whole harg2 x2 zero2 _) (readAt_whole harg17 x17 zero2 _)
  have rE : (kernelRun0_C.sl.v424 (F := F) c arg3 harg3 arg19 harg19 x3 x19) = k0_pay12 x3 x19 := congrArg₂ k0_pay12 (readAt_whole harg3 x3 zero2 _) (readAt_whole harg19 x19 zero2 _)
  have hE : (kernelRun0_C.sl.v363 (F := F) c i arg3 harg3 arg4 harg4 arg5 harg5 arg20 hc2 x3 x4 x5) = hChunk x3 x4 x5 :=
    hcat_cov arg20.view i _ _ _ _ _ _ (congrArg k0_pay8 (readAt_whole harg3 x3 zero2 _)) (congrArg k0_pay9 (readAt_whole harg4 x4 zero2 _)) (congrArg k0_pay10 (readAt_whole harg5 x5 zero2 _)) _ _ _ _
  have qE : (kernelRun0_C.sl.v372 (F := F) c i arg2 harg2 arg3 harg3 arg17 harg17 arg19 harg19 arg21 hc2 x2 x3 x17 x19) = (qChunk x2 x3 x17 x19) :=
    qcat_cov arg21.view i _ _ _ _ (congrArg k0_pay31 fE) (congrArg k0_pay32 rE) _ _ _
  have b0 : (kernelRun0_C.sl.v388 (F := F) c i arg3 harg3 arg4 harg4 arg5 harg5 arg8 harg8 arg20 arg23 harg23 hc2 x3 x4 x5 x8 x23) = B0 (accbNew x23 (hChunk x3 x4 x5) x8) := readCov_rowsB arg23.view _ _ _ (accb_congr (readAt_whole harg23 x23 zero2 _) hE (readAt_whole harg8 x8 zero2 _)) 0 _ _
  have b1 : (kernelRun0_C.sl.v410 (F := F) c i arg3 harg3 arg4 harg4 arg5 harg5 arg8 harg8 arg20 arg23 harg23 hc2 x3 x4 x5 x8 x23) = B1 (accbNew x23 (hChunk x3 x4 x5) x8) := readCov_rowsB arg23.view _ _ _ (accb_congr (readAt_whole harg23 x23 zero2 _) hE (readAt_whole harg8 x8 zero2 _)) 256 _ _
  have b2 : (kernelRun0_C.sl.v411 (F := F) c i arg3 harg3 arg4 harg4 arg5 harg5 arg8 harg8 arg20 arg23 harg23 hc2 x3 x4 x5 x8 x23) = B2 (accbNew x23 (hChunk x3 x4 x5) x8) := readCov_rowsB arg23.view _ _ _ (accb_congr (readAt_whole harg23 x23 zero2 _) hE (readAt_whole harg8 x8 zero2 _)) 512 _ _
  have q0 : (kernelRun0_C.sl.v405 (F := F) c i arg2 harg2 arg3 harg3 arg9 harg9 arg10 harg10 arg11 harg11 arg17 harg17 arg19 harg19 arg21 arg22 arg24 harg24 hc2 x2 x3 x9 x10 x11 x17 x19 x24) = Q0 (accqNew x24 (qChunk x2 x3 x17 x19) (deqAll x9 x10 x11)) := readCov_rowsQ arg24.view _ _ _ (accq_congr (readAt_whole harg24 x24 zero2 _) qE dE) 0 _ _
  have q1 : (kernelRun0_C.sl.v412 (F := F) c i arg2 harg2 arg3 harg3 arg9 harg9 arg10 harg10 arg11 harg11 arg17 harg17 arg19 harg19 arg21 arg22 arg24 harg24 hc2 x2 x3 x9 x10 x11 x17 x19 x24) = Q1 (accqNew x24 (qChunk x2 x3 x17 x19) (deqAll x9 x10 x11)) := readCov_rowsQ arg24.view _ _ _ (accq_congr (readAt_whole harg24 x24 zero2 _) qE dE) 256 _ _
  have r15 : (kernelRun0_C.sl.r_20 (F := F) c i arg2 harg2 arg3 harg3 arg9 harg9 arg10 harg10 arg11 harg11 arg17 harg17 arg19 harg19 arg21 arg22 arg24 harg24 hc2 x2 x3 x9 x10 x11 x17 x19 x24) = k0_pay15 (Q1 (accqNew x24 (qChunk x2 x3 x17 x19) (deqAll x9 x10 x11))) x19 := congrArg₂ k0_pay15 q1 (readAt_whole harg19 x19 zero2 _)
  iintro ⟨H2, H3, H4, H5, H8, H9, H10, H11, H14, H15, H16, H17, H18, H19, H20, H21, H22, H23, H24, H25, Hk⟩
  iapply ((kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x5 x8 x9 x10 x11 x17 x19 x20 x21 x23 x24 x25).2.2.2.2.2.2.2.2.2.2 E K)
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H8, H9, H10, H11, ⟨%f14, H14⟩, ⟨%f15, H15⟩, ⟨%f16, H16⟩, H17, ⟨%f18, H18⟩, H19, H20, H21, ⟨%f22, H22⟩, ⟨%f23, H23⟩, ⟨%f24, H24⟩, ⟨%f25, H25⟩⟩
  iapply Hk
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H14]
  · unfold owns; iexists _; isplitr
    swap; · iexact H14
    ipureintro; exact read_pieces arg14.view _ _ _ ![1, 512] ⟨lead2 _ _ _ (congrArg₂ k0_pay5 b0 r15) 3 (by decide) (by decide) (fun _ => rfl),
      lead2 _ _ _ (congrArg₂ k0_pay23 b0 b2) 2 (by decide) (by decide) (fun _ => rfl), lead2 _ _ _ (congrArg₂ k0_pay20 b0 b1) 1 (by decide) (by decide) (fun _ => rfl),
      lead2 _ _ _ (congr3 k0_pay17 b0 q0 (readAt_whole harg17 x17 zero2 _)) 0 (by decide) (by decide) (fun _ => rfl), trivial⟩ (by sl_kernel_rfl)
  isplitl [H15]
  · unfold owns; iexists _; isplitr
    swap; · iexact H15
    ipureintro; exact read_store arg15.view _ zero2 _ _ _ (congrArg k0_pay13 b0) _
  isplitl [H16]
  · unfold owns; iexists _; isplitr
    swap; · iexact H16
    ipureintro; exact read_store arg16.view _ zero2 _ _ _ (congrArg₂ k0_pay11 (readAt_whole harg2 x2 zero2 _) (readAt_whole harg17 x17 zero2 _)) _
  isplitl [H17]; · iexact H17
  isplitl [H18]
  · unfold owns; iexists _; isplitr
    swap; · iexact H18
    ipureintro; exact read_store arg18.view _ zero2 _ _ _ (congrArg₂ k0_pay12 (readAt_whole harg3 x3 zero2 _) (readAt_whole harg19 x19 zero2 _)) _
  isplitl [H19]; · iexact H19
  isplitl [H20]
  · unfold owns; iexists _; isplitr
    swap; · iexact H20
    ipureintro; exact hcat_put harg20 x20 i _ _ _ _ _ _ (congrArg k0_pay8 (readAt_whole harg3 x3 zero2 _)) (congrArg k0_pay9 (readAt_whole harg4 x4 zero2 _)) (congrArg k0_pay10 (readAt_whole harg5 x5 zero2 _)) _ _ _
  isplitl [H21]
  · unfold owns; iexists _; isplitr
    swap; · iexact H21
    ipureintro; exact qcat_put harg21 x21 i _ _ _ _ (congrArg k0_pay31 fE) (congrArg k0_pay32 rE) _ _
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readAt_whole harg23 x23 zero2 _) hE (readAt_whole harg8 x8 zero2 _))) _
  isplitl [H24]
  · unfold owns; iexists _; isplitr
    swap; · iexact H24
    ipureintro; exact read_store arg24.view _ zero2 _ _ _ ((accq_congr (readAt_whole harg24 x24 zero2 _) qE dE)) _
  unfold owns; iexists _; isplitr
  swap; · iexact H25
  ipureintro; exact read_pieces arg25.view _ _ _ ![1, 256, 128] ⟨lead3 _ _ _ (congr3 k0_pay6 b0 r15 (readAt_tok harg25 x25 3 (by decide) (by decide))) 3 (by decide) (by decide) (fun _ _ => rfl),
      lead3 _ _ _ (congrArg₂ k0_pay3 (congrArg₂ k0_pay22 b0 b2) (readAt_tok harg25 x25 2 (by decide) (by decide))) 2 (by decide) (by decide) (fun _ _ => rfl),
      lead3 _ _ _ (congr3 k0_pay21 b0 b1 (readAt_tok harg25 x25 1 (by decide) (by decide))) 1 (by decide) (by decide) (fun _ _ => rfl),
      lead3 _ _ _ (congrArg₂ k0_pay18 (congr3 k0_pay16 b0 q0 (readAt_whole harg17 x17 zero2 _)) (readAt_tok harg25 x25 0 (by decide) (by decide))) 0 (by decide) (by decide) (fun _ _ => rfl),
      lead3 _ _ _ (congrArg₂ k0_pay14 b0 (readAt_tok harg25 x25 4 (by decide) (by decide))) 4 (by decide) (by decide) (fun _ _ => rfl), trivial⟩ (by sl_kernel_rfl)

end Cert.DownIdeal.Gen

end
-- ==== Proof.DownBodyC.lean ====
/- The down body meets its obligation at the last point of the first column block. -/
module

public import proofs.«01_k».proof.Proof.DownDats
public import proofs.«01_k».proof.Proof.DownOutC

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at the last point of the first column block. -/
theorem sound_C (c : Dev nD) (t : Fin cfg0.N) (h1 : ¬t.val = 0) (h2 : t.val < 12) (h3 : ¬t.val % 12 = 0) (h4 : t.val % 12 = 11) (h5 : ¬t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 12 t = owns (c : Thread nD τ) (ms0_12 t) fullShare ((dats m 0 c).after 12 t) from by
    unfold Dat.leavesExact; rw [liveAt0_12 t h4], after0_12]
  rw [show (dats m 0 c).leavesExact 13 t = owns (c : Thread nD τ) (ms0_13 t) fullShare ((dats m 0 c).after 13 t) from by
    unfold Dat.leavesExact; rw [liveAt0_13 t h4], after0_13]
  rw [show (dats m 0 c).leavesExact 14 t = owns (c : Thread nD τ) (ms0_14 t) fullShare ((dats m 0 c).after 14 t) from by
    unfold Dat.leavesExact; rw [liveAt0_14 t h2], after0_14]
  rw [show (dats m 0 c).leavesExact 16 t = owns (c : Thread nD τ) (ms0_16 t) fullShare ((dats m 0 c).after 16 t) from by
    unfold Dat.leavesExact; rw [liveAt0_16 t h2], after0_16]
  rw [Dat.leavesExact_idle _ 10 t (idleAt0_10 t h5) (noFlush0_10 t h5)]
  rw [Dat.leavesExact_idle _ 11 t (idleAt0_11 t h5) (noFlush0_11 t h5)]
  simp only [late0_15 m c t h1, late0_17 m c t h1]
  rw [PhiS_castSucc m c t, PhiS_pos m c _ _ h1]
  rw [tokAt_new m c t h4]
  rw [accbAt_step m c t h3, accqAt_step m c t h3]
  rw [fcAt_lt m c t h2, rcAt_lt m c t h2, ← HC_chunk m c t h2, ← QC_chunk m c t h2]
  iintro ⟨⟨⟨⟨%x20, %hx20, H20⟩, ⟨%x21, %hx21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  iapply (run_C (F := F) c (grid0.coords t) _ _ _ _ _ _ _ _ _ _ _ _ _ _ _ _ _ _ _ _ _ _ _ _ _ _ _ _ _ _ _ _ _ _ _ _ _ _ _ _ _ _ _ _ _ _ _ _ (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 6 t) (iblk m c 7 t) (iblk m c 8 t) (iblk m c 9 t) (FS m c) (RS m c) x20 x21 _ _ _ Set.univ _)
  isplitl [H2]; · iexact H2
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H14]; · iexists _; iexact H14
  isplitl [H15]; · iexists _; iexact H15
  isplitl [H16]; · iexists _; iexact H16
  isplitl [H17]; · iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H2, H3, H4, H5, H8, H9, H10, H11, H14, H15, H16, H17, H18, H19, H20, H21, H22, H23, H24, H25⟩
  isplitl [H20 H21 H22 H23 H24 H25 Hg]
  · isplitl [H20 H21 H22 H23 H24 H25]
    · isplitl [H20]
      · iexists _; isplitr
        swap; · iexact H20
        ipureintro; have h := HCP_put m c t h2 x20 hx20; rw [← HC_chunk m c t h2] at h; exact h
      isplitl [H21]
      · iexists _; isplitr
        swap; · iexact H21
        ipureintro; have h := QCP_put m c t h2 x21 hx21; rw [← QC_chunk m c t h2] at h; exact h
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d10; iexact H12
  isplitl [H13]; · iexists d11; iexact H13
  isplitl [H14]; · iexact H14
  isplitl [H15]; · iexact H15
  isplitl [H16]; · iexact H16
  isplitl [H17]; · iapply (leaves0_15 m c t h1 d15) $$ H17
  isplitl [H18]; · iexact H18
  iapply (leaves0_17 m c t h1 d17) $$ H19

end Cert.DownIdeal.Gen

end
-- ==== Proof.DownRunD.lean ====
/- The whole down body run at the first point of a later column block. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at the first point of a later column block, run on whole buffers: those it reads at their contents, those it only stores into at anything. The pieces each
    buffer ends with are the run's witness. -/
noncomputable def kernelRun0_D (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : cond0_3 i) (hc4 : ¬cond0_4 i) (hc5 : ¬cond0_5 i)
    (x8 : Vec F S1536x512 .bf16) (x9 : Vec F S768x512 .i8) (x10 : Vec F S1x12x512 .f32) (x11 : Vec F S1x12x512 .i8) (x20 : Vec F S768x18432 .bf16) (x21 : Vec F S512x18432 .i8) :
    Σ' (L22 : List (View.Piece (Elt F) S1536x512 .bf16)), Σ' (L23 : List (View.Piece (Elt F) S768x512 .f32)), { L24 : List (View.Piece (Elt F) S512x512 .f32) //
      ∀ (E : Set ℕ) (K : PUnit → sProp 𝕄),
        iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f8, %hf8, H8⟩, ⟨%f9, %hf9, H9⟩, ⟨%f10, %hf10, H10⟩, ⟨%f11, %hf11, H11⟩, ⟨%f20, %hf20, H20⟩, ⟨%f21, %hf21, H21⟩, ⟨%d22, %f22, -, H22⟩, ⟨%d23, %f23, -, H23⟩, ⟨%d24, %f24, -, H24⟩, Hk⟩
    obtain rfl := harg8.eq_unread hf8; obtain rfl := harg9.eq_unread hf9; obtain rfl := harg10.eq_unread hf10; obtain rfl := harg11.eq_unread hf11; obtain rfl := harg20.eq_unread hf20; obtain rfl := harg21.eq_unread hf21
    sl_exec (disch := first | sl_exact hc1 | sl_exact hc2 | sl_exact hc3 | sl_exact hc4 | sl_exact hc5)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H20]
    · iexists _; isplitr; · ipureintro; exact harg20.read_unread _
      iexact H20
    isplitl [H21]
    · iexists _; isplitr; · ipureintro; exact harg21.read_unread _
      iexact H21
    isplitl [H22]
    · iexists _; iexact H22
    isplitl [H23]
    · iexists _; iexact H23
    iexists _; iexact H24

end Cert.DownIdeal.Gen

end
-- ==== Proof.DownOutD.lean ====
/- The down body at the first point of a later column block: the contents of its buffers after the run. -/
module

public import proofs.«01_k».proof.Proof.DownDeq
public import proofs.«01_k».proof.Proof.DownRunD

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the first point of a later column block, its buffers' contents stated. -/
theorem run_D (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : cond0_3 i) (hc4 : ¬cond0_4 i) (hc5 : ¬cond0_5 i)
    (x8 : Vec F S1536x512 .bf16) (x9 : Vec F S768x512 .i8) (x10 : Vec F S1x12x512 .f32) (x11 : Vec F S1x12x512 .i8) (x20 : Vec F S768x18432 .bf16) (x21 : Vec F S512x18432 .i8) (E : Set ℕ) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ d, owns (c : Thread nD τ) arg22 fullShare d) ∗ owns (c : Thread nD τ) arg23 fullShare ((accbNew k0_pay33 (hcRead (i 1) x20) x8)) ∗ owns (c : Thread nD τ) arg24 fullShare ((accqNew k0_pay34 (qcRead (i 1) x21) (deqAll x9 x10 x11)))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_D.sl.v374 (F := F) c arg9 harg9 arg10 harg10 arg11 harg11 arg22 x9 x10 x11) = deqAll x9 x10 x11 := deq_E c arg9 harg9 arg10 harg10 arg11 harg11 arg22 x9 x10 x11
  iintro ⟨H8, H9, H10, H11, H20, H21, H22, H23, H24, Hk⟩
  iapply ((kernelRun0_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x8 x9 x10 x11 x20 x21).2.2.2 E K)
  isplitl [H8]; · iexact H8
  isplitl [H9]; · iexact H9
  isplitl [H10]; · iexact H10
  isplitl [H11]; · iexact H11
  isplitl [H20]; · iexact H20
  isplitl [H21]; · iexact H21
  isplitl [H22]; · iexact H22
  isplitl [H23]; · iexact H23
  isplitl [H24]; · iexact H24
  iintro ⟨H8, H9, H10, H11, H20, H21, ⟨%f22, H22⟩, ⟨%f23, H23⟩, ⟨%f24, H24⟩⟩
  iapply Hk
  isplitl [H8]; · iexact H8
  isplitl [H9]; · iexact H9
  isplitl [H10]; · iexact H10
  isplitl [H11]; · iexact H11
  isplitl [H20]; · iexact H20
  isplitl [H21]; · iexact H21
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readCov_whole arg23.view _ _ _ rfl []) (hcat_read harg20 x20 i _) (readAt_whole harg8 x8 zero2 _))) _
  unfold owns; iexists _; isplitr
  swap; · iexact H24
  ipureintro; exact read_store arg24.view _ zero2 _ _ _ ((accq_congr (readCov_whole arg24.view _ _ _ rfl []) (qcat_read harg21 x21 i _) dE)) _

end Cert.DownIdeal.Gen

end
-- ==== Proof.DownBodyD.lean ====
/- The down body meets its obligation at the first point of a later column block. -/
module

public import proofs.«01_k».proof.Proof.DownDats
public import proofs.«01_k».proof.Proof.DownOutD

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at the first point of a later column block. -/
theorem sound_D (c : Dev nD) (t : Fin cfg0.N) (h1 : ¬t.val = 0) (h2 : ¬t.val < 12) (h3 : t.val % 12 = 0) (h4 : ¬t.val % 12 = 11) (h5 : ¬t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle _ 10 t (idleAt0_10 t h5) (noFlush0_10 t h5)]
  rw [Dat.leavesExact_idle _ 11 t (idleAt0_11 t h5) (noFlush0_11 t h5)]
  rw [Dat.leavesExact_idle _ 12 t (idleAt0_12 t h4) (noFlush0_12 t h4)]
  rw [Dat.leavesExact_idle _ 13 t (idleAt0_13 t h4) (noFlush0_13 t h4)]
  simp only [late0_14 m c t h2, late0_15 m c t h1, late0_16 m c t h2, late0_17 m c t h1]
  rw [PhiS_castSucc m c t, PhiS_pos m c _ _ (fun h => h2 (by omega))]
  rw [tokAt_keep m c t (fun h => h2 (by omega)) h4]
  rw [accbAt_reset m c t h3, accqAt_reset m c t h3]
  iintro ⟨⟨⟨⟨%x20, %hx20, H20⟩, ⟨%x21, %hx21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  obtain rfl := HC_late m c _ h2 x20 hx20
  obtain rfl := QC_late m c _ h2 x21 hx21
  iapply (run_D (F := F) c (grid0.coords t) _ _ _ _ _ _ _ _ _ _ _ _ _ _ _ _ _ _ _ _ _ _ _ _ _ _ _ _ _ _ _ _ _ _ _ _ _ _ _ _ _ _ _ _ _ _ _ _ (fun h => h1 ((hcond0_1 t).mp h)) (fun h => h2 ((hcond0_2 t).mp h)) ((hcond0_3 t).mpr h3) (fun h => h4 ((hcond0_4 t).mp h)) (fun h => h5 ((hcond0_5 t).mp h)) (iblk m c 6 t) (iblk m c 7 t) (iblk m c 8 t) (iblk m c 9 t) (HC m c) (QC m c) Set.univ _)
  isplitl [H8]; · iexact H8
  isplitl [H9]; · iexact H9
  isplitl [H10]; · iexact H10
  isplitl [H11]; · iexact H11
  isplitl [H20]; · iexact H20
  isplitl [H21]; · iexact H21
  isplitl [H22]; · iexact H22
  isplitl [H23]; · iexists _; iexact H23
  isplitl [H24]; · iexists _; iexact H24
  iintro ⟨H8, H9, H10, H11, H20, H21, H22, H23, H24⟩
  isplitl [H20 H21 H22 H23 H24 H25 Hg]
  · isplitl [H20 H21 H22 H23 H24 H25]
    · isplitl [H20]
      · iexists _; isplitr
        swap; · iexact H20
        ipureintro; exact HCP_late m c _ _ h2 _ hx20
      isplitl [H21]
      · iexists _; isplitr
        swap; · iexact H21
        ipureintro; exact QCP_late m c _ _ h2 _ hx21
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d10; iexact H12
  isplitl [H13]; · iexists d11; iexact H13
  isplitl [H14]; · iexists d12; iexact H14
  isplitl [H15]; · iexists d13; iexact H15
  isplitl [H16]; · iapply (leaves0_14 m c t h2 d14) $$ H16
  isplitl [H17]; · iapply (leaves0_15 m c t h1 d15) $$ H17
  isplitl [H18]; · iapply (leaves0_16 m c t h2 d16) $$ H18
  iapply (leaves0_17 m c t h1 d17) $$ H19

end Cert.DownIdeal.Gen

end
-- ==== Proof.DownOutE.lean ====
/- The down body at a point inside a later column block: the contents of its buffers after the run. -/
module

public import proofs.«01_k».proof.Proof.DownDeq

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a point inside a later column block, its buffers' contents stated. -/
theorem run_E (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : ¬cond0_3 i) (hc4 : ¬cond0_4 i) (hc5 : ¬cond0_5 i)
    (x8 : Vec F S1536x512 .bf16) (x9 : Vec F S768x512 .i8) (x10 : Vec F S1x12x512 .f32) (x11 : Vec F S1x12x512 .i8) (x20 : Vec F S768x18432 .bf16) (x21 : Vec F S512x18432 .i8) (x23 : Vec F S768x512 .f32) (x24 : Vec F S512x512 .f32) (E : Set ℕ) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg20 fullShare x20 ∗ owns (c : Thread nD τ) arg21 fullShare x21 ∗ (∃ d, owns (c : Thread nD τ) arg22 fullShare d) ∗ owns (c : Thread nD τ) arg23 fullShare ((accbNew x23 (hcRead (i 1) x20) x8)) ∗ owns (c : Thread nD τ) arg24 fullShare ((accqNew x24 (qcRead (i 1) x21) (deqAll x9 x10 x11)))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_E.sl.v374 (F := F) c arg9 harg9 arg10 harg10 arg11 harg11 arg22 x9 x10 x11) = deqAll x9 x10 x11 := deq_E c arg9 harg9 arg10 harg10 arg11 harg11 arg22 x9 x10 x11
  iintro ⟨H8, H9, H10, H11, H20, H21, H22, H23, H24, Hk⟩
  iapply ((kernelRun0_E (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x8 x9 x10 x11 x20 x21 x23 x24).2.2.2 E K)
  isplitl [H8]; · iexact H8
  isplitl [H9]; · iexact H9
  isplitl [H10]; · iexact H10
  isplitl [H11]; · iexact H11
  isplitl [H20]; · iexact H20
  isplitl [H21]; · iexact H21
  isplitl [H22]; · iexact H22
  isplitl [H23]; · iexact H23
  isplitl [H24]; · iexact H24
  iintro ⟨H8, H9, H10, H11, H20, H21, ⟨%f22, H22⟩, ⟨%f23, H23⟩, ⟨%f24, H24⟩⟩
  iapply Hk
  isplitl [H8]; · iexact H8
  isplitl [H9]; · iexact H9
  isplitl [H10]; · iexact H10
  isplitl [H11]; · iexact H11
  isplitl [H20]; · iexact H20
  isplitl [H21]; · iexact H21
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readAt_whole harg23 x23 zero2 _) (hcat_read harg20 x20 i _) (readAt_whole harg8 x8 zero2 _))) _
  unfold owns; iexists _; isplitr
  swap; · iexact H24
  ipureintro; exact read_store arg24.view _ zero2 _ _ _ ((accq_congr (readAt_whole harg24 x24 zero2 _) (qcat_read harg21 x21 i _) dE)) _

end Cert.DownIdeal.Gen

end
-- ==== Proof.DownBodyE.lean ====
/- The down body meets its obligation at a point inside a later column block. -/
module

public import proofs.«01_k».proof.Proof.DownDats
public import proofs.«01_k».proof.Proof.DownOutE

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at a point inside a later column block. -/
theorem sound_E (c : Dev nD) (t : Fin cfg0.N) (h1 : ¬t.val = 0) (h2 : ¬t.val < 12) (h3 : ¬t.val % 12 = 0) (h4 : ¬t.val % 12 = 11) (h5 : ¬t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle _ 10 t (idleAt0_10 t h5) (noFlush0_10 t h5)]
  rw [Dat.leavesExact_idle _ 11 t (idleAt0_11 t h5) (noFlush0_11 t h5)]
  rw [Dat.leavesExact_idle _ 12 t (idleAt0_12 t h4) (noFlush0_12 t h4)]
  rw [Dat.leavesExact_idle _ 13 t (idleAt0_13 t h4) (noFlush0_13 t h4)]
  simp only [late0_14 m c t h2, late0_15 m c t h1, late0_16 m c t h2, late0_17 m c t h1]
  rw [PhiS_castSucc m c t, PhiS_pos m c _ _ (fun h => h2 (by omega))]
  rw [tokAt_keep m c t (fun h => h2 (by omega)) h4]
  rw [accbAt_step m c t h3, accqAt_step m c t h3]
  iintro ⟨⟨⟨⟨%x20, %hx20, H20⟩, ⟨%x21, %hx21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  obtain rfl := HC_late m c _ h2 x20 hx20
  obtain rfl := QC_late m c _ h2 x21 hx21
  iapply (run_E (F := F) c (grid0.coords t) _ _ _ _ _ _ _ _ _ _ _ _ _ _ _ _ _ _ _ _ _ _ _ _ _ _ _ _ _ _ _ _ _ _ _ _ _ _ _ _ _ _ _ _ _ _ _ _ (fun h => h1 ((hcond0_1 t).mp h)) (fun h => h2 ((hcond0_2 t).mp h)) (fun h => h3 ((hcond0_3 t).mp h)) (fun h => h4 ((hcond0_4 t).mp h)) (fun h => h5 ((hcond0_5 t).mp h)) (iblk m c 6 t) (iblk m c 7 t) (iblk m c 8 t) (iblk m c 9 t) (HC m c) (QC m c) _ _ Set.univ _)
  isplitl [H8]; · iexact H8
  isplitl [H9]; · iexact H9
  isplitl [H10]; · iexact H10
  isplitl [H11]; · iexact H11
  isplitl [H20]; · iexact H20
  isplitl [H21]; · iexact H21
  isplitl [H22]; · iexact H22
  isplitl [H23]; · iexact H23
  isplitl [H24]; · iexact H24
  iintro ⟨H8, H9, H10, H11, H20, H21, H22, H23, H24⟩
  isplitl [H20 H21 H22 H23 H24 H25 Hg]
  · isplitl [H20 H21 H22 H23 H24 H25]
    · isplitl [H20]
      · iexists _; isplitr
        swap; · iexact H20
        ipureintro; exact HCP_late m c _ _ h2 _ hx20
      isplitl [H21]
      · iexists _; isplitr
        swap; · iexact H21
        ipureintro; exact QCP_late m c _ _ h2 _ hx21
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d10; iexact H12
  isplitl [H13]; · iexists d11; iexact H13
  isplitl [H14]; · iexists d12; iexact H14
  isplitl [H15]; · iexists d13; iexact H15
  isplitl [H16]; · iapply (leaves0_14 m c t h2 d14) $$ H16
  isplitl [H17]; · iapply (leaves0_15 m c t h1 d15) $$ H17
  isplitl [H18]; · iapply (leaves0_16 m c t h2 d16) $$ H18
  iapply (leaves0_17 m c t h1 d17) $$ H19

end Cert.DownIdeal.Gen

end
-- ==== Proof.DownRunG.lean ====
/- The whole down body run at the last point of a later column block but the last. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at the last point of a later column block but the last, run on whole buffers: those it reads at their contents, those it only stores into at anything. The pieces each
    buffer ends with are the run's witness. -/
noncomputable def kernelRun0_G (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : ¬cond0_3 i) (hc4 : cond0_4 i) (hc5 : ¬cond0_5 i)
    (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (x25 : Vec F S5x256x128 .f32) :
    Σ' (L14 : List (View.Piece (Elt F) S4x512 .f32)), Σ' (L15 : List (View.Piece (Elt F) S256x512 .bf16)), Σ' (L22 : List (View.Piece (Elt F) S1536x512 .bf16)), Σ' (L23 : List (View.Piece (Elt F) S768x512 .f32)), Σ' (L24 : List (View.Piece (Elt F) S512x512 .f32)), { L25 : List (View.Piece (Elt F) S5x256x128 .f32) //
      ∀ (E : Set ℕ) (K : PUnit → sProp 𝕄),
        iprop(owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg14 fullShare d) ∗ (∃ d, owns (c : Thread nD τ) arg15 fullShare d) ∗ owns (c : Thread nD τ) arg17 fullShare x17 ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24 ∗ owns (c : Thread nD τ) arg25 fullShare x25
            ∗ (iprop(owns (c : Thread nD τ) arg8 fullShare x8 ∗ owns (c : Thread nD τ) arg9 fullShare x9 ∗ owns (c : Thread nD τ) arg10 fullShare x10 ∗ owns (c : Thread nD τ) arg11 fullShare x11 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg17 fullShare x17 ∗ owns (c : Thread nD τ) arg19 fullShare x19 ∗ owns (c : Thread nD τ) arg20 fullShare x20 ∗ owns (c : Thread nD τ) arg21 fullShare x21 ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f8, %hf8, H8⟩, ⟨%f9, %hf9, H9⟩, ⟨%f10, %hf10, H10⟩, ⟨%f11, %hf11, H11⟩, ⟨%d14, %f14, -, H14⟩, ⟨%d15, %f15, -, H15⟩, ⟨%f17, %hf17, H17⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, Hk⟩
    obtain rfl := harg8.eq_unread hf8; obtain rfl := harg9.eq_unread hf9; obtain rfl := harg10.eq_unread hf10; obtain rfl := harg11.eq_unread hf11; obtain rfl := harg17.eq_unread hf17; obtain rfl := harg19.eq_unread hf19; obtain rfl := harg20.eq_unread hf20; obtain rfl := harg21.eq_unread hf21; obtain rfl := harg23.eq_unread hf23; obtain rfl := harg24.eq_unread hf24; obtain rfl := harg25.eq_unread hf25
    sl_exec (disch := first | sl_exact hc1 | sl_exact hc2 | sl_exact hc3 | sl_exact hc4 | sl_exact hc5)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H14]
    · iexists _; iexact H14
    isplitl [H15]
    · iexists _; iexact H15
    isplitl [H17]
    · iexists _; isplitr; · ipureintro; exact harg17.read_unread _
      iexact H17
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; iexact H22
    isplitl [H23]
    · iexists _; iexact H23
    isplitl [H24]
    · iexists _; iexact H24
    iexists _; iexact H25

end Cert.DownIdeal.Gen

end
-- ==== Proof.DownOutG.lean ====
/- The down body at the last point of a later column block but the last: the contents of its buffers after the run. -/
module

public import proofs.«01_k».proof.Proof.DownDeq
public import proofs.«01_k».proof.Proof.DownRunG

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the last point of a later column block but the last, its buffers' contents stated. -/
theorem run_G (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : ¬cond0_3 i) (hc4 : cond0_4 i) (hc5 : ¬cond0_5 i)
    (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (x25 : Vec F S5x256x128 .f32) (E : Set ℕ) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg14 fullShare d) ∗ (∃ d, owns (c : Thread nD τ) arg15 fullShare d) ∗ owns (c : Thread nD τ) arg17 fullShare x17 ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24 ∗ owns (c : Thread nD τ) arg25 fullShare x25
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare (ecNew (accbNew x23 (hcRead (i 1) x20) x8) (accqNew x24 (qcRead (i 1) x21) (deqAll x9 x10 x11)) x17 x19) ∗ owns (c : Thread nD τ) arg15 fullShare (k0_pay13 (B0 (accbNew x23 (hcRead (i 1) x20) x8))) ∗ owns (c : Thread nD τ) arg17 fullShare x17 ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare ((accbNew x23 (hcRead (i 1) x20) x8)) ∗ owns (c : Thread nD τ) arg24 fullShare ((accqNew x24 (qcRead (i 1) x21) (deqAll x9 x10 x11))) ∗ owns (c : Thread nD τ) arg25 fullShare ((tokNew (accbNew x23 (hcRead (i 1) x20) x8) (accqNew x24 (qcRead (i 1) x21) (deqAll x9 x10 x11)) x17 x19 x25))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_G.sl.v374 (F := F) c arg9 harg9 arg10 harg10 arg11 harg11 arg22 x9 x10 x11) = deqAll x9 x10 x11 := deq_E c arg9 harg9 arg10 harg10 arg11 harg11 arg22 x9 x10 x11
  have b0 : (kernelRun0_G.sl.v388 (F := F) c i arg8 harg8 arg20 harg20 arg23 harg23 x8 x20 x23) = B0 (accbNew x23 (hcRead (i 1) x20) x8) := readCov_rowsB arg23.view _ _ _ (accb_congr (readAt_whole harg23 x23 zero2 _) (hcat_read harg20 x20 i _) (readAt_whole harg8 x8 zero2 _)) 0 _ _
  have b1 : (kernelRun0_G.sl.v410 (F := F) c i arg8 harg8 arg20 harg20 arg23 harg23 x8 x20 x23) = B1 (accbNew x23 (hcRead (i 1) x20) x8) := readCov_rowsB arg23.view _ _ _ (accb_congr (readAt_whole harg23 x23 zero2 _) (hcat_read harg20 x20 i _) (readAt_whole harg8 x8 zero2 _)) 256 _ _
  have b2 : (kernelRun0_G.sl.v411 (F := F) c i arg8 harg8 arg20 harg20 arg23 harg23 x8 x20 x23) = B2 (accbNew x23 (hcRead (i 1) x20) x8) := readCov_rowsB arg23.view _ _ _ (accb_congr (readAt_whole harg23 x23 zero2 _) (hcat_read harg20 x20 i _) (readAt_whole harg8 x8 zero2 _)) 512 _ _
  have q0 : (kernelRun0_G.sl.v405 (F := F) c i arg9 harg9 arg10 harg10 arg11 harg11 arg21 harg21 arg22 arg24 harg24 x9 x10 x11 x21 x24) = Q0 (accqNew x24 (qcRead (i 1) x21) (deqAll x9 x10 x11)) := readCov_rowsQ arg24.view _ _ _ (accq_congr (readAt_whole harg24 x24 zero2 _) (qcat_read harg21 x21 i _) dE) 0 _ _
  have q1 : (kernelRun0_G.sl.v412 (F := F) c i arg9 harg9 arg10 harg10 arg11 harg11 arg21 harg21 arg22 arg24 harg24 x9 x10 x11 x21 x24) = Q1 (accqNew x24 (qcRead (i 1) x21) (deqAll x9 x10 x11)) := readCov_rowsQ arg24.view _ _ _ (accq_congr (readAt_whole harg24 x24 zero2 _) (qcat_read harg21 x21 i _) dE) 256 _ _
  have r15 : (kernelRun0_G.sl.r_21 (F := F) c i arg9 harg9 arg10 harg10 arg11 harg11 arg19 harg19 arg21 harg21 arg22 arg24 harg24 x9 x10 x11 x19 x21 x24) = k0_pay15 (Q1 (accqNew x24 (qcRead (i 1) x21) (deqAll x9 x10 x11))) x19 := congrArg₂ k0_pay15 q1 (readAt_whole harg19 x19 zero2 _)
  iintro ⟨H8, H9, H10, H11, H14, H15, H17, H19, H20, H21, H22, H23, H24, H25, Hk⟩
  iapply ((kernelRun0_G (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x8 x9 x10 x11 x17 x19 x20 x21 x23 x24 x25).2.2.2.2.2.2 E K)
  isplitl [H8]; · iexact H8
  isplitl [H9]; · iexact H9
  isplitl [H10]; · iexact H10
  isplitl [H11]; · iexact H11
  isplitl [H14]; · iexact H14
  isplitl [H15]; · iexact H15
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H8, H9, H10, H11, ⟨%f14, H14⟩, ⟨%f15, H15⟩, H17, H19, H20, H21, ⟨%f22, H22⟩, ⟨%f23, H23⟩, ⟨%f24, H24⟩, ⟨%f25, H25⟩⟩
  iapply Hk
  isplitl [H8]; · iexact H8
  isplitl [H9]; · iexact H9
  isplitl [H10]; · iexact H10
  isplitl [H11]; · iexact H11
  isplitl [H14]
  · unfold owns; iexists _; isplitr
    swap; · iexact H14
    ipureintro; exact read_pieces arg14.view _ _ _ ![1, 512] ⟨lead2 _ _ _ (congrArg₂ k0_pay5 b0 r15) 3 (by decide) (by decide) (fun _ => rfl),
      lead2 _ _ _ (congrArg₂ k0_pay23 b0 b2) 2 (by decide) (by decide) (fun _ => rfl), lead2 _ _ _ (congrArg₂ k0_pay20 b0 b1) 1 (by decide) (by decide) (fun _ => rfl),
      lead2 _ _ _ (congr3 k0_pay17 b0 q0 (readAt_whole harg17 x17 zero2 _)) 0 (by decide) (by decide) (fun _ => rfl), trivial⟩ (by sl_kernel_rfl)
  isplitl [H15]
  · unfold owns; iexists _; isplitr
    swap; · iexact H15
    ipureintro; exact read_store arg15.view _ zero2 _ _ _ (congrArg k0_pay13 b0) _
  isplitl [H17]; · iexact H17
  isplitl [H19]; · iexact H19
  isplitl [H20]; · iexact H20
  isplitl [H21]; · iexact H21
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readAt_whole harg23 x23 zero2 _) (hcat_read harg20 x20 i _) (readAt_whole harg8 x8 zero2 _))) _
  isplitl [H24]
  · unfold owns; iexists _; isplitr
    swap; · iexact H24
    ipureintro; exact read_store arg24.view _ zero2 _ _ _ ((accq_congr (readAt_whole harg24 x24 zero2 _) (qcat_read harg21 x21 i _) dE)) _
  unfold owns; iexists _; isplitr
  swap; · iexact H25
  ipureintro; exact read_pieces arg25.view _ _ _ ![1, 256, 128] ⟨lead3 _ _ _ (congr3 k0_pay6 b0 r15 (readAt_tok harg25 x25 3 (by decide) (by decide))) 3 (by decide) (by decide) (fun _ _ => rfl),
      lead3 _ _ _ (congrArg₂ k0_pay3 (congrArg₂ k0_pay22 b0 b2) (readAt_tok harg25 x25 2 (by decide) (by decide))) 2 (by decide) (by decide) (fun _ _ => rfl),
      lead3 _ _ _ (congr3 k0_pay21 b0 b1 (readAt_tok harg25 x25 1 (by decide) (by decide))) 1 (by decide) (by decide) (fun _ _ => rfl),
      lead3 _ _ _ (congrArg₂ k0_pay18 (congr3 k0_pay16 b0 q0 (readAt_whole harg17 x17 zero2 _)) (readAt_tok harg25 x25 0 (by decide) (by decide))) 0 (by decide) (by decide) (fun _ _ => rfl),
      lead3 _ _ _ (congrArg₂ k0_pay14 b0 (readAt_tok harg25 x25 4 (by decide) (by decide))) 4 (by decide) (by decide) (fun _ _ => rfl), trivial⟩ (by sl_kernel_rfl)

end Cert.DownIdeal.Gen

end
-- ==== Proof.DownBodyG.lean ====
/- The down body meets its obligation at the last point of a later column block but the last. -/
module

public import proofs.«01_k».proof.Proof.DownDats
public import proofs.«01_k».proof.Proof.DownOutG

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at the last point of a later column block but the last. -/
theorem sound_G (c : Dev nD) (t : Fin cfg0.N) (h1 : ¬t.val = 0) (h2 : ¬t.val < 12) (h3 : ¬t.val % 12 = 0) (h4 : t.val % 12 = 11) (h5 : ¬t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 12 t = owns (c : Thread nD τ) (ms0_12 t) fullShare ((dats m 0 c).after 12 t) from by
    unfold Dat.leavesExact; rw [liveAt0_12 t h4], after0_12]
  rw [show (dats m 0 c).leavesExact 13 t = owns (c : Thread nD τ) (ms0_13 t) fullShare ((dats m 0 c).after 13 t) from by
    unfold Dat.leavesExact; rw [liveAt0_13 t h4], after0_13]
  rw [Dat.leavesExact_idle _ 10 t (idleAt0_10 t h5) (noFlush0_10 t h5)]
  rw [Dat.leavesExact_idle _ 11 t (idleAt0_11 t h5) (noFlush0_11 t h5)]
  simp only [late0_14 m c t h2, late0_15 m c t h1, late0_16 m c t h2, late0_17 m c t h1]
  rw [PhiS_castSucc m c t, PhiS_pos m c _ _ (fun h => h2 (by omega))]
  rw [tokAt_new m c t h4]
  rw [accbAt_step m c t h3, accqAt_step m c t h3]
  iintro ⟨⟨⟨⟨%x20, %hx20, H20⟩, ⟨%x21, %hx21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  obtain rfl := HC_late m c _ h2 x20 hx20
  obtain rfl := QC_late m c _ h2 x21 hx21
  iapply (run_G (F := F) c (grid0.coords t) _ _ _ _ _ _ _ _ _ _ _ _ _ _ _ _ _ _ _ _ _ _ _ _ _ _ _ _ _ _ _ _ _ _ _ _ _ _ _ _ _ _ _ _ _ _ _ _ (fun h => h1 ((hcond0_1 t).mp h)) (fun h => h2 ((hcond0_2 t).mp h)) (fun h => h3 ((hcond0_3 t).mp h)) ((hcond0_4 t).mpr h4) (fun h => h5 ((hcond0_5 t).mp h)) (iblk m c 6 t) (iblk m c 7 t) (iblk m c 8 t) (iblk m c 9 t) (FS m c) (RS m c) (HC m c) (QC m c) _ _ _ Set.univ _)
  isplitl [H8]; · iexact H8
  isplitl [H9]; · iexact H9
  isplitl [H10]; · iexact H10
  isplitl [H11]; · iexact H11
  isplitl [H14]; · iexists _; iexact H14
  isplitl [H15]; · iexists _; iexact H15
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H8, H9, H10, H11, H14, H15, H17, H19, H20, H21, H22, H23, H24, H25⟩
  isplitl [H20 H21 H22 H23 H24 H25 Hg]
  · isplitl [H20 H21 H22 H23 H24 H25]
    · isplitl [H20]
      · iexists _; isplitr
        swap; · iexact H20
        ipureintro; exact HCP_late m c _ _ h2 _ hx20
      isplitl [H21]
      · iexists _; isplitr
        swap; · iexact H21
        ipureintro; exact QCP_late m c _ _ h2 _ hx21
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d10; iexact H12
  isplitl [H13]; · iexists d11; iexact H13
  isplitl [H14]; · iexact H14
  isplitl [H15]; · iexact H15
  isplitl [H16]; · iapply (leaves0_14 m c t h2 d14) $$ H16
  isplitl [H17]; · iapply (leaves0_15 m c t h1 d15) $$ H17
  isplitl [H18]; · iapply (leaves0_16 m c t h2 d16) $$ H18
  iapply (leaves0_17 m c t h1 d17) $$ H19

end Cert.DownIdeal.Gen

end
-- ==== Proof.DownRunH.lean ====
/- The whole down body run at the last grid point. -/
module

public import proofs.«01_k».proof.Proof.DownKit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 4000000 in
/-- The body at the last grid point, run on whole buffers: those it reads at their contents, those it only stores into at anything. The pieces each
    buffer ends with are the run's witness. -/
noncomputable def kernelRun0_H (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : ¬cond0_3 i) (hc4 : cond0_4 i) (hc5 : cond0_5 i)
    (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (x25 : Vec F S5x256x128 .f32) :
    Σ' (L12 : List (View.Piece (Elt F) S4x256x1 .f32)), Σ' (L13 : List (View.Piece (Elt F) S256x1 .f32)), Σ' (L14 : List (View.Piece (Elt F) S4x512 .f32)), Σ' (L15 : List (View.Piece (Elt F) S256x512 .bf16)), Σ' (L22 : List (View.Piece (Elt F) S1536x512 .bf16)), Σ' (L23 : List (View.Piece (Elt F) S768x512 .f32)), Σ' (L24 : List (View.Piece (Elt F) S512x512 .f32)), { L25 : List (View.Piece (Elt F) S5x256x128 .f32) //
      ∀ (E : Set ℕ) (K : PUnit → sProp 𝕄),
        iprop(owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg17 fullShare x17 ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24 ∗ owns (c : Thread nD τ) arg25 fullShare x25
            ∗ (iprop(owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg17 fullShare x17 ∗ owns (c : Thread nD τ) arg19 fullShare x19 ∗ owns (c : Thread nD τ) arg20 fullShare x20 ∗ owns (c : Thread nD τ) arg21 fullShare x21 ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f17, %hf17, H17⟩, ⟨%f19, %hf19, H19⟩, ⟨%f20, %hf20, H20⟩, ⟨%f21, %hf21, H21⟩, ⟨%d22, %f22, -, H22⟩, ⟨%f23, %hf23, H23⟩, ⟨%f24, %hf24, H24⟩, ⟨%f25, %hf25, H25⟩, Hk⟩
    obtain rfl := harg8.eq_unread hf8; obtain rfl := harg9.eq_unread hf9; obtain rfl := harg10.eq_unread hf10; obtain rfl := harg11.eq_unread hf11; obtain rfl := harg17.eq_unread hf17; obtain rfl := harg19.eq_unread hf19; obtain rfl := harg20.eq_unread hf20; obtain rfl := harg21.eq_unread hf21; obtain rfl := harg23.eq_unread hf23; obtain rfl := harg24.eq_unread hf24; obtain rfl := harg25.eq_unread hf25
    sl_exec (disch := first | sl_exact hc1 | sl_exact hc2 | sl_exact hc3 | sl_exact hc4 | sl_exact hc5)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; iexact H14
    isplitl [H15]
    · iexists _; iexact H15
    isplitl [H17]
    · iexists _; isplitr; · ipureintro; exact harg17.read_unread _
      iexact H17
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; iexact H22
    isplitl [H23]
    · iexists _; iexact H23
    isplitl [H24]
    · iexists _; iexact H24
    iexists _; iexact H25

end Cert.DownIdeal.Gen

end
-- ==== Proof.DownOutH.lean ====
/- The down body at the last grid point: the contents of its buffers after the run. -/
module

public import proofs.«01_k».proof.Proof.DownDeq
public import proofs.«01_k».proof.Proof.DownRunH

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at the last grid point, its buffers' contents stated. -/
theorem run_H (c : Dev nD) (i : grid0.Coords) (arg2 : Memref sig .tc .vmem S256x1536 .f32) (harg2 : arg2.IsWhole) (arg3 : Memref sig .tc .vmem S256x1536 .f32) (harg3 : arg3.IsWhole) (arg4 : Memref sig .tc .vmem S256x1536 .bf16) (harg4 : arg4.IsWhole) (arg5 : Memref sig .tc .vmem S256x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1536x512 .bf16) (harg8 : arg8.IsWhole) (arg9 : Memref sig .tc .vmem S768x512 .i8) (harg9 : arg9.IsWhole) (arg10 : Memref sig .tc .vmem S1x12x512 .f32) (harg10 : arg10.IsWhole) (arg11 : Memref sig .tc .vmem S1x12x512 .i8) (harg11 : arg11.IsWhole) (arg12 : Memref sig .tc .vmem S4x256x1 .f32) (harg12 : arg12.IsWhole) (arg13 : Memref sig .tc .vmem S256x1 .f32) (harg13 : arg13.IsWhole) (arg14 : Memref sig .tc .vmem S4x512 .f32) (harg14 : arg14.IsWhole) (arg15 : Memref sig .tc .vmem S256x512 .bf16) (harg15 : arg15.IsWhole) (arg16 : Memref sig .tc .vmem S256x1536 .i8) (harg16 : arg16.IsWhole) (arg17 : Memref sig .tc .vmem S256x1 .f32) (harg17 : arg17.IsWhole) (arg18 : Memref sig .tc .vmem S256x1536 .i8) (harg18 : arg18.IsWhole) (arg19 : Memref sig .tc .vmem S256x1 .f32) (harg19 : arg19.IsWhole) (arg20 : Memref sig .tc .vmem S768x18432 .bf16) (harg20 : arg20.IsWhole) (arg21 : Memref sig .tc .vmem S512x18432 .i8) (harg21 : arg21.IsWhole) (arg22 : Memref sig .tc .vmem S1536x512 .bf16) (harg22 : arg22.IsWhole) (arg23 : Memref sig .tc .vmem S768x512 .f32) (harg23 : arg23.IsWhole) (arg24 : Memref sig .tc .vmem S512x512 .f32) (harg24 : arg24.IsWhole) (arg25 : Memref sig .tc .vmem S5x256x128 .f32) (harg25 : arg25.IsWhole) (hc1 : ¬cond0_1 i) (hc2 : ¬cond0_2 i) (hc3 : ¬cond0_3 i) (hc4 : cond0_4 i) (hc5 : cond0_5 i)
    (x8 : Vec F S1536x512 .bf16) (x9 : Vec F S768x512 .i8) (x10 : Vec F S1x12x512 .f32) (x11 : Vec F S1x12x512 .i8) (x17 : Vec F S256x1 .f32) (x19 : Vec F S256x1 .f32) (x20 : Vec F S768x18432 .bf16) (x21 : Vec F S512x18432 .i8) (x23 : Vec F S768x512 .f32) (x24 : Vec F S512x512 .f32) (x25 : Vec F S5x256x128 .f32) (E : Set ℕ) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg17 fullShare x17 ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare x23 ∗ owns (c : Thread nD τ) arg24 fullShare x24 ∗ owns (c : Thread nD τ) arg25 fullShare x25
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (etNew (tokNew (accbNew x23 (hcRead (i 1) x20) x8) (accqNew x24 (qcRead (i 1) x21) (deqAll x9 x10 x11)) x17 x19 x25)) ∗ owns (c : Thread nD τ) arg13 fullShare (stNew (tokNew (accbNew x23 (hcRead (i 1) x20) x8) (accqNew x24 (qcRead (i 1) x21) (deqAll x9 x10 x11)) x17 x19 x25)) ∗ owns (c : Thread nD τ) arg14 fullShare (ecNew (accbNew x23 (hcRead (i 1) x20) x8) (accqNew x24 (qcRead (i 1) x21) (deqAll x9 x10 x11)) x17 x19) ∗ owns (c : Thread nD τ) arg15 fullShare (k0_pay13 (B0 (accbNew x23 (hcRead (i 1) x20) x8))) ∗ owns (c : Thread nD τ) arg17 fullShare x17 ∗ owns (c : Thread nD τ) arg19 fullShare x19 ∗ owns (c : Thread nD τ) arg20 fullShare x20 ∗ owns (c : Thread nD τ) arg21 fullShare x21 ∗ (∃ d, owns (c : Thread nD τ) arg22 fullShare d) ∗ owns (c : Thread nD τ) arg23 fullShare ((accbNew x23 (hcRead (i 1) x20) x8)) ∗ owns (c : Thread nD τ) arg24 fullShare ((accqNew x24 (qcRead (i 1) x21) (deqAll x9 x10 x11))) ∗ owns (c : Thread nD τ) arg25 fullShare ((tokNew (accbNew x23 (hcRead (i 1) x20) x8) (accqNew x24 (qcRead (i 1) x21) (deqAll x9 x10 x11)) x17 x19 x25))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have dE : (kernelRun0_H.sl.v374 (F := F) c arg9 harg9 arg10 harg10 arg11 harg11 arg22 x9 x10 x11) = deqAll x9 x10 x11 := deq_E c arg9 harg9 arg10 harg10 arg11 harg11 arg22 x9 x10 x11
  have b0 : (kernelRun0_H.sl.v388 (F := F) c i arg8 harg8 arg20 harg20 arg23 harg23 x8 x20 x23) = B0 (accbNew x23 (hcRead (i 1) x20) x8) := readCov_rowsB arg23.view _ _ _ (accb_congr (readAt_whole harg23 x23 zero2 _) (hcat_read harg20 x20 i _) (readAt_whole harg8 x8 zero2 _)) 0 _ _
  have b1 : (kernelRun0_H.sl.v410 (F := F) c i arg8 harg8 arg20 harg20 arg23 harg23 x8 x20 x23) = B1 (accbNew x23 (hcRead (i 1) x20) x8) := readCov_rowsB arg23.view _ _ _ (accb_congr (readAt_whole harg23 x23 zero2 _) (hcat_read harg20 x20 i _) (readAt_whole harg8 x8 zero2 _)) 256 _ _
  have b2 : (kernelRun0_H.sl.v411 (F := F) c i arg8 harg8 arg20 harg20 arg23 harg23 x8 x20 x23) = B2 (accbNew x23 (hcRead (i 1) x20) x8) := readCov_rowsB arg23.view _ _ _ (accb_congr (readAt_whole harg23 x23 zero2 _) (hcat_read harg20 x20 i _) (readAt_whole harg8 x8 zero2 _)) 512 _ _
  have q0 : (kernelRun0_H.sl.v405 (F := F) c i arg9 harg9 arg10 harg10 arg11 harg11 arg21 harg21 arg22 arg24 harg24 x9 x10 x11 x21 x24) = Q0 (accqNew x24 (qcRead (i 1) x21) (deqAll x9 x10 x11)) := readCov_rowsQ arg24.view _ _ _ (accq_congr (readAt_whole harg24 x24 zero2 _) (qcat_read harg21 x21 i _) dE) 0 _ _
  have q1 : (kernelRun0_H.sl.v412 (F := F) c i arg9 harg9 arg10 harg10 arg11 harg11 arg21 harg21 arg22 arg24 harg24 x9 x10 x11 x21 x24) = Q1 (accqNew x24 (qcRead (i 1) x21) (deqAll x9 x10 x11)) := readCov_rowsQ arg24.view _ _ _ (accq_congr (readAt_whole harg24 x24 zero2 _) (qcat_read harg21 x21 i _) dE) 256 _ _
  have r15 : (kernelRun0_H.sl.r_21 (F := F) c i arg9 harg9 arg10 harg10 arg11 harg11 arg19 harg19 arg21 harg21 arg22 arg24 harg24 x9 x10 x11 x19 x21 x24) = k0_pay15 (Q1 (accqNew x24 (qcRead (i 1) x21) (deqAll x9 x10 x11))) x19 := congrArg₂ k0_pay15 q1 (readAt_whole harg19 x19 zero2 _)
  have hT : View.PiecesOf (tokNew (accbNew x23 (hcRead (i 1) x20) x8) (accqNew x24 (qcRead (i 1) x21) (deqAll x9 x10 x11)) x17 x19 x25) (kernelRun0_H.sl.H25_5 (F := F) c i arg8 harg8 arg9 harg9 arg10 harg10 arg11 harg11 arg17 harg17 arg19 harg19 arg20 harg20 arg21 harg21 arg22 arg23 harg23 arg24 harg24 arg25 harg25 x8 x9 x10 x11 x17 x19 x20 x21 x23 x24 x25) :=
    ⟨lead3 _ _ _ (congr3 k0_pay6 b0 r15 (readAt_tok harg25 x25 3 (by decide) (by decide))) 3 (by decide) (by decide) (fun _ _ => rfl),
      lead3 _ _ _ (congrArg₂ k0_pay3 (congrArg₂ k0_pay22 b0 b2) (readAt_tok harg25 x25 2 (by decide) (by decide))) 2 (by decide) (by decide) (fun _ _ => rfl),
      lead3 _ _ _ (congr3 k0_pay21 b0 b1 (readAt_tok harg25 x25 1 (by decide) (by decide))) 1 (by decide) (by decide) (fun _ _ => rfl),
      lead3 _ _ _ (congrArg₂ k0_pay18 (congr3 k0_pay16 b0 q0 (readAt_whole harg17 x17 zero2 _)) (readAt_tok harg25 x25 0 (by decide) (by decide))) 0 (by decide) (by decide) (fun _ _ => rfl),
      lead3 _ _ _ (congrArg₂ k0_pay14 b0 (readAt_tok harg25 x25 4 (by decide) (by decide))) 4 (by decide) (by decide) (fun _ _ => rfl), trivial⟩
  iintro ⟨H8, H9, H10, H11, H12, H13, H14, H15, H17, H19, H20, H21, H22, H23, H24, H25, Hk⟩
  iapply ((kernelRun0_H (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x8 x9 x10 x11 x17 x19 x20 x21 x23 x24 x25).2.2.2.2.2.2.2.2 E K)
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H8, H9, H10, H11, ⟨%f12, H12⟩, ⟨%f13, H13⟩, ⟨%f14, H14⟩, ⟨%f15, H15⟩, H17, H19, H20, H21, ⟨%f22, H22⟩, ⟨%f23, H23⟩, ⟨%f24, H24⟩, ⟨%f25, H25⟩⟩
  iapply Hk
  isplitl [H8]; · iexact H8
  isplitl [H9]; · iexact H9
  isplitl [H10]; · iexact H10
  isplitl [H11]; · iexact H11
  isplitl [H12]
  · unfold owns; iexists _; isplitr
    swap; · iexact H12
    ipureintro; exact read_pieces arg12.view _ _ _ ![1, 256, 1] ⟨lead3 _ _ _ (congrArg k0_pay27 (readCov_tok arg25.view _ _ hT (by sl_kernel_rfl) 3 (by decide) (by decide))) 3 (by decide) (by decide) (fun _ _ => rfl), lead3 _ _ _ (congrArg k0_pay26 (readCov_tok arg25.view _ _ hT (by sl_kernel_rfl) 2 (by decide) (by decide))) 2 (by decide) (by decide) (fun _ _ => rfl), lead3 _ _ _ (congrArg k0_pay25 (readCov_tok arg25.view _ _ hT (by sl_kernel_rfl) 1 (by decide) (by decide))) 1 (by decide) (by decide) (fun _ _ => rfl), lead3 _ _ _ (congrArg k0_pay24 (readCov_tok arg25.view _ _ hT (by sl_kernel_rfl) 0 (by decide) (by decide))) 0 (by decide) (by decide) (fun _ _ => rfl), trivial⟩ (by sl_kernel_rfl)
  isplitl [H13]
  · unfold owns; iexists _; isplitr
    swap; · iexact H13
    ipureintro; exact read_store arg13.view _ zero2 _ _ _ (congrArg k0_pay7 (readCov_tok arg25.view _ _ hT (by sl_kernel_rfl) 4 (by decide) (by decide))) _
  isplitl [H14]
  · unfold owns; iexists _; isplitr
    swap; · iexact H14
    ipureintro; exact read_pieces arg14.view _ _ _ ![1, 512] ⟨lead2 _ _ _ (congrArg₂ k0_pay5 b0 r15) 3 (by decide) (by decide) (fun _ => rfl),
      lead2 _ _ _ (congrArg₂ k0_pay23 b0 b2) 2 (by decide) (by decide) (fun _ => rfl), lead2 _ _ _ (congrArg₂ k0_pay20 b0 b1) 1 (by decide) (by decide) (fun _ => rfl),
      lead2 _ _ _ (congr3 k0_pay17 b0 q0 (readAt_whole harg17 x17 zero2 _)) 0 (by decide) (by decide) (fun _ => rfl), trivial⟩ (by sl_kernel_rfl)
  isplitl [H15]
  · unfold owns; iexists _; isplitr
    swap; · iexact H15
    ipureintro; exact read_store arg15.view _ zero2 _ _ _ (congrArg k0_pay13 b0) _
  isplitl [H17]; · iexact H17
  isplitl [H19]; · iexact H19
  isplitl [H20]; · iexact H20
  isplitl [H21]; · iexact H21
  isplitl [H22]
  · iexists _; unfold owns; iexists _; isplitr
    swap; · iexact H22
    ipureintro; rfl
  isplitl [H23]
  · unfold owns; iexists _; isplitr
    swap; · iexact H23
    ipureintro; exact read_store arg23.view _ zero2 _ _ _ ((accb_congr (readAt_whole harg23 x23 zero2 _) (hcat_read harg20 x20 i _) (readAt_whole harg8 x8 zero2 _))) _
  isplitl [H24]
  · unfold owns; iexists _; isplitr
    swap; · iexact H24
    ipureintro; exact read_store arg24.view _ zero2 _ _ _ ((accq_congr (readAt_whole harg24 x24 zero2 _) (qcat_read harg21 x21 i _) dE)) _
  unfold owns; iexists _; isplitr
  swap; · iexact H25
  ipureintro; exact read_pieces arg25.view _ _ _ ![1, 256, 128] hT (by sl_kernel_rfl)

end Cert.DownIdeal.Gen

end
-- ==== Proof.DownBodyH.lean ====
/- The down body meets its obligation at the last grid point. -/
module

public import proofs.«01_k».proof.Proof.DownDats
public import proofs.«01_k».proof.Proof.DownOutH

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12800000 in
/-- The body at the last grid point. -/
theorem sound_H (c : Dev nD) (t : Fin cfg0.N) (h1 : ¬t.val = 0) (h2 : ¬t.val < 12) (h3 : ¬t.val % 12 = 0) (h4 : t.val % 12 = 11) (h5 : t.val = 167) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ m c t.val t.isLt]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t h5], after0_10]
  rw [show (dats m 0 c).leavesExact 11 t = owns (c : Thread nD τ) (ms0_11 t) fullShare ((dats m 0 c).after 11 t) from by
    unfold Dat.leavesExact; rw [liveAt0_11 t h5], after0_11]
  rw [show (dats m 0 c).leavesExact 12 t = owns (c : Thread nD τ) (ms0_12 t) fullShare ((dats m 0 c).after 12 t) from by
    unfold Dat.leavesExact; rw [liveAt0_12 t h4], after0_12]
  rw [show (dats m 0 c).leavesExact 13 t = owns (c : Thread nD τ) (ms0_13 t) fullShare ((dats m 0 c).after 13 t) from by
    unfold Dat.leavesExact; rw [liveAt0_13 t h4], after0_13]
  simp only [late0_14 m c t h2, late0_15 m c t h1, late0_16 m c t h2, late0_17 m c t h1]
  rw [PhiS_castSucc m c t, PhiS_pos m c _ _ (fun h => h2 (by omega))]
  rw [tokAt_new m c t h4]
  rw [accbAt_step m c t h3, accqAt_step m c t h3]
  iintro ⟨⟨⟨⟨%x20, %hx20, H20⟩, ⟨%x21, %hx21, H21⟩, H22, H23, H24, H25⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩, ⟨%d14, H16⟩, ⟨%d15, H17⟩, ⟨%d16, H18⟩, ⟨%d17, H19⟩⟩
  obtain rfl := HC_late m c _ h2 x20 hx20
  obtain rfl := QC_late m c _ h2 x21 hx21
  iapply (run_H (F := F) c (grid0.coords t) _ _ _ _ _ _ _ _ _ _ _ _ _ _ _ _ _ _ _ _ _ _ _ _ _ _ _ _ _ _ _ _ _ _ _ _ _ _ _ _ _ _ _ _ _ _ _ _ (fun h => h1 ((hcond0_1 t).mp h)) (fun h => h2 ((hcond0_2 t).mp h)) (fun h => h3 ((hcond0_3 t).mp h)) ((hcond0_4 t).mpr h4) ((hcond0_5 t).mpr h5) (iblk m c 6 t) (iblk m c 7 t) (iblk m c 8 t) (iblk m c 9 t) (FS m c) (RS m c) (HC m c) (QC m c) _ _ _ Set.univ _)
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H8, H9, H10, H11, H12, H13, H14, H15, H17, H19, H20, H21, H22, H23, H24, H25⟩
  isplitl [H20 H21 H22 H23 H24 H25 Hg]
  · isplitl [H20 H21 H22 H23 H24 H25]
    · isplitl [H20]
      · iexists _; isplitr
        swap; · iexact H20
        ipureintro; exact HCP_late m c _ _ h2 _ hx20
      isplitl [H21]
      · iexists _; isplitr
        swap; · iexact H21
        ipureintro; exact QCP_late m c _ _ h2 _ hx21
      isplitl [H22]; · iexact H22
      isplitl [H23]; · iexact H23
      isplitl [H24]; · iexact H24
      iexact H25
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (leaves0_14 m c t h2 d14) $$ H16
  isplitl [H17]; · iapply (leaves0_15 m c t h1 d15) $$ H17
  isplitl [H18]; · iapply (leaves0_16 m c t h2 d16) $$ H18
  iapply (leaves0_17 m c t h1 d17) $$ H19

end Cert.DownIdeal.Gen

end
-- ==== Proof.DownFrame.lean ====
/- The down call runs: at every point the body meets its obligation, so the arrays end as the proof data says and the arguments unchanged. -/
module

public import proofs.«01_k».proof.Proof.DownBodyA
public import proofs.«01_k».proof.Proof.DownBodyB
public import proofs.«01_k».proof.Proof.DownBodyC
public import proofs.«01_k».proof.Proof.DownBodyD
public import proofs.«01_k».proof.Proof.DownBodyE
public import proofs.«01_k».proof.Proof.DownBodyG
public import proofs.«01_k».proof.Proof.DownBodyH
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at any point: one of the seven cases. -/
theorem sound_body (c : Dev nD) (t : Fin cfg0.N) :
    bodyPre m c t ⊢ wp frame (wpE (defs₀ (F := F)) Variants.none c none) Set.univ (bodyAt0 t) (fun _ => bodyPost m c t) := by
  have hN : t.val < 168 := lt_of_lt_of_eq t.isLt N168
  by_cases h2 : t.val < 12
  · by_cases h1 : t.val = 0
    · exact sound_A m c t h1 h2 (by omega) (by omega) (by omega)
    · by_cases h4 : t.val % 12 = 11
      · exact sound_C m c t h1 h2 (by omega) h4 (by omega)
      · exact sound_B m c t h1 h2 (by omega) h4 (by omega)
  · by_cases h4 : t.val % 12 = 11
    · by_cases h5 : t.val = 167
      · exact sound_H m c t (by omega) h2 (by omega) h4 h5
      · exact sound_G m c t (by omega) h2 (by omega) h4 h5
    · by_cases h3 : t.val % 12 = 0
      · exact sound_D m c t (by omega) h2 h3 h4 (by omega)
      · exact sound_E m c t (by omega) h2 h3 h4 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%x20, %hx20, H20⟩, ⟨%x21, %hx21, H21⟩, H22, H23, H24, H25⟩, Hg⟩
  isplitl [H20 H21 H22 H23 H24 H25]
  · isplitl [H20]; · iexists _; iexact H20
    isplitl [H21]; · iexists _; iexact H21
    isplitl [H22]; · iexact H22
    isplitl [H23]; · iexists _; iexact H23
    isplitl [H24]; · iexists _; iexact H24
    iexists _; iexact H25
  iexact Hg

/-- The same after the last point. -/
theorem hout (c : Dev nD) : (dats m 0 c).Φ (Fin.last cfg0.N) ⊢ Pipeline.ΦA spec0 c :=
  Phi_out m c _ (by rw [Fin.val_last]; have : cfg0.N = 168 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every argument array ends unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.DownIdeal.Gen

end
-- ==== Proof.DownBits.lean ====
/- The frame of the printed Down call. The printed call and the idealized one are the same text, so the frame proved of the latter at any
floats is the former's. -/
module

public import proofs.«01_k».proof.Defs
public import proofs.«01_k».proof.Proof.Gen.Down
public import proofs.«01_k».proof.Proof.DownFrame
public import Idealize.ShloMosaic.Lib.Tactic

@[expose] public section

noncomputable section

namespace Cert.Down

open Idealize.ShloMosaic Idealize.SL.Sem

/-- The frame of the printed call, at any floats. -/
def framed {F : FTy → Type} [FloatOps F] [hDown : Cert.Down.Facts] : Prop :=
  ∀ (m : (ℓ : Loc Cert.Down.nD Cert.Down.τ Cert.Down.sig) → Buf (Elt F) ℓ) (g : Dev Cert.Down.nD → PrngReg),
    θ_run (Cert.Down.defs (F := F)) (onTc (τ := Cert.Down.τ) (Cert.Down.main (F := F))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9))
      ∧ r.2.sem = fun _ => 0)

/-- The frame of the idealized call, at any floats. -/
def framedIdeal {F : FTy → Type} [FloatOps F] [hDownIdeal : Cert.DownIdeal.Facts] : Prop :=
  ∀ (m : (ℓ : Loc Cert.DownIdeal.nD Cert.DownIdeal.τ Cert.DownIdeal.sig) → Buf (Elt F) ℓ) (g : Dev Cert.DownIdeal.nD → PrngReg),
    θ_run (Cert.DownIdeal.defs (F := F)) (onTc (τ := Cert.DownIdeal.τ) (Cert.DownIdeal.main (F := F))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

/-- The two are one statement. -/
theorem framed_eq {F : FTy → Type} [FloatOps F] [hDown : Cert.Down.Facts] [hDownIdeal : Cert.DownIdeal.Facts] :
    framed (F := F) = framedIdeal (F := F) := by
  sl_kernel_rfl

/-- Every argument array of the printed call ends unchanged and every semaphore counter ends at zero. -/
theorem quiescent : Cert.quiescent_Down (hDown := Cert.Down.Gen.facts) := fun m g _ => by
  have h : framedIdeal (F := Bits) (hDownIdeal := Cert.DownIdeal.Gen.facts) := fun m ρ => Cert.DownIdeal.Gen.frame m ρ
  rw [← framed_eq (hDown := Cert.Down.Gen.facts)] at h
  exact h m g

end Cert.Down

end
-- ==== Proof.DownSpec.lean ====
/- What the down call computes, at an element, over the extended reals, and the regroupings of its sums: no program is named. -/
module

public import Idealize.ShloMosaic.PureOps.Ideal
public import Idealize.ShloMosaic.Lib.Pointwise

@[expose] public section

set_option maxRecDepth 16384

noncomputable section

namespace Cert.DownSpec

open Idealize.ShloMosaic Idealize.ShloMosaic.TcCoe Idealize.ShloMosaic.Tactic

/-! ## Arrays by their shapes -/

/-- A shape of an argument or a result. -/
abbrev AF : Shape := ⟨2, ![256, 18432]⟩
/-- A shape of an argument or a result. -/
abbrev AM : Shape := ⟨2, ![256, 128]⟩
/-- A shape of an argument or a result. -/
abbrev AS : Shape := ⟨2, ![256, 1]⟩
/-- A shape of an argument or a result. -/
abbrev AW : Shape := ⟨2, ![18432, 7168]⟩
/-- A shape of an argument or a result. -/
abbrev AQ : Shape := ⟨2, ![9216, 7168]⟩
/-- A shape of an argument or a result. -/
abbrev AZ : Shape := ⟨2, ![144, 7168]⟩

/-! ## The stated values at an element -/

/-- The low nibble of packed row `p`, column `j`, less its group's zero point, times its group's scale: an even weight row. -/
def lo (q : Vec Ideal AQ .i8) (z : Vec Ideal AZ .i8) (s : Vec Ideal AZ .f32) (p : Fin 9216) (j : Fin 7168) : EReal :=
  ((FloatOps.sitofp (F := Ideal) FTy.f32 (IntOp.andi (BitVec.setWidth 32 (q (ix2 p j))) 15#32) : EReal) -
    FloatOps.sitofp (F := Ideal) FTy.f32 (BitVec.setWidth 32 (z (ix2 ⟨p.val / 64, by omega⟩ j)))) * s (ix2 ⟨p.val / 64, by omega⟩ j)
/-- The same of the high nibble: an odd weight row. -/
def hi (q : Vec Ideal AQ .i8) (z : Vec Ideal AZ .i8) (s : Vec Ideal AZ .f32) (p : Fin 9216) (j : Fin 7168) : EReal :=
  ((FloatOps.sitofp (F := Ideal) FTy.f32 (IntOp.shrsi ArithUnit.vector (BitVec.setWidth 32 (q (ix2 p j))) 4#32) : EReal) -
    FloatOps.sitofp (F := Ideal) FTy.f32 (BitVec.setWidth 32 (z (ix2 ⟨p.val / 64, by omega⟩ j)))) * s (ix2 ⟨p.val / 64, by omega⟩ j)
/-- The dequantised weight of row `k`: even rows from low nibbles, odd rows from high ones. -/
def deq (q : Vec Ideal AQ .i8) (z : Vec Ideal AZ .i8) (s : Vec Ideal AZ .f32) (k : Fin 18432) (j : Fin 7168) : EReal :=
  if k.val % 2 = 0 then lo q z s ⟨k.val / 2, by omega⟩ j else hi q z s ⟨k.val / 2, by omega⟩ j
/-- A token's code: the element over the token's scale, rounded to the nearest integer (ties to even) and clipped to ±127. -/
def code (v s : EReal) : BitVec 8 :=
  FloatOps.fptosi (F := Ideal) (φ := .f32) 8 (FloatOps.minimumf (F := Ideal) (φ := .f32) (FloatOps.ofBits (F := Ideal) .f32 0x42FE0000#32)
    (FloatOps.maximumf (F := Ideal) (φ := .f32) (FloatOps.ofBits (F := Ideal) .f32 0xC2FE0000#32)
      (FloatOps.roundeven (F := Ideal) (φ := .f32) (FloatOps.divf (F := Ideal) (φ := .f32) v s))))
/-- The codes of an array by its tokens' scales. -/
def codes (h : Vec Ideal AF .f32) (s : Vec Ideal AS .f32) : Vec Ideal AF .i8 := fun y => code (h y) (s (ix2 (y 0) 0))
/-- The token's codes times the dequantised weights: even codes by low nibbles, odd codes by high ones. -/
def qdot (c : Vec Ideal AF .i8) (q : Vec Ideal AQ .i8) (z : Vec Ideal AZ .i8) (s : Vec Ideal AZ .f32) (i : Fin 256) (j : Fin 7168) : EReal :=
  (∑ p : Fin 9216, (FloatOps.sitofp (F := Ideal) FTy.bf16 (c (ix2 i ⟨p.val * 2, by omega⟩)) : EReal) * lo q z s p j) +
    ∑ p : Fin 9216, (FloatOps.sitofp (F := Ideal) FTy.bf16 (c (ix2 i ⟨p.val * 2 + 1, by omega⟩)) : EReal) * hi q z s p j
/-- The quantised projection: codes by weights, by the token's scale. -/
def qproj (c : Vec Ideal AF .i8) (fs : Vec Ideal AS .f32) (q : Vec Ideal AQ .i8) (z : Vec Ideal AZ .i8) (s : Vec Ideal AZ .f32) (i : Fin 256) (j : Fin 7168) : EReal :=
  qdot c q z s i j * fs (ix2 i 0)
/-- The token times the unquantised weights. -/
def rdot (h : Fin 256 → Fin 18432 → EReal) (w : Vec Ideal AW .bf16) (i : Fin 256) (j : Fin 7168) : EReal :=
  ∑ k : Fin 18432, h i k * w (ix2 k j)
/-- `y_ref` at an element. -/
def yref (hr : Vec Ideal AF .f32) (w : Vec Ideal AW .bf16) (i : Fin 256) (j : Fin 7168) : EReal := rdot (fun i k => hr (ix2 i k)) w i j
/-- An unquantised variant's output at an element. -/
def yvar (h : Vec Ideal AF .bf16) (w : Vec Ideal AW .bf16) (i : Fin 256) (j : Fin 7168) : EReal := rdot (fun i k => h (ix2 i k)) w i j
/-- A squared difference. -/
def sq (a b : EReal) : EReal := (a - b) * (a - b)
/-- What the accumulators add up: the squared errors of the four variants, and the square of `y_ref`. -/
def term (y0 y1 y2 y3 y : Fin 256 → Fin 7168 → EReal) (k : Fin 5) (i : Fin 256) (j : Fin 7168) : EReal :=
  if k.val = 0 then sq (y0 i j) (y i j) else if k.val = 1 then sq (y1 i j) (y i j) else if k.val = 2 then sq (y2 i j) (y i j)
  else if k.val = 3 then sq (y3 i j) (y i j) else y i j * y i j

/-! ## Sums -/

/-- A sum over the 18432 rows is the sum over even rows and the sum over odd rows. -/
theorem sum_pairs (f : Fin 18432 → EReal) :
    ∑ k, f k = (∑ p : Fin 9216, f ⟨p.val * 2, by omega⟩) + ∑ p : Fin 9216, f ⟨p.val * 2 + 1, by omega⟩ := by
  rw [← Finset.sum_add_distrib, ← (finProdFinEquiv (m := 9216) (n := 2)).sum_comp f, Fintype.sum_prod_type]
  refine Finset.sum_congr rfl fun p _ => ?_
  rw [Fin.sum_univ_two]
  congr 2 <;> apply Fin.ext <;> simp [finProdFinEquiv] <;> omega
/-- So the codes by the dequantised weights is `qdot`. -/
theorem sum_deq (c : Vec Ideal AF .i8) (q : Vec Ideal AQ .i8) (z : Vec Ideal AZ .i8) (s : Vec Ideal AZ .f32) (i : Fin 256) (j : Fin 7168) :
    ∑ k : Fin 18432, (FloatOps.sitofp (F := Ideal) FTy.bf16 (c (ix2 i k)) : EReal) * deq q z s k j = qdot c q z s i j := by
  rw [sum_pairs]
  unfold qdot deq
  refine congrArg₂ (· + ·) (Finset.sum_congr rfl fun p _ => ?_) (Finset.sum_congr rfl fun p _ => ?_)
  · rw [if_pos (show p.val * 2 % 2 = 0 by omega)]
    have e : (⟨p.val * 2 / 2, by omega⟩ : Fin 9216) = p := Fin.ext (by show p.val * 2 / 2 = p.val; omega)
    simp only [e]
  · rw [if_neg (show ¬(p.val * 2 + 1) % 2 = 0 by omega)]
    have e : (⟨(p.val * 2 + 1) / 2, by omega⟩ : Fin 9216) = p := Fin.ext (by show (p.val * 2 + 1) / 2 = p.val; omega)
    simp only [e]
/-- The first `n` products of a sum over the 18432 rows. -/
def dotN (a b : Fin 18432 → EReal) (n : ℕ) : EReal := ∑ k ∈ Finset.range n, if h : k < 18432 then a ⟨k, h⟩ * b ⟨k, h⟩ else 0
/-- A product over no rows is zero. -/
theorem dotN_zero (a b : Fin 18432 → EReal) : dotN a b 0 = 0 := Finset.sum_range_zero _
/-- One more chunk of 1536 products. -/
theorem dotN_step (a b : Fin 18432 → EReal) (k : ℕ) (hk : k < 12) :
    dotN a b (1536 * (k + 1)) = dotN a b (1536 * k) + ∑ x : Fin 1536, a ⟨1536 * k + x.val, by omega⟩ * b ⟨1536 * k + x.val, by omega⟩ := by
  unfold dotN
  rw [Nat.mul_succ, Finset.sum_range_add]
  refine congrArg (_ + ·) ?_
  rw [Finset.sum_range]
  exact Finset.sum_congr rfl fun x _ => dif_pos (show 1536 * k + x.val < 18432 by omega)
/-- All of them. -/
theorem dotN_full (a b : Fin 18432 → EReal) : dotN a b (1536 * 12) = ∑ k, a k * b k := by
  unfold dotN
  rw [show 1536 * 12 = 18432 from rfl, Finset.sum_range]
  exact Finset.sum_congr rfl fun x _ => dif_pos x.isLt
/-- Column `x` of column block `b`. -/
def col (b : ℕ) (x : Fin 512) : Fin 7168 := ⟨b % 14 * 512 + x.val, by omega⟩
/-- A lane's four columns of column block `b`. -/
def lane4 (f : Fin 7168 → EReal) (b : ℕ) (l : Fin 128) : EReal :=
  f (col b ⟨l.val, by omega⟩) + f (col b ⟨128 + l.val, by omega⟩) + f (col b ⟨256 + l.val, by omega⟩) + f (col b ⟨384 + l.val, by omega⟩)
/-- The lanes' sums over all column blocks add up to the sum over all columns. -/
theorem sum_lanes (f : Fin 7168 → EReal) : ∑ l : Fin 128, ∑ b ∈ Finset.range 14, lane4 f b l = ∑ j, f j := by
  rw [Finset.sum_comm, Finset.sum_range, ← (finProdFinEquiv (m := 14) (n := 512)).sum_comp f, Fintype.sum_prod_type]
  refine Finset.sum_congr rfl fun b _ => ?_
  rw [← (finProdFinEquiv (m := 4) (n := 128)).sum_comp, Fintype.sum_prod_type, Fin.sum_univ_four, ← Finset.sum_add_distrib, ← Finset.sum_add_distrib, ← Finset.sum_add_distrib]
  refine Finset.sum_congr rfl fun l _ => ?_
  have e : b.val % 14 = b.val := Nat.mod_eq_of_lt b.isLt
  unfold lane4 col
  refine congrArg₂ (· + ·) (congrArg₂ (· + ·) (congrArg₂ (· + ·) (congrArg f (Fin.ext ?_)) (congrArg f (Fin.ext ?_))) (congrArg f (Fin.ext ?_))) (congrArg f (Fin.ext ?_)) <;>
    simp [finProdFinEquiv, e] <;> omega

/-! ## The call's results -/

section
variable (a0 a1 : Vec Ideal AF .f32) (a2 a3 : Vec Ideal AF .bf16) (fs rs : Vec Ideal AS .f32) (a6 : Vec Ideal AW .bf16) (a7 : Vec Ideal AQ .i8)
  (a8 : Vec Ideal AZ .f32) (a9 : Vec Ideal AZ .i8)
/-- The summands, of the call's arguments and the tokens' scales. -/
def tt : Fin 5 → Fin 256 → Fin 7168 → EReal :=
  term (qproj (codes a0 fs) fs a7 a9 a8) (yvar a2 a6) (yvar a3 a6) (qproj (codes a1 rs) rs a7 a9 a8) (yref a1 a6)
/-- The errors per variant and token: summed over the columns. -/
def resET : Vec Ideal ⟨3, ![4, 256, 1]⟩ .f32 := fun y =>
  ∑ j : Fin 7168, tt a0 a1 a2 a3 fs rs a6 a7 a8 a9 ⟨(y 0).val, Nat.lt_of_lt_of_le (show (y 0).val < 4 from (y 0).isLt) (by decide)⟩ (y 1) j
/-- The signal per token. -/
def resST : Vec Ideal AS .f32 := fun y => ∑ j : Fin 7168, tt a0 a1 a2 a3 fs rs a6 a7 a8 a9 4 (y 0) j
/-- The errors per variant and column: summed over the tokens. -/
def resEC : Vec Ideal ⟨2, ![4, 7168]⟩ .f32 := fun y =>
  ∑ i : Fin 256, tt a0 a1 a2 a3 fs rs a6 a7 a8 a9 ⟨(y 0).val, Nat.lt_of_lt_of_le (show (y 0).val < 4 from (y 0).isLt) (by decide)⟩ i (y 1)
/-- The reference output. -/
def resY : Vec Ideal ⟨2, ![256, 7168]⟩ .bf16 := fun y => yref a1 a6 (y 0) (y 1)
end

end Cert.DownSpec

end
-- ==== Proof.DownPoint.lean ====
/- The down body at an element: codes, products and dequantised weights. -/
module

public import proofs.«01_k».proof.Proof.DownMath
public import proofs.«01_k».proof.Proof.DownSpec
public import Idealize.ShloMosaic.Lib.Pointwise

@[expose] public section

set_option maxRecDepth 16384

noncomputable section

namespace Cert.DownIdeal.Gen

open Idealize.ShloMosaic Idealize.ShloMosaic.TcCoe Idealize.ShloMosaic.Tactic

open Cert.DownSpec

/-! ## The body's values at an element -/

/-- A stored code of `h_full`. -/
theorem pay11_at (x : Vec Ideal S256x1536 .f32) (s : Vec Ideal S256x1 .f32) (i : Fin 256) (j : Fin 1536) :
    k0_pay11 x s (ix2 i j) = code (x (ix2 i j)) (s (ix2 i 0)) := by
  pointwise [k0_pay11]
  rfl
/-- A stored code of `h_ref`. -/
theorem pay12_at (x : Vec Ideal S256x1536 .f32) (s : Vec Ideal S256x1 .f32) (i : Fin 256) (j : Fin 1536) :
    k0_pay12 x s (ix2 i j) = code (x (ix2 i j)) (s (ix2 i 0)) := by
  pointwise [k0_pay12]
  rfl
/-- One more chunk of a reference product. -/
theorem accbNew_at (old : Vec Ideal S768x512 .f32) (h : Vec Ideal S768x1536 .bf16) (w : Vec Ideal S1536x512 .bf16) (r : Fin 768) (x : Fin 512) :
    accbNew old h w (ix2 r x) = (old (ix2 r x) : EReal) + ∑ k : Fin 1536, (h (ix2 r k) : EReal) * w (ix2 k x) := by
  unfold accbNew
  pointwise [k0_pay1]
/-- One more chunk of a quantised product. -/
theorem accqNew_at (old : Vec Ideal S512x512 .f32) (q : Vec Ideal S512x1536 .i8) (w : Vec Ideal S1536x512 .bf16) (r : Fin 512) (x : Fin 512) :
    accqNew old q w (ix2 r x) = (old (ix2 r x) : EReal) + ∑ k : Fin 1536, (FloatOps.sitofp (F := Ideal) FTy.bf16 (q (ix2 r k)) : EReal) * w (ix2 k x) := by
  unfold accqNew
  pointwise [k0_pay2]
/-- The accumulators' starting value is zero. -/
theorem pay33_at (r : Fin 768) (x : Fin 512) : (k0_pay33 (F := Ideal) (ix2 r x) : EReal) = 0 := by pointwise [k0_pay33]
/-- The accumulators' starting value is zero. -/
theorem pay34_at (r : Fin 512) (x : Fin 512) : (k0_pay34 (F := Ideal) (ix2 r x) : EReal) = 0 := by pointwise [k0_pay34]
/-- The accumulators' starting value is zero. -/
theorem pay30_at (k : Fin 5) (i : Fin 256) (l : Fin 128) : (k0_pay30 (F := Ideal) (ix3 k i l) : EReal) = 0 := by pointwise [k0_pay30]

/-- A row of the dequantised weights, the blocks being rows of the arrays: chunk `k`, column `c` of the blocks being column `j`. -/
theorem deqAll_at {q : Vec Ideal S768x512 .i8} {s : Vec Ideal S1x12x512 .f32} {z : Vec Ideal S1x12x512 .i8}
    {Q : Vec Ideal AQ .i8} {S : Vec Ideal AZ .f32} {Z : Vec Ideal AZ .i8} (k : ℕ) (hk : k < 12) (c : Fin 512) (j : Fin 7168)
    (hq : ∀ p : Fin 768, q (ix2 p c) = Q (ix2 ⟨768 * k + p.val, by omega⟩ j)) (hs : ∀ g : Fin 12, s (ix3 0 g c) = S (ix2 ⟨12 * k + g.val, by omega⟩ j))
    (hz : ∀ g : Fin 12, z (ix3 0 g c) = Z (ix2 ⟨12 * k + g.val, by omega⟩ j)) (p : Fin 1536) :
    deqAll q s z (ix2 p c) = deq Q Z S ⟨1536 * k + p.val, by omega⟩ j := by
  unfold deqAll deq lo hi
  pointwise [k0_pay39]
  simp only [hq, hs, hz]
  have e1 : (⟨768 * k + (64 * (p.val / 128) + p.val % 128 / 2), by omega⟩ : Fin 9216) = ⟨(1536 * k + p.val) / 2, by omega⟩ := Fin.ext (by
    show 768 * k + (64 * (p.val / 128) + p.val % 128 / 2) = (1536 * k + p.val) / 2; omega)
  have e2 : (⟨12 * k + p.val / 128, by omega⟩ : Fin 144) = ⟨(1536 * k + p.val) / 2 / 64, by omega⟩ := Fin.ext (by
    show 12 * k + p.val / 128 = (1536 * k + p.val) / 2 / 64; omega)
  by_cases h : (1536 * k + p.val) % 2 = 0
  · rw [if_pos h, dif_pos (show p.val % 128 % 2 < 1 by omega)]
    simp only [e1, e2]
  · rw [if_neg h, dif_neg (show ¬p.val % 128 % 2 < 1 by omega)]
    simp only [e1, e2]

end Cert.DownIdeal.Gen

end
-- ==== Proof.DownBlocks.lean ====
/- The blocks a grid point of the down call sees, as parts of the arguments. -/
module

public import proofs.«01_k».proof.Proof.DownFrame
public import proofs.«01_k».proof.Proof.DownPoint
public import Idealize.ShloMosaic.Lib.Pipeline.ValueKit

@[expose] public section

set_option maxRecDepth 16384

noncomputable section

namespace Cert.DownIdeal.Gen

open Idealize.ShloMosaic Idealize.ShloMosaic.TcCoe Idealize.ShloMosaic.Tactic

open Cert.DownSpec

variable (m : (ℓ : Loc nD τ sig) → Buf (Elt Ideal) ℓ) (ρ : Dev nD → PrngReg)

/-! ## The arguments, and the blocks as parts of them -/

/-- Argument 0, by its shape. -/
def A0 (c : Dev nD) : Vec Ideal AF .f32 := m ((c.tc : Thread nD τ).loc main_arg0)
/-- Argument 1, by its shape. -/
def A1 (c : Dev nD) : Vec Ideal AF .f32 := m ((c.tc : Thread nD τ).loc main_arg1)
/-- Argument 2, by its shape. -/
def A2 (c : Dev nD) : Vec Ideal AF .bf16 := m ((c.tc : Thread nD τ).loc main_arg2)
/-- Argument 3, by its shape. -/
def A3 (c : Dev nD) : Vec Ideal AF .bf16 := m ((c.tc : Thread nD τ).loc main_arg3)
/-- Argument 4, by its shape. -/
def A4 (c : Dev nD) : Vec Ideal AM .f32 := m ((c.tc : Thread nD τ).loc main_arg4)
/-- Argument 5, by its shape. -/
def A5 (c : Dev nD) : Vec Ideal AM .f32 := m ((c.tc : Thread nD τ).loc main_arg5)
/-- Argument 6, by its shape. -/
def A6 (c : Dev nD) : Vec Ideal AW .bf16 := m ((c.tc : Thread nD τ).loc main_arg6)
/-- Argument 7, by its shape. -/
def A7 (c : Dev nD) : Vec Ideal AQ .i8 := m ((c.tc : Thread nD τ).loc main_arg7)
/-- Argument 8, by its shape. -/
def A8 (c : Dev nD) : Vec Ideal AZ .f32 := m ((c.tc : Thread nD τ).loc main_arg8)
/-- Argument 9, by its shape. -/
def A9 (c : Dev nD) : Vec Ideal AZ .i8 := m ((c.tc : Thread nD τ).loc main_arg9)

/-- Where the windows' blocks lie in their arrays at point `t`: chunk `t % 12`, column block `t / 12`. -/
theorem idx_at : ∀ t : Fin cfg0.N, (t.val < 12 → win0_0.index t = ![0, t.val] ∧ win0_1.index t = ![0, t.val] ∧ win0_2.index t = ![0, t.val] ∧ win0_3.index t = ![0, t.val]) ∧ win0_4.index t = ![0, 0] ∧ win0_5.index t = ![0, 0] ∧ win0_6.index t = ![t.val % 12, t.val / 12] ∧ win0_7.index t = ![t.val % 12, t.val / 12] ∧ win0_8.index t = ![t.val % 12, 0, t.val / 12] ∧ win0_9.index t = ![t.val % 12, 0, t.val / 12] ∧ win0_12.index t = ![0, t.val / 12] ∧ win0_13.index t = ![0, t.val / 12] ∧ win0_14.index t = ![0, min t.val 11] ∧ win0_16.index t = ![0, min t.val 11] :=
  (by decide +kernel : ∀ t : Fin grid0.N, (t.val < 12 → win0_0.index t = ![0, t.val] ∧ win0_1.index t = ![0, t.val] ∧ win0_2.index t = ![0, t.val] ∧ win0_3.index t = ![0, t.val]) ∧ win0_4.index t = ![0, 0] ∧ win0_5.index t = ![0, 0] ∧ win0_6.index t = ![t.val % 12, t.val / 12] ∧ win0_7.index t = ![t.val % 12, t.val / 12] ∧ win0_8.index t = ![t.val % 12, 0, t.val / 12] ∧ win0_9.index t = ![t.val % 12, 0, t.val / 12] ∧ win0_12.index t = ![0, t.val / 12] ∧ win0_13.index t = ![0, t.val / 12] ∧ win0_14.index t = ![0, min t.val 11] ∧ win0_16.index t = ![0, min t.val 11])
/-- A grid point is below 168. -/
theorem t_lt (t : Fin cfg0.N) : t.val < 168 := lt_of_lt_of_eq t.isLt N168

/-- The block of argument 0 at a grid point is a part of the argument. -/
theorem iblk0_at (c : Dev nD) (t : Fin cfg0.N) (h : t.val < 12) (i : Fin 256) (x : Fin 1536) : iblk m c 0 t (ix2 i x) = A0 m c (ix2 i ⟨t.val * 1536 + x.val, by omega⟩) := by
  unfold A0
  blk_ext [iblk, V, (idx_at t).1 h]
/-- The block of argument 1 at a grid point is a part of the argument. -/
theorem iblk1_at (c : Dev nD) (t : Fin cfg0.N) (h : t.val < 12) (i : Fin 256) (x : Fin 1536) : iblk m c 1 t (ix2 i x) = A1 m c (ix2 i ⟨t.val * 1536 + x.val, by omega⟩) := by
  unfold A1
  blk_ext [iblk, V, (idx_at t).1 h]
/-- The block of argument 2 at a grid point is a part of the argument. -/
theorem iblk2_at (c : Dev nD) (t : Fin cfg0.N) (h : t.val < 12) (i : Fin 256) (x : Fin 1536) : iblk m c 2 t (ix2 i x) = A2 m c (ix2 i ⟨t.val * 1536 + x.val, by omega⟩) := by
  unfold A2
  blk_ext [iblk, V, (idx_at t).1 h]
/-- The block of argument 3 at a grid point is a part of the argument. -/
theorem iblk3_at (c : Dev nD) (t : Fin cfg0.N) (h : t.val < 12) (i : Fin 256) (x : Fin 1536) : iblk m c 3 t (ix2 i x) = A3 m c (ix2 i ⟨t.val * 1536 + x.val, by omega⟩) := by
  unfold A3
  blk_ext [iblk, V, (idx_at t).1 h]
/-- The block of the lane maxima of `h_full` is the argument. -/
theorem MFB_eq (c : Dev nD) : MFB m c = A4 m c := by
  funext y
  idx_vars y
  unfold MFB A4
  blk_ext [iblk, V, idx_at (tK 0)]
/-- The block of the lane maxima of `h_ref` is the argument. -/
theorem MRB_eq (c : Dev nD) : MRB m c = A5 m c := by
  funext y
  idx_vars y
  unfold MRB A5
  blk_ext [iblk, V, idx_at (tK 0)]
/-- The block of argument 6 at a grid point is a part of the argument. -/
theorem iblk6_at (c : Dev nD) (t : Fin cfg0.N) (p : Fin 1536) (x : Fin 512) :
    iblk m c 6 t (ix2 p x) = A6 m c (ix2 ⟨1536 * (t.val % 12) + p.val, by omega⟩ (col (t.val / 12) x)) := by
  have ht := t_lt t
  unfold A6 col
  blk_ext [iblk, V, idx_at t]
/-- The block of argument 7 at a grid point is a part of the argument. -/
theorem iblk7_at (c : Dev nD) (t : Fin cfg0.N) (p : Fin 768) (x : Fin 512) :
    iblk m c 7 t (ix2 p x) = A7 m c (ix2 ⟨768 * (t.val % 12) + p.val, by omega⟩ (col (t.val / 12) x)) := by
  have ht := t_lt t
  unfold A7 col
  blk_ext [iblk, V, idx_at t]
/-- The host's reshapes of the scales and of the zero points, twelve groups to a chunk. -/
theorem V8_at (c : Dev nD) (k g : Fin 12) (j : Fin 7168) : V m c main_v0 (ix3 k g j) = A8 m c (ix2 ⟨12 * k.val + g.val, by omega⟩ j) := by
  unfold A8
  entry_read
  pointwise
  exact congrArg (fun p => m (c.tc.loc main_arg8) (ix2 p j)) (Fin.ext (by show k.val * 12 + g.val = 12 * k.val + g.val; omega))
/-- The reshaped zero points, as the argument. -/
theorem V9_at (c : Dev nD) (k g : Fin 12) (j : Fin 7168) : V m c main_v1 (ix3 k g j) = A9 m c (ix2 ⟨12 * k.val + g.val, by omega⟩ j) := by
  unfold A9
  entry_read
  pointwise
  exact congrArg (fun p => m (c.tc.loc main_arg9) (ix2 p j)) (Fin.ext (by show k.val * 12 + g.val = 12 * k.val + g.val; omega))
/-- The block of argument 8 at a grid point is a part of the argument. -/
theorem iblk8_at (c : Dev nD) (t : Fin cfg0.N) (g : Fin 12) (x : Fin 512) :
    iblk m c 8 t (ix3 0 g x) = A8 m c (ix2 ⟨12 * (t.val % 12) + g.val, by omega⟩ (col (t.val / 12) x)) := by
  have ht := t_lt t
  refine Eq.trans ?_ (V8_at m c ⟨t.val % 12, by omega⟩ g (col (t.val / 12) x))
  unfold col
  blk_ext [iblk, idx_at t]
/-- The block of argument 9 at a grid point is a part of the argument. -/
theorem iblk9_at (c : Dev nD) (t : Fin cfg0.N) (g : Fin 12) (x : Fin 512) :
    iblk m c 9 t (ix3 0 g x) = A9 m c (ix2 ⟨12 * (t.val % 12) + g.val, by omega⟩ (col (t.val / 12) x)) := by
  have ht := t_lt t
  refine Eq.trans ?_ (V9_at m c ⟨t.val % 12, by omega⟩ g (col (t.val / 12) x))
  unfold col
  blk_ext [iblk, idx_at t]

end Cert.DownIdeal.Gen

end
-- ==== Proof.DownTok.lean ====
/- The end of a column block of the down call, at an element: errors per token and per column. -/
module

public import proofs.«01_k».proof.Proof.DownMath
public import proofs.«01_k».proof.Proof.DownSpec
public import Idealize.ShloMosaic.Lib.Pointwise

@[expose] public section

set_option maxRecDepth 16384

noncomputable section

namespace Cert.DownIdeal.Gen

open Idealize.ShloMosaic Idealize.ShloMosaic.TcCoe Idealize.ShloMosaic.Tactic

open Cert.DownSpec

/-! ## The end of a column block, at an element

    `a` and `q` are the finished accumulators of column block `b`, `y`, `y0` … `y3` the outputs they hold. -/

variable {a : Vec Ideal S768x512 .f32} {q : Vec Ideal S512x512 .f32} {fs rs : Vec Ideal S256x1 .f32} {b : ℕ} {y y0 y1 y2 y3 : Fin 256 → Fin 7168 → EReal}
  (hy : ∀ i x, (B0 a (ix2 i x) : EReal) = y i (col b x)) (h1 : ∀ i x, (B1 a (ix2 i x) : EReal) = y1 i (col b x)) (h2 : ∀ i x, (B2 a (ix2 i x) : EReal) = y2 i (col b x))
  (h0 : ∀ i x, ((Q0 q (ix2 i x) : EReal) * fs (ix2 i 0)) = y0 i (col b x)) (h3 : ∀ i x, ((Q1 q (ix2 i x) : EReal) * rs (ix2 i 0)) = y3 i (col b x))
include hy h0 h1 h2 h3

/-- A token accumulator takes in its lane's four columns. -/
theorem tokNew_at (old : Vec Ideal S5x256x128 .f32) (k : Fin 5) (i : Fin 256) (l : Fin 128) :
    (tokNew a q fs rs old (ix3 k i l) : EReal) = old (ix3 k i l) + lane4 (term y0 y1 y2 y3 y k i) b l := by
  unfold tokNew lane4 term DownSpec.sq
  fin_cases k
  · pointwise [tokSl, k0_pay18, k0_pay16]
    simp only [hy, h0]
  · pointwise [tokSl, k0_pay21, k0_pay19]
    simp only [hy, h1]
  · pointwise [tokSl, k0_pay3, k0_pay22]
    simp only [hy, h2]
  · pointwise [tokSl, k0_pay6, k0_pay4, k0_pay15]
    simp only [hy, h3]
  · pointwise [tokSl, k0_pay14]
    simp only [hy]
/-- A column's error is summed over the tokens. -/
theorem ecNew_at (k : Fin 4) (x : Fin 512) :
    (ecNew a q fs rs (ix2 k x) : EReal) = ∑ i : Fin 256, term y0 y1 y2 y3 y ⟨k.val, by omega⟩ i (col b x) := by
  unfold ecNew term DownSpec.sq
  fin_cases k
  · pointwise [k0_pay17, k0_pay16]
    simp only [hy, h0]
  · pointwise [k0_pay20, k0_pay19]
    simp only [hy, h1]
  · pointwise [k0_pay23, k0_pay22]
    simp only [hy, h2]
  · pointwise [k0_pay5, k0_pay4, k0_pay15]
    simp only [hy, h3]

omit hy h0 h1 h2 h3
/-- The token errors are the accumulators' lanes summed. -/
theorem etNew_at (w : Vec Ideal S5x256x128 .f32) (k : Fin 4) (i : Fin 256) (z : Fin 1) :
    (etNew w (ix3 k i z) : EReal) = ∑ l : Fin 128, (w (ix3 ⟨k.val, by omega⟩ i l) : EReal) := by
  unfold etNew
  fin_cases k
  · pointwise [tokSl, k0_pay24]
  · pointwise [tokSl, k0_pay25]
  · pointwise [tokSl, k0_pay26]
  · pointwise [tokSl, k0_pay27]
/-- The token signals are the sums over the lanes. -/
theorem stNew_at (w : Vec Ideal S5x256x128 .f32) (i : Fin 256) (z : Fin 1) :
    (stNew w (ix2 i z) : EReal) = ∑ l : Fin 128, (w (ix3 4 i l) : EReal) := by
  unfold stNew
  pointwise [tokSl, k0_pay7]

end Cert.DownIdeal.Gen

end
-- ==== Proof.DownCols.lean ====
/- The down call's accumulators, as stated sums of the arguments. -/
module

public import proofs.«01_k».proof.Proof.DownBlocks
public import proofs.«01_k».proof.Proof.DownTok

@[expose] public section

set_option maxRecDepth 16384

noncomputable section

namespace Cert.DownIdeal.Gen

open Idealize.ShloMosaic Idealize.ShloMosaic.TcCoe Idealize.ShloMosaic.Tactic

open Cert.DownSpec

variable (m : (ℓ : Loc nD τ sig) → Buf (Elt Ideal) ℓ) (ρ : Dev nD → PrngReg)

/-- The scales are those of the argument. -/
theorem FS_eq (c : Dev nD) : FS m c = k0_pay28 (A4 m c) := by unfold FS; rw [MFB_eq]
/-- The scales are those of the argument. -/
theorem RS_eq (c : Dev nD) : RS m c = k0_pay29 (A5 m c) := by unfold RS; rw [MRB_eq]

/-! ## What is carried, as the arguments -/

/-- The chunk of an in-range column is its quotient by 1536. -/
theorem tK_col (k : Fin 18432) : (tK (k.val / 1536)).val = k.val / 1536 := by show min (k.val / 1536) 11 = k.val / 1536; omega
/-- A third of the stacked operand, as the argument. -/
theorem HC_lo (c : Dev nD) (i : Fin 256) (k : Fin 18432) : (HC m c (ix2 ⟨0 + i.val, by omega⟩ k) : EReal) = A1 m c (ix2 i k) := by
  have ht := tK_col k
  refine Eq.trans (hRows_lo _ _ _ ⟨0 + i.val, by omega⟩ ⟨k.val % 1536, by omega⟩ (show 0 + i.val < 256 by omega)) ?_
  have ei : (⟨0 + i.val, by omega⟩ : Fin 256) = i := Fin.ext (by show 0 + i.val = i.val; omega)
  have ek : (⟨(tK (k.val / 1536)).val * 1536 + k.val % 1536, by omega⟩ : Fin 18432) = k := Fin.ext (by show (tK (k.val / 1536)).val * 1536 + k.val % 1536 = k.val; omega)
  rw [ei]
  refine Eq.trans (b := (iblk m c 1 (tK (k.val / 1536)) (ix2 i ⟨k.val % 1536, by omega⟩) : EReal)) (by pointwise [k0_pay8]) ?_
  refine (iblk1_at m c _ (by omega) i ⟨k.val % 1536, by omega⟩).trans ?_
  rw [ek]
/-- A third of the stacked operand, as the argument. -/
theorem HC_mid (c : Dev nD) (i : Fin 256) (k : Fin 18432) : (HC m c (ix2 ⟨256 + i.val, by omega⟩ k) : EReal) = A2 m c (ix2 i k) := by
  have ht := tK_col k
  refine Eq.trans (hRows_mid _ _ _ ⟨256 + i.val, by omega⟩ ⟨k.val % 1536, by omega⟩ (show ¬256 + i.val < 256 by omega) (show 256 + i.val < 512 by omega)) ?_
  have ei : (⟨256 + i.val - 256, by omega⟩ : Fin 256) = i := Fin.ext (by show 256 + i.val - 256 = i.val; omega)
  have ek : (⟨(tK (k.val / 1536)).val * 1536 + k.val % 1536, by omega⟩ : Fin 18432) = k := Fin.ext (by show (tK (k.val / 1536)).val * 1536 + k.val % 1536 = k.val; omega)
  rw [ei]
  refine Eq.trans (b := (iblk m c 2 (tK (k.val / 1536)) (ix2 i ⟨k.val % 1536, by omega⟩) : EReal)) (by pointwise [k0_pay9]) ?_
  refine (iblk2_at m c _ (by omega) i ⟨k.val % 1536, by omega⟩).trans ?_
  rw [ek]
/-- A third of the stacked operand, as the argument. -/
theorem HC_hi (c : Dev nD) (i : Fin 256) (k : Fin 18432) : (HC m c (ix2 ⟨512 + i.val, by omega⟩ k) : EReal) = A3 m c (ix2 i k) := by
  have ht := tK_col k
  refine Eq.trans (hRows_hi _ _ _ ⟨512 + i.val, by omega⟩ ⟨k.val % 1536, by omega⟩ (show ¬512 + i.val < 256 by omega) (show ¬512 + i.val < 512 by omega)) ?_
  have ei : (⟨512 + i.val - 512, by omega⟩ : Fin 256) = i := Fin.ext (by show 512 + i.val - 512 = i.val; omega)
  have ek : (⟨(tK (k.val / 1536)).val * 1536 + k.val % 1536, by omega⟩ : Fin 18432) = k := Fin.ext (by show (tK (k.val / 1536)).val * 1536 + k.val % 1536 = k.val; omega)
  rw [ei]
  refine Eq.trans (b := (iblk m c 3 (tK (k.val / 1536)) (ix2 i ⟨k.val % 1536, by omega⟩) : EReal)) (by pointwise [k0_pay10]) ?_
  refine (iblk3_at m c _ (by omega) i ⟨k.val % 1536, by omega⟩).trans ?_
  rw [ek]
/-- A half of the stacked codes, as the codes of the argument. -/
theorem QC_lo (c : Dev nD) (i : Fin 256) (k : Fin 18432) : QC m c (ix2 ⟨0 + i.val, by omega⟩ k) = codes (A0 m c) (FS m c) (ix2 i k) := by
  have ht := tK_col k
  refine Eq.trans (qRows_lo _ _ ⟨0 + i.val, by omega⟩ ⟨k.val % 1536, by omega⟩ (show 0 + i.val < 256 by omega)) ?_
  have ei : (⟨0 + i.val, by omega⟩ : Fin 256) = i := Fin.ext (by show 0 + i.val = i.val; omega)
  have ek : (⟨(tK (k.val / 1536)).val * 1536 + k.val % 1536, by omega⟩ : Fin 18432) = k := Fin.ext (by show (tK (k.val / 1536)).val * 1536 + k.val % 1536 = k.val; omega)
  rw [ei]
  refine Eq.trans (b := k0_pay11 (iblk m c 0 (tK (k.val / 1536))) (FS m c) (ix2 i ⟨k.val % 1536, by omega⟩)) (by pointwise [k0_pay31]) ?_
  rw [pay11_at, iblk0_at m c _ (by omega) i ⟨k.val % 1536, by omega⟩, ek]
  rfl
/-- A half of the stacked codes, as the codes of the argument. -/
theorem QC_hi (c : Dev nD) (i : Fin 256) (k : Fin 18432) : QC m c (ix2 ⟨256 + i.val, by omega⟩ k) = codes (A1 m c) (RS m c) (ix2 i k) := by
  have ht := tK_col k
  refine Eq.trans (qRows_hi _ _ ⟨256 + i.val, by omega⟩ ⟨k.val % 1536, by omega⟩ (show ¬256 + i.val < 256 by omega)) ?_
  have ei : (⟨256 + i.val - 256, by omega⟩ : Fin 256) = i := Fin.ext (by show 256 + i.val - 256 = i.val; omega)
  have ek : (⟨(tK (k.val / 1536)).val * 1536 + k.val % 1536, by omega⟩ : Fin 18432) = k := Fin.ext (by show (tK (k.val / 1536)).val * 1536 + k.val % 1536 = k.val; omega)
  rw [ei]
  refine Eq.trans (b := k0_pay12 (iblk m c 1 (tK (k.val / 1536))) (RS m c) (ix2 i ⟨k.val % 1536, by omega⟩)) (by pointwise [k0_pay32]) ?_
  rw [pay12_at, iblk1_at m c _ (by omega) i ⟨k.val % 1536, by omega⟩, ek]
  rfl
/-- The dequantised weight block, as the dequantised argument. -/
theorem DQ_at (c : Dev nD) (t : Fin cfg0.N) (p : Fin 1536) (x : Fin 512) :
    DQ m c t (ix2 p x) = deq (A7 m c) (A9 m c) (A8 m c) ⟨1536 * (t.val % 12) + p.val, by omega⟩ (col (t.val / 12) x) :=
  deqAll_at (t.val % 12) (by omega) x (col (t.val / 12) x) (fun p => iblk7_at m c t p x) (fun g => iblk8_at m c t g x) (fun g => iblk9_at m c t g x) p

/-! ## The products' accumulators: the first chunks of the sums -/

/-- The rows a product's chunks are taken from, and the columns. -/
def accbL (c : Dev nD) (r : Fin 768) (k : Fin 18432) : EReal := HC m c (ix2 r k)
/-- The weights of a column, by the grid point's column block. -/
def accbW (c : Dev nD) (n : ℕ) (x : Fin 512) (k : Fin 18432) : EReal := A6 m c (ix2 k (col (n / 12) x))
/-- One more chunk of the product. -/
theorem accb_chunk (c : Dev nD) (t : Fin cfg0.N) (old : Vec Ideal S768x512 .f32) (r : Fin 768) (x : Fin 512) :
    (accbNew old (hcRead (kc t) (HC m c)) (iblk m c 6 t) (ix2 r x) : EReal) = old (ix2 r x) + ∑ p : Fin 1536,
      accbL m c r ⟨1536 * (t.val % 12) + p.val, by omega⟩ * accbW m c t.val x ⟨1536 * (t.val % 12) + p.val, by omega⟩ := by
  rw [accbNew_at]
  refine congrArg (_ + ·) (Finset.sum_congr rfl fun p _ => ?_)
  rw [iblk6_at]
  have e : (hcRead (kc t) (HC m c)) (ix2 r p) = HC m c (ix2 r ⟨1536 * (t.val % 12) + p.val, by omega⟩) :=
    congrArg (fun k => HC m c (ix2 r k)) (Fin.ext (by show 1536 * (kc t).val + p.val = 1536 * (t.val % 12) + p.val; rw [kc_val]))
  rw [e]
  rfl
/-- After a chunk the accumulator is the product over the chunks so far. -/
theorem accb_val (c : Dev nD) (r : Fin 768) (x : Fin 512) : ∀ (n : ℕ) (hn : n < cfg0.N),
    (accbAt m c n hn (ix2 r x) : EReal) = dotN (accbL m c r) (accbW m c n x) (1536 * (n % 12 + 1)) := by
  intro n
  induction n using Nat.strong_induction_on with
  | _ n ih =>
    intro hn
    rw [dotN_step _ _ (n % 12) (Nat.mod_lt _ (by decide))]
    by_cases hz : n % 12 = 0
    · refine (congrFun (accbAt_reset m c ⟨n, hn⟩ hz) (ix2 r x)).trans ((accb_chunk m c ⟨n, hn⟩ _ r x).trans ?_)
      refine congrArg (· + _) ?_
      rw [pay33_at]
      show (0 : EReal) = dotN _ _ (1536 * (n % 12))
      rw [hz, Nat.mul_zero, dotN_zero]
    · refine (congrFun (accbAt_step m c ⟨n, hn⟩ hz) (ix2 r x)).trans ((accb_chunk m c ⟨n, hn⟩ _ r x).trans ?_)
      refine congrArg (· + _) ?_
      refine (ih (n - 1) (by omega) (by omega)).trans ?_
      have e1 : (n - 1) % 12 + 1 = n % 12 := by omega
      have e2 : (n - 1) / 12 = n / 12 := by omega
      unfold accbW
      rw [e1, e2]
/-- After the last chunk it is the whole product. -/
theorem accb_full (c : Dev nD) (r : Fin 768) (x : Fin 512) (t : Fin cfg0.N) (h : t.val % 12 = 11) :
    (accbAt m c t.val t.isLt (ix2 r x) : EReal) = ∑ k, accbL m c r k * accbW m c t.val x k := by
  rw [accb_val, h, dotN_full]
/-- The rows a product's chunks are taken from, and the columns. -/
def accqL (c : Dev nD) (r : Fin 512) (k : Fin 18432) : EReal := (FloatOps.sitofp (F := Ideal) FTy.bf16 (QC m c (ix2 r k)) : EReal)
/-- The weights of a column, by the grid point's column block. -/
def accqW (c : Dev nD) (n : ℕ) (x : Fin 512) (k : Fin 18432) : EReal := deq (A7 m c) (A9 m c) (A8 m c) k (col (n / 12) x)
/-- One more chunk of the product. -/
theorem accq_chunk (c : Dev nD) (t : Fin cfg0.N) (old : Vec Ideal S512x512 .f32) (r : Fin 512) (x : Fin 512) :
    (accqNew old (qcRead (kc t) (QC m c)) (DQ m c t) (ix2 r x) : EReal) = old (ix2 r x) + ∑ p : Fin 1536,
      accqL m c r ⟨1536 * (t.val % 12) + p.val, by omega⟩ * accqW m c t.val x ⟨1536 * (t.val % 12) + p.val, by omega⟩ := by
  rw [accqNew_at]
  refine congrArg (_ + ·) (Finset.sum_congr rfl fun p _ => ?_)
  rw [DQ_at]
  have e : (qcRead (kc t) (QC m c)) (ix2 r p) = QC m c (ix2 r ⟨1536 * (t.val % 12) + p.val, by omega⟩) :=
    congrArg (fun k => QC m c (ix2 r k)) (Fin.ext (by show 1536 * (kc t).val + p.val = 1536 * (t.val % 12) + p.val; rw [kc_val]))
  rw [e]
  rfl
/-- After a chunk the accumulator is the product over the chunks so far. -/
theorem accq_val (c : Dev nD) (r : Fin 512) (x : Fin 512) : ∀ (n : ℕ) (hn : n < cfg0.N),
    (accqAt m c n hn (ix2 r x) : EReal) = dotN (accqL m c r) (accqW m c n x) (1536 * (n % 12 + 1)) := by
  intro n
  induction n using Nat.strong_induction_on with
  | _ n ih =>
    intro hn
    rw [dotN_step _ _ (n % 12) (Nat.mod_lt _ (by decide))]
    by_cases hz : n % 12 = 0
    · refine (congrFun (accqAt_reset m c ⟨n, hn⟩ hz) (ix2 r x)).trans ((accq_chunk m c ⟨n, hn⟩ _ r x).trans ?_)
      refine congrArg (· + _) ?_
      rw [pay34_at]
      show (0 : EReal) = dotN _ _ (1536 * (n % 12))
      rw [hz, Nat.mul_zero, dotN_zero]
    · refine (congrFun (accqAt_step m c ⟨n, hn⟩ hz) (ix2 r x)).trans ((accq_chunk m c ⟨n, hn⟩ _ r x).trans ?_)
      refine congrArg (· + _) ?_
      refine (ih (n - 1) (by omega) (by omega)).trans ?_
      have e1 : (n - 1) % 12 + 1 = n % 12 := by omega
      have e2 : (n - 1) / 12 = n / 12 := by omega
      unfold accqW
      rw [e1, e2]
/-- After the last chunk it is the whole product. -/
theorem accq_full (c : Dev nD) (r : Fin 512) (x : Fin 512) (t : Fin cfg0.N) (h : t.val % 12 = 11) :
    (accqAt m c t.val t.isLt (ix2 r x) : EReal) = ∑ k, accqL m c r k * accqW m c t.val x k := by
  rw [accq_val, h, dotN_full]

/-! ## The outputs of a column block, at its last chunk -/

/-- The summands of the errors, of this call's arguments. -/
def TT (c : Dev nD) : Fin 5 → Fin 256 → Fin 7168 → EReal :=
  tt (A0 m c) (A1 m c) (A2 m c) (A3 m c) (FS m c) (RS m c) (A6 m c) (A7 m c) (A8 m c) (A9 m c)
/-- A third of the reference products' accumulator, at the last chunk. -/
theorem B0_val (c : Dev nD) (t : Fin cfg0.N) (h : t.val % 12 = 11) (i : Fin 256) (x : Fin 512) :
    (B0 (accbAt m c t.val t.isLt) (ix2 i x) : EReal) = yref (A1 m c) (A6 m c) i (col (t.val / 12) x) := by
  refine Eq.trans (accb_full m c ⟨0 + i.val, by omega⟩ x t h) ?_
  unfold yref rdot
  refine Finset.sum_congr rfl fun k _ => ?_
  unfold accbL accbW
  rw [HC_lo]
/-- A third of the reference products' accumulator, at the last chunk. -/
theorem B1_val (c : Dev nD) (t : Fin cfg0.N) (h : t.val % 12 = 11) (i : Fin 256) (x : Fin 512) :
    (B1 (accbAt m c t.val t.isLt) (ix2 i x) : EReal) = yvar (A2 m c) (A6 m c) i (col (t.val / 12) x) := by
  refine Eq.trans (accb_full m c ⟨256 + i.val, by omega⟩ x t h) ?_
  unfold yvar rdot
  refine Finset.sum_congr rfl fun k _ => ?_
  unfold accbL accbW
  rw [HC_mid]
/-- A third of the reference products' accumulator, at the last chunk. -/
theorem B2_val (c : Dev nD) (t : Fin cfg0.N) (h : t.val % 12 = 11) (i : Fin 256) (x : Fin 512) :
    (B2 (accbAt m c t.val t.isLt) (ix2 i x) : EReal) = yvar (A3 m c) (A6 m c) i (col (t.val / 12) x) := by
  refine Eq.trans (accb_full m c ⟨512 + i.val, by omega⟩ x t h) ?_
  unfold yvar rdot
  refine Finset.sum_congr rfl fun k _ => ?_
  unfold accbL accbW
  rw [HC_hi]
/-- A half of the quantised products' accumulator, at the last chunk. -/
theorem Q0_val (c : Dev nD) (t : Fin cfg0.N) (h : t.val % 12 = 11) (i : Fin 256) (x : Fin 512) :
    (Q0 (accqAt m c t.val t.isLt) (ix2 i x) : EReal) * FS m c (ix2 i 0) = qproj (codes (A0 m c) (FS m c)) (FS m c) (A7 m c) (A9 m c) (A8 m c) i (col (t.val / 12) x) := by
  unfold qproj
  refine congrArg (· * (FS m c (ix2 i 0) : EReal)) ?_
  refine Eq.trans (accq_full m c ⟨0 + i.val, by omega⟩ x t h) ?_
  rw [← sum_deq]
  refine Finset.sum_congr rfl fun k _ => ?_
  unfold accqL accqW
  rw [QC_lo]
/-- A half of the quantised products' accumulator, at the last chunk. -/
theorem Q1_val (c : Dev nD) (t : Fin cfg0.N) (h : t.val % 12 = 11) (i : Fin 256) (x : Fin 512) :
    (Q1 (accqAt m c t.val t.isLt) (ix2 i x) : EReal) * RS m c (ix2 i 0) = qproj (codes (A1 m c) (RS m c)) (RS m c) (A7 m c) (A9 m c) (A8 m c) i (col (t.val / 12) x) := by
  unfold qproj
  refine congrArg (· * (RS m c (ix2 i 0) : EReal)) ?_
  refine Eq.trans (accq_full m c ⟨256 + i.val, by omega⟩ x t h) ?_
  rw [← sum_deq]
  refine Finset.sum_congr rfl fun k _ => ?_
  unfold accqL accqW
  rw [QC_hi]
/-- A token accumulator after point `n` holds the lane's sum over the finished column blocks. -/
theorem tok_val (c : Dev nD) (k : Fin 5) (i : Fin 256) (l : Fin 128) : ∀ (n : ℕ) (hn : n < cfg0.N),
    (tokAt m c n hn (ix3 k i l) : EReal) = ∑ b ∈ Finset.range ((n + 1) / 12), lane4 (TT m c k i) b l
  | 0, hn => by
    refine (congrFun (tokAt_zero m c ⟨0, hn⟩ rfl) (ix3 k i l)).trans ?_
    rw [pay30_at]
    exact (Finset.sum_range_zero _).symm
  | n + 1, hn => by
    have ih := tok_val c k i l n (by omega)
    by_cases h : (n + 1) % 12 = 11
    · refine (congrFun (tokAt_new m c ⟨n + 1, hn⟩ h) (ix3 k i l)).trans ?_
      rw [show (n + 1 + 1) / 12 = (n + 1) / 12 + 1 by omega, Finset.sum_range_succ, ← ih]
      exact tokNew_at (b := (n + 1) / 12) (B0_val m c ⟨n + 1, hn⟩ h) (B1_val m c ⟨n + 1, hn⟩ h) (B2_val m c ⟨n + 1, hn⟩ h) (Q0_val m c ⟨n + 1, hn⟩ h) (Q1_val m c ⟨n + 1, hn⟩ h) _ k i l
    · refine (congrFun (tokAt_keep m c ⟨n + 1, hn⟩ (Nat.succ_ne_zero n) h) (ix3 k i l)).trans ?_
      rw [show (n + 1 + 1) / 12 = (n + 1) / 12 by omega]
      exact ih
/-- After the last point the lanes add up to the sum over all columns. -/
theorem tok_last (c : Dev nD) (k : Fin 5) (i : Fin 256) (hn : 167 < cfg0.N) :
    ∑ l : Fin 128, (tokAt m c 167 hn (ix3 k i l) : EReal) = ∑ j, TT m c k i j := by
  simp only [tok_val]
  exact sum_lanes _
/-- The errors per column at the last chunk of a column block. -/
theorem ec_val (c : Dev nD) (t : Fin cfg0.N) (h : t.val % 12 = 11) (k : Fin 4) (x : Fin 512) :
    (ecNew (accbAt m c t.val t.isLt) (accqAt m c t.val t.isLt) (FS m c) (RS m c) (ix2 k x) : EReal) = ∑ i : Fin 256, TT m c ⟨k.val, by omega⟩ i (col (t.val / 12) x) :=
  ecNew_at (b := t.val / 12) (B0_val m c t h) (B1_val m c t h) (B2_val m c t h) (Q0_val m c t h) (Q1_val m c t h) k x

end Cert.DownIdeal.Gen

end
-- ==== Proof.DownValue.lean ====
/- The down call's arrays after the run, as the stated values of the arguments. -/
module

public import proofs.«01_k».proof.Proof.DownCols

@[expose] public section

set_option maxRecDepth 16384

noncomputable section

namespace Cert.DownIdeal.Gen

open Idealize.ShloMosaic Idealize.ShloMosaic.TcCoe Idealize.ShloMosaic.Tactic

open Cert.DownSpec

/-- An index of a matrix is its two coordinates. -/
theorem ix2_of_vals (y : AF.Idx) (i : Fin 256) (k : Fin 18432) (h0 : i.val = (y 0).val) (h1 : k.val = (y 1).val) : (ix2 i k : AF.Idx) = y := by
  funext d; fin_cases d
  · exact Fin.ext h0
  · exact Fin.ext h1

variable (m : (ℓ : Loc nD τ sig) → Buf (Elt Ideal) ℓ) (ρ : Dev nD → PrngReg)

/-! ## The arrays after the run -/

/-- The last grid point. -/
def tL : Fin cfg0.N := ⟨167, by have := N168; omega⟩
/-- The summands by the arguments. -/
theorem TT_eq (c : Dev nD) : TT m c = tt (A0 m c) (A1 m c) (A2 m c) (A3 m c) (k0_pay28 (A4 m c)) (k0_pay29 (A5 m c)) (A6 m c) (A7 m c) (A8 m c) (A9 m c) := by unfold TT; rw [FS_eq, RS_eq]
/-- An output that its flushes write only at the last chunk of a column block. -/
theorem last12 (t : Fin cfg0.N) (h : (cfg0.win 12).flush t = true) : t.val % 12 = 11 := by
  by_contra hc; rw [noFlush0_12 t hc] at h; cases h
/-- The same for the reference output. -/
theorem last13 (t : Fin cfg0.N) (h : (cfg0.win 13).flush t = true) : t.val % 12 = 11 := by
  by_contra hc; rw [noFlush0_13 t hc] at h; cases h
/-- The token errors' array. -/
theorem final10 (c : Dev nD) : (dats m 0 c).arrAt 10 cfg0.N = (resET (A0 m c) (A1 m c) (A2 m c) (A3 m c) (k0_pay28 (A4 m c)) (k0_pay29 (A5 m c)) (A6 m c) (A7 m c) (A8 m c) (A9 m c) : Vec Ideal ⟨3, ![4, 256, 1]⟩ .f32) := by
  refine (dats m 0 c).arrAt_eq_of_after_last 10 tL (by decide +kernel) _ fun j => ?_
  blk_simp
  rw [after0_10]
  idx_vars j
  refine (etNew_at _ _ _ _).trans ((tok_last m c _ _ _).trans ?_)
  rw [TT_eq]
  rfl
/-- The token signals' array. -/
theorem final11 (c : Dev nD) : (dats m 0 c).arrAt 11 cfg0.N = (resST (A0 m c) (A1 m c) (A2 m c) (A3 m c) (k0_pay28 (A4 m c)) (k0_pay29 (A5 m c)) (A6 m c) (A7 m c) (A8 m c) (A9 m c) : Vec Ideal AS .f32) := by
  refine (dats m 0 c).arrAt_eq_of_after_last 11 tL (by decide +kernel) _ fun j => ?_
  blk_simp
  rw [after0_11]
  idx_vars j
  refine (stNew_at _ _ _).trans ((tok_last m c _ _ _).trans ?_)
  rw [TT_eq]
  rfl
/-- The column errors' array. -/
theorem final12 (c : Dev nD) : (dats m 0 c).arrAt 12 cfg0.N = (resEC (A0 m c) (A1 m c) (A2 m c) (A3 m c) (k0_pay28 (A4 m c)) (k0_pay29 (A5 m c)) (A6 m c) (A7 m c) (A8 m c) (A9 m c) : Vec Ideal ⟨2, ![4, 7168]⟩ .f32) := by
  refine (dats m 0 c).arrAt_eq_of_covers 12 _ (by decide +kernel) fun t hfl y => ?_
  have hN := t_lt t
  blk_simp
  rw [after0_12]
  idx_vars y
  refine (ec_val m c t (last12 t hfl) _ _).trans ?_
  rw [TT_eq]
  unfold resEC
  refine Finset.sum_congr rfl fun i _ => ?_
  refine congr (congrArg (fun k => tt (A0 m c) (A1 m c) (A2 m c) (A3 m c) (k0_pay28 (A4 m c)) (k0_pay29 (A5 m c)) (A6 m c) (A7 m c) (A8 m c) (A9 m c) k i) ?_) ?_
  · apply Fin.ext; blk_simp [idx_at t]; try omega
  · apply Fin.ext; unfold col; blk_simp [idx_at t]; show t.val / 12 % 14 * 512 + y1.val = _; omega
/-- The reference output's array. -/
theorem final13 (c : Dev nD) : (dats m 0 c).arrAt 13 cfg0.N = (resY (A1 m c) (A6 m c) : Vec Ideal ⟨2, ![256, 7168]⟩ .bf16) := by
  refine (dats m 0 c).arrAt_eq_of_covers 13 _ (by decide +kernel) fun t hfl y => ?_
  have hN := t_lt t
  blk_simp
  rw [after0_13]
  idx_vars y
  refine Eq.trans (b := (B0 (accbAt m c t.val t.isLt) (ix2 y0 y1) : EReal)) (by pointwise [k0_pay13]) ((B0_val m c t (last13 t hfl) _ _).trans ?_)
  unfold resY
  refine congrArg₂ (yref (A1 m c) (A6 m c)) ?_ ?_
  · apply Fin.ext; blk_simp [idx_at t]; try omega
  · apply Fin.ext; unfold col; blk_simp [idx_at t]; show t.val / 12 % 14 * 512 + y1.val = _; omega
/-- The codes of `h_full`'s array. -/
theorem final14 (c : Dev nD) : (dats m 0 c).arrAt 14 cfg0.N = (codes (A0 m c) (k0_pay28 (A4 m c)) : Vec Ideal AF .i8) := by
  refine (dats m 0 c).arrAt_eq_of_covers 14 _ (by decide +kernel) fun t hfl y => ?_
  have hN := t_lt t
  have hK : (tK t.val).val = min t.val 11 := rfl
  blk_simp
  rw [after0_14]
  idx_vars y
  unfold fcAt
  refine (pay11_at _ _ _ _).trans ?_
  rw [iblk0_at m c _ (by omega), FS_eq]
  refine congrArg₂ code (congrArg (A0 m c) ?_) (congrArg (k0_pay28 (A4 m c)) (congrArg (fun i => ix2 i 0) ?_))
  · refine ix2_of_vals _ _ _ ?_ ?_
    · blk_simp [idx_at t]; try omega
    · blk_simp [idx_at t]; show (tK t.val).val * 1536 + y1.val = _; omega
  · apply Fin.ext; blk_simp [idx_at t]; try omega
/-- The codes of `h_ref`'s array. -/
theorem final16 (c : Dev nD) : (dats m 0 c).arrAt 16 cfg0.N = (codes (A1 m c) (k0_pay29 (A5 m c)) : Vec Ideal AF .i8) := by
  refine (dats m 0 c).arrAt_eq_of_covers 16 _ (by decide +kernel) fun t hfl y => ?_
  have hN := t_lt t
  have hK : (tK t.val).val = min t.val 11 := rfl
  blk_simp
  rw [after0_16]
  idx_vars y
  unfold rcAt
  refine (pay12_at _ _ _ _).trans ?_
  rw [iblk1_at m c _ (by omega), RS_eq]
  refine congrArg₂ code (congrArg (A1 m c) ?_) (congrArg (k0_pay29 (A5 m c)) (congrArg (fun i => ix2 i 0) ?_))
  · refine ix2_of_vals _ _ _ ?_ ?_
    · blk_simp [idx_at t]; try omega
    · blk_simp [idx_at t]; show (tK t.val).val * 1536 + y1.val = _; omega
  · apply Fin.ext; blk_simp [idx_at t]; try omega
/-- Their scales' array. -/
theorem final15 (c : Dev nD) : (dats m 0 c).arrAt 15 cfg0.N = ((k0_pay28 (A4 m c)) : Vec Ideal AS .f32) := by
  refine (dats m 0 c).arrAt_eq_of_after_last 15 tL (by decide +kernel) _ fun j => ?_
  blk_simp
  rw [after0_15, FS_eq]
/-- Their scales' array. -/
theorem final17 (c : Dev nD) : (dats m 0 c).arrAt 17 cfg0.N = ((k0_pay29 (A5 m c)) : Vec Ideal AS .f32) := by
  refine (dats m 0 c).arrAt_eq_of_after_last 17 tL (by decide +kernel) _ fun j => ?_
  blk_simp
  rw [after0_17, RS_eq]

end Cert.DownIdeal.Gen

end
-- ==== Proof.DownRun.lean ====
/- The down call's run, its results at their stated values. -/
module

public import proofs.«01_k».proof.Proof.DownValue
public import Idealize.ShloMosaic.Lib.Claim

@[expose] public section

set_option maxRecDepth 16384

noncomputable section

namespace Cert.DownIdeal.Gen

open Idealize.ShloMosaic Idealize.ShloMosaic.TcCoe Idealize.ShloMosaic.Tactic

open Cert.DownSpec Idealize.SL.Sem

variable (m : (ℓ : Loc nD τ sig) → Buf (Elt Ideal) ℓ) (ρ : Dev nD → PrngReg)

/-- The run: every result at its stated value. -/
theorem run_values : θ_run defs (onTc (τ := τ) (main (F := Ideal))) ⟨m, fun _ => 0, ρ⟩ (fun r => ∀ c : Dev nD,
      r.2.mem ((c.tc : Thread nD τ).loc main_v2_0) = (resET (A0 m c) (A1 m c) (A2 m c) (A3 m c) (k0_pay28 (A4 m c)) (k0_pay29 (A5 m c)) (A6 m c) (A7 m c) (A8 m c) (A9 m c) : Vec Ideal ⟨3, ![4, 256, 1]⟩ .f32) ∧
      r.2.mem ((c.tc : Thread nD τ).loc main_v2_1) = (resST (A0 m c) (A1 m c) (A2 m c) (A3 m c) (k0_pay28 (A4 m c)) (k0_pay29 (A5 m c)) (A6 m c) (A7 m c) (A8 m c) (A9 m c) : Vec Ideal AS .f32) ∧
      r.2.mem ((c.tc : Thread nD τ).loc main_v2_2) = (resEC (A0 m c) (A1 m c) (A2 m c) (A3 m c) (k0_pay28 (A4 m c)) (k0_pay29 (A5 m c)) (A6 m c) (A7 m c) (A8 m c) (A9 m c) : Vec Ideal ⟨2, ![4, 7168]⟩ .f32) ∧
      r.2.mem ((c.tc : Thread nD τ).loc main_v2_3) = (resY (A1 m c) (A6 m c) : Vec Ideal ⟨2, ![256, 7168]⟩ .bf16) ∧
      r.2.mem ((c.tc : Thread nD τ).loc main_v2_4) = (codes (A0 m c) (k0_pay28 (A4 m c)) : Vec Ideal AF .i8) ∧
      r.2.mem ((c.tc : Thread nD τ).loc main_v2_5) = ((k0_pay28 (A4 m c)) : Vec Ideal AS .f32) ∧
      r.2.mem ((c.tc : Thread nD τ).loc main_v2_6) = (codes (A1 m c) (k0_pay29 (A5 m c)) : Vec Ideal AF .i8) ∧
      r.2.mem ((c.tc : Thread nD τ).loc main_v2_7) = ((k0_pay29 (A5 m c)) : Vec Ideal AS .f32)) :=
  (θ_run defs _ _).mono (fun r h c => ⟨((h c).1 10).trans (final10 m c), ((h c).1 11).trans (final11 m c), ((h c).1 12).trans (final12 m c), ((h c).1 13).trans (final13 m c), ((h c).1 14).trans (final14 m c), ((h c).1 15).trans (final15 m c), ((h c).1 16).trans (final16 m c), ((h c).1 17).trans (final17 m c)⟩) (run_main m ρ)
/-- And every argument as it was. -/
theorem run : θ_run defs (onTc (τ := τ) (main (F := Ideal))) ⟨m, fun _ => 0, ρ⟩ (fun r => ∀ c : Dev nD,
      r.2.mem ((c.tc : Thread nD τ).loc main_v2_0) = (resET (A0 m c) (A1 m c) (A2 m c) (A3 m c) (k0_pay28 (A4 m c)) (k0_pay29 (A5 m c)) (A6 m c) (A7 m c) (A8 m c) (A9 m c) : Vec Ideal ⟨3, ![4, 256, 1]⟩ .f32) ∧
      r.2.mem ((c.tc : Thread nD τ).loc main_v2_1) = (resST (A0 m c) (A1 m c) (A2 m c) (A3 m c) (k0_pay28 (A4 m c)) (k0_pay29 (A5 m c)) (A6 m c) (A7 m c) (A8 m c) (A9 m c) : Vec Ideal AS .f32) ∧
      r.2.mem ((c.tc : Thread nD τ).loc main_v2_2) = (resEC (A0 m c) (A1 m c) (A2 m c) (A3 m c) (k0_pay28 (A4 m c)) (k0_pay29 (A5 m c)) (A6 m c) (A7 m c) (A8 m c) (A9 m c) : Vec Ideal ⟨2, ![4, 7168]⟩ .f32) ∧
      r.2.mem ((c.tc : Thread nD τ).loc main_v2_3) = (resY (A1 m c) (A6 m c) : Vec Ideal ⟨2, ![256, 7168]⟩ .bf16) ∧
      r.2.mem ((c.tc : Thread nD τ).loc main_v2_4) = (codes (A0 m c) (k0_pay28 (A4 m c)) : Vec Ideal AF .i8) ∧
      r.2.mem ((c.tc : Thread nD τ).loc main_v2_5) = ((k0_pay28 (A4 m c)) : Vec Ideal AS .f32) ∧
      r.2.mem ((c.tc : Thread nD τ).loc main_v2_6) = (codes (A1 m c) (k0_pay29 (A5 m c)) : Vec Ideal AF .i8) ∧
      r.2.mem ((c.tc : Thread nD τ).loc main_v2_7) = ((k0_pay29 (A5 m c)) : Vec Ideal AS .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9)) :=
  (θ_run defs _ _).mono (fun r h c => by
    obtain ⟨h0, h1, h2, h3, h4, h5, h6, h7⟩ := h.1 c
    exact ⟨h0, h1, h2, h3, h4, h5, h6, h7, h.2 c⟩) (θ_run_and (run_values m ρ) (unchanged m ρ))

end Cert.DownIdeal.Gen

end
-- ==== Proof.DownRefPoint.lean ====
/- The down reference at an element: what it stores is the stated value of the arguments. -/
module

public import proofs.«01_k».proof.Proof.Gen.DownRefIdeal.Frame
public import proofs.«01_k».proof.Proof.DownSpec
public import Idealize.ShloMosaic.Lib.Pointwise
public import Idealize.ShloMosaic.Lib.Pipeline.ValueKit

@[expose] public section

set_option maxRecDepth 16384

noncomputable section

namespace Cert.DownRefIdeal.Gen

open Idealize.ShloMosaic Idealize.ShloMosaic.TcCoe Idealize.ShloMosaic.Tactic

open Cert.DownSpec

/-! ## The stored vectors at an element -/

variable (x0 : Vec Ideal S256x18432 .f32) (x1 : Vec Ideal S256x18432 .f32) (x2 : Vec Ideal S256x18432 .bf16) (x3 : Vec Ideal S256x18432 .bf16)
  (x4 : Vec Ideal S256x128 .f32) (x5 : Vec Ideal S256x128 .f32) (x6 : Vec Ideal S18432x7168 .bf16) (x7 : Vec Ideal S9216x7168 .i8)
  (x8 : Vec Ideal S144x7168 .f32) (x9 : Vec Ideal S144x7168 .i8) (i : Fin 256) (j : Fin 7168)

/-- The tokens' scales of `h_full` and of `h_ref`. -/
def fsc : Vec Ideal S256x1 .f32 := k0_pay9 (k0_pay7 x4) (k0_pay8 x4) (Scalar.ofBits .f32 0x3F800000#32)
/-- The tokens' scales of `h_ref`. -/
def rsc : Vec Ideal S256x1 .f32 := k0_pay14 x5
/-- The codes. -/
theorem fcode_gen (v : IVec S256x1 1) (w : FVec Ideal S256x1 .f32) (o : Ideal .f32) (k : Fin 18432) :
    k0_pay10 x0 v w o (ix2 i k) = codes x0 (k0_pay9 v w o) (ix2 i k) := by
  pointwise [k0_pay10]
  rfl
/-- A stored code is the quantiser's. -/
theorem fcode_at (k : Fin 18432) : k0_pay10 x0 (k0_pay7 x4) (k0_pay8 x4) (Scalar.ofBits .f32 0x3F800000#32) (ix2 i k) = codes x0 (fsc x4) (ix2 i k) :=
  fcode_gen _ _ _ _ _ _
/-- A stored code is the quantiser's. -/
theorem rcode_at (k : Fin 18432) : k0_pay16 (Scalar.ofBits .f32 0x42FE0000#32) (k0_pay15 x1 x5) (ix2 i k) = codes x1 (rsc x5) (ix2 i k) := by
  pointwise [k0_pay16, k0_pay15]
  rfl
/-- The reference output. -/
theorem y_at : (k0_pay5 x6 x1 (ix2 i j) : EReal) = yref x1 x6 i j := by
  pointwise [k0_pay5]
  rfl
/-- A mixed output. -/
theorem y1_at : (k0_pay12 x6 x2 (ix2 i j) : EReal) = yvar x2 x6 i j := by
  pointwise [k0_pay12]
  rfl
/-- A mixed output. -/
theorem y2_at : (k0_pay13 x6 x3 (ix2 i j) : EReal) = yvar x3 x6 i j := by
  pointwise [k0_pay13]
  rfl
/-- A dequantised nibble. -/
theorem lo_at (p : Fin 9216) : (k0_pay3 x7 x8 x9 (ix2 p j) : EReal) = lo x7 x9 x8 p j := by
  unfold lo
  pointwise [k0_pay3, k0_pay1, k0_pay2]
/-- A dequantised nibble. -/
theorem hi_at (p : Fin 9216) : (k0_pay4 x7 x8 x9 (ix2 p j) : EReal) = hi x7 x9 x8 p j := by
  unfold hi
  pointwise [k0_pay4, k0_pay1, k0_pay2]
/-- The quantised product, for any scale. -/
theorem y0_gen (v : IVec S256x1 1) (w : FVec Ideal S256x1 .f32) (o : Ideal .f32) : (k0_pay11 (k0_pay3 x7 x8 x9) (k0_pay4 x7 x8 x9) x0 v w o (ix2 i j) : EReal)
    = qproj (codes x0 (k0_pay9 v w o)) (k0_pay9 v w o) x7 x9 x8 i j := by
  pointwise [k0_pay11]
  simp only [fcode_gen, lo_at, hi_at]
  rfl
/-- A quantised output. -/
theorem y0_at : (k0_pay11 (k0_pay3 x7 x8 x9) (k0_pay4 x7 x8 x9) x0 (k0_pay7 x4) (k0_pay8 x4) (Scalar.ofBits .f32 0x3F800000#32) (ix2 i j) : EReal)
    = qproj (codes x0 (fsc x4)) (fsc x4) x7 x9 x8 i j := y0_gen _ _ _ _ _ _ _ _ _
/-- A quantised output. -/
theorem y3_at : (k0_pay17 (k0_pay3 x7 x8 x9) (k0_pay4 x7 x8 x9) (k0_pay14 x5) (Scalar.ofBits .f32 0x42FE0000#32) (k0_pay15 x1 x5) (ix2 i j) : EReal)
    = qproj (codes x1 (rsc x5)) (rsc x5) x7 x9 x8 i j := by
  pointwise [k0_pay17]
  simp only [rcode_at, lo_at, hi_at]
  rfl
/-- The shared value 33, without its whole-array reads. -/
theorem p33_eq : k0_pay33 x0 x1 x2 x3 x4 x5 x6 x7 x8 x9 = k0_pay3 x7 x8 x9 := by
  unfold k0_pay33
  frame_out

/-- The shared value 34, without its whole-array reads. -/
theorem p34_eq : k0_pay34 x0 x1 x2 x3 x4 x5 x6 x7 x8 x9 = k0_pay4 x7 x8 x9 := by
  unfold k0_pay34
  frame_out

/-- The shared value 35, without its whole-array reads. -/
theorem p35_eq : k0_pay35 x0 x1 x2 x3 x4 x5 x6 x7 x8 x9 = k0_pay5 x6 x1 := by
  unfold k0_pay35
  frame_out

/-- The shared value 36, without its whole-array reads. -/
theorem p36_eq : k0_pay36 x0 x1 x2 x3 x4 x5 x6 x7 x8 x9 = k0_pay7 x4 := by
  unfold k0_pay36
  frame_out

/-- The shared value 37, without its whole-array reads. -/
theorem p37_eq : k0_pay37 x0 x1 x2 x3 x4 x5 x6 x7 x8 x9 = k0_pay8 x4 := by
  unfold k0_pay37
  frame_out

/-- The shared value 38, without its whole-array reads. -/
theorem p38_eq : k0_pay38 x0 x1 x2 x3 x4 x5 x6 x7 x8 x9 = k0_pay11 (k0_pay3 x7 x8 x9) (k0_pay4 x7 x8 x9) x0 (k0_pay7 x4) (k0_pay8 x4) (Scalar.ofBits .f32 0x3F800000#32) := by
  unfold k0_pay38
  rw [p33_eq, p34_eq, p36_eq, p37_eq]
  frame_out
/-- The shared value 39, without its whole-array reads. -/
theorem p39_eq : k0_pay39 x0 x1 x2 x3 x4 x5 x6 x7 x8 x9 = k0_pay12 x6 x2 := by
  unfold k0_pay39
  frame_out

/-- The shared value 40, without its whole-array reads. -/
theorem p40_eq : k0_pay40 x0 x1 x2 x3 x4 x5 x6 x7 x8 x9 = k0_pay13 x6 x3 := by
  unfold k0_pay40
  frame_out

/-- The shared value 41, without its whole-array reads. -/
theorem p41_eq : k0_pay41 x0 x1 x2 x3 x4 x5 x6 x7 x8 x9 = k0_pay14 x5 := by
  unfold k0_pay41
  frame_out

/-- The shared value 42, without its whole-array reads. -/
theorem p42_eq : k0_pay42 x0 x1 x2 x3 x4 x5 x6 x7 x8 x9 = k0_pay15 x1 x5 := by
  unfold k0_pay42
  frame_out

/-- The shared value 43, without its whole-array reads. -/
theorem p43_eq : k0_pay43 x0 x1 x2 x3 x4 x5 x6 x7 x8 x9 = k0_pay17 (k0_pay3 x7 x8 x9) (k0_pay4 x7 x8 x9) (k0_pay14 x5) (Scalar.ofBits .f32 0x42FE0000#32) (k0_pay15 x1 x5) := by
  unfold k0_pay43
  rw [p33_eq, p34_eq, p41_eq, p42_eq]

/-! ## The stated sums, variant by variant -/

/-- The stated error sum of variant 0. -/
theorem resET_0 (fs rs : Vec Ideal AS .f32) (k : Fin 4) (z : Fin 1) (hk : k.val = 0) :
    (resET x0 x1 x2 x3 fs rs x6 x7 x8 x9 (ix3 k i z) : EReal) = ∑ j : Fin 7168, DownSpec.sq (qproj (codes x0 fs) fs x7 x9 x8 i j) (yref x1 x6 i j) := by
  unfold resET tt term
  refine Finset.sum_congr rfl fun j _ => ?_
  show (if k.val = 0 then _ else if k.val = 1 then _ else if k.val = 2 then _ else if k.val = 3 then _ else _) = _
  rw [if_pos hk]
  rfl
/-- The stated error sum of variant 0. -/
theorem resEC_0 (fs rs : Vec Ideal AS .f32) (k : Fin 4)  (hk : k.val = 0) :
    (resEC x0 x1 x2 x3 fs rs x6 x7 x8 x9 (ix2 k j) : EReal) = ∑ i : Fin 256, DownSpec.sq (qproj (codes x0 fs) fs x7 x9 x8 i j) (yref x1 x6 i j) := by
  unfold resEC tt term
  refine Finset.sum_congr rfl fun i _ => ?_
  show (if k.val = 0 then _ else if k.val = 1 then _ else if k.val = 2 then _ else if k.val = 3 then _ else _) = _
  rw [if_pos hk]
  rfl
/-- The stated error sum of variant 1. -/
theorem resET_1 (fs rs : Vec Ideal AS .f32) (k : Fin 4) (z : Fin 1) (hk : k.val = 1) :
    (resET x0 x1 x2 x3 fs rs x6 x7 x8 x9 (ix3 k i z) : EReal) = ∑ j : Fin 7168, DownSpec.sq (yvar x2 x6 i j) (yref x1 x6 i j) := by
  unfold resET tt term
  refine Finset.sum_congr rfl fun j _ => ?_
  show (if k.val = 0 then _ else if k.val = 1 then _ else if k.val = 2 then _ else if k.val = 3 then _ else _) = _
  rw [if_neg (show ¬ ((k.val : ℕ) = 0) by omega), if_pos hk]
  rfl
/-- The stated error sum of variant 1. -/
theorem resEC_1 (fs rs : Vec Ideal AS .f32) (k : Fin 4)  (hk : k.val = 1) :
    (resEC x0 x1 x2 x3 fs rs x6 x7 x8 x9 (ix2 k j) : EReal) = ∑ i : Fin 256, DownSpec.sq (yvar x2 x6 i j) (yref x1 x6 i j) := by
  unfold resEC tt term
  refine Finset.sum_congr rfl fun i _ => ?_
  show (if k.val = 0 then _ else if k.val = 1 then _ else if k.val = 2 then _ else if k.val = 3 then _ else _) = _
  rw [if_neg (show ¬ ((k.val : ℕ) = 0) by omega), if_pos hk]
  rfl
/-- The stated error sum of variant 2. -/
theorem resET_2 (fs rs : Vec Ideal AS .f32) (k : Fin 4) (z : Fin 1) (hk : k.val = 2) :
    (resET x0 x1 x2 x3 fs rs x6 x7 x8 x9 (ix3 k i z) : EReal) = ∑ j : Fin 7168, DownSpec.sq (yvar x3 x6 i j) (yref x1 x6 i j) := by
  unfold resET tt term
  refine Finset.sum_congr rfl fun j _ => ?_
  show (if k.val = 0 then _ else if k.val = 1 then _ else if k.val = 2 then _ else if k.val = 3 then _ else _) = _
  rw [if_neg (show ¬ ((k.val : ℕ) = 0) by omega), if_neg (show ¬ ((k.val : ℕ) = 1) by omega), if_pos hk]
  rfl
/-- The stated error sum of variant 2. -/
theorem resEC_2 (fs rs : Vec Ideal AS .f32) (k : Fin 4)  (hk : k.val = 2) :
    (resEC x0 x1 x2 x3 fs rs x6 x7 x8 x9 (ix2 k j) : EReal) = ∑ i : Fin 256, DownSpec.sq (yvar x3 x6 i j) (yref x1 x6 i j) := by
  unfold resEC tt term
  refine Finset.sum_congr rfl fun i _ => ?_
  show (if k.val = 0 then _ else if k.val = 1 then _ else if k.val = 2 then _ else if k.val = 3 then _ else _) = _
  rw [if_neg (show ¬ ((k.val : ℕ) = 0) by omega), if_neg (show ¬ ((k.val : ℕ) = 1) by omega), if_pos hk]
  rfl
/-- The stated error sum of variant 3. -/
theorem resET_3 (fs rs : Vec Ideal AS .f32) (k : Fin 4) (z : Fin 1) (hk : k.val = 3) :
    (resET x0 x1 x2 x3 fs rs x6 x7 x8 x9 (ix3 k i z) : EReal) = ∑ j : Fin 7168, DownSpec.sq (qproj (codes x1 rs) rs x7 x9 x8 i j) (yref x1 x6 i j) := by
  unfold resET tt term
  refine Finset.sum_congr rfl fun j _ => ?_
  show (if k.val = 0 then _ else if k.val = 1 then _ else if k.val = 2 then _ else if k.val = 3 then _ else _) = _
  rw [if_neg (show ¬ ((k.val : ℕ) = 0) by omega), if_neg (show ¬ ((k.val : ℕ) = 1) by omega), if_neg (show ¬ ((k.val : ℕ) = 2) by omega), if_pos hk]
  rfl
/-- The stated error sum of variant 3. -/
theorem resEC_3 (fs rs : Vec Ideal AS .f32) (k : Fin 4)  (hk : k.val = 3) :
    (resEC x0 x1 x2 x3 fs rs x6 x7 x8 x9 (ix2 k j) : EReal) = ∑ i : Fin 256, DownSpec.sq (qproj (codes x1 rs) rs x7 x9 x8 i j) (yref x1 x6 i j) := by
  unfold resEC tt term
  refine Finset.sum_congr rfl fun i _ => ?_
  show (if k.val = 0 then _ else if k.val = 1 then _ else if k.val = 2 then _ else if k.val = 3 then _ else _) = _
  rw [if_neg (show ¬ ((k.val : ℕ) = 0) by omega), if_neg (show ¬ ((k.val : ℕ) = 1) by omega), if_neg (show ¬ ((k.val : ℕ) = 2) by omega), if_pos hk]
  rfl

/-! ## The sums of squares -/

/-- A variant's squared errors summed over the columns. -/
theorem et19_at (y w : FVec Ideal S256x7168 .f32) (u : Fin 1) (z : Fin 1) :
    (k0_pay19 y w (ix3 u i z) : EReal) = ∑ j : Fin 7168, DownSpec.sq (w (ix2 i j)) (y (ix2 i j)) := by
  pointwise [k0_pay19, k0_pay18]
  rfl
/-- A variant's squared errors summed over the columns. -/
theorem et22_at (y w : FVec Ideal S256x7168 .f32) (u : Fin 1) (z : Fin 1) :
    (k0_pay22 y w (ix3 u i z) : EReal) = ∑ j : Fin 7168, DownSpec.sq (w (ix2 i j)) (y (ix2 i j)) := by
  pointwise [k0_pay22, k0_pay21]
  rfl
/-- A variant's squared errors summed over the columns. -/
theorem et29_at (y w : FVec Ideal S256x7168 .f32) (u : Fin 1) (z : Fin 1) :
    (k0_pay29 y w (ix3 u i z) : EReal) = ∑ j : Fin 7168, DownSpec.sq (w (ix2 i j)) (y (ix2 i j)) := by
  pointwise [k0_pay29, k0_pay28]
  rfl
/-- A variant's squared errors summed over the columns. -/
theorem et26_at (y w : FVec Ideal S256x7168 .f32) (u : Fin 1) (z : Fin 1) :
    (k0_pay26 (k0_pay25 y w) (ix3 u i z) : EReal) = ∑ j : Fin 7168, DownSpec.sq (w (ix2 i j)) (y (ix2 i j)) := by
  pointwise [k0_pay26, k0_pay25, k0_pay24]
  rfl
/-- A variant's squared errors summed over the tokens. -/
theorem ec20_at (y w : FVec Ideal S256x7168 .f32) (u : Fin 1) :
    (k0_pay20 y w (ix2 u j) : EReal) = ∑ i : Fin 256, DownSpec.sq (w (ix2 i j)) (y (ix2 i j)) := by
  pointwise [k0_pay20, k0_pay18]
  rfl
/-- A variant's squared errors summed over the tokens. -/
theorem ec23_at (y w : FVec Ideal S256x7168 .f32) (u : Fin 1) :
    (k0_pay23 y w (ix2 u j) : EReal) = ∑ i : Fin 256, DownSpec.sq (w (ix2 i j)) (y (ix2 i j)) := by
  pointwise [k0_pay23, k0_pay21]
  rfl
/-- A variant's squared errors summed over the tokens. -/
theorem ec30_at (y w : FVec Ideal S256x7168 .f32) (u : Fin 1) :
    (k0_pay30 y w (ix2 u j) : EReal) = ∑ i : Fin 256, DownSpec.sq (w (ix2 i j)) (y (ix2 i j)) := by
  pointwise [k0_pay30, k0_pay28]
  rfl
/-- A variant's squared errors summed over the tokens. -/
theorem ec27_at (y w : FVec Ideal S256x7168 .f32) (u : Fin 1) :
    (k0_pay27 (k0_pay24 y w) (ix2 u j) : EReal) = ∑ i : Fin 256, DownSpec.sq (w (ix2 i j)) (y (ix2 i j)) := by
  pointwise [k0_pay27, k0_pay24]
  rfl

/-! ## The outputs -/

/-- Output 10 is the stated value. -/
theorem out10_at (k : Fin 4) (z : Fin 1) : (out0_10 x0 x1 x2 x3 x4 x5 x6 x7 x8 x9 (ix3 k i z) : EReal) = resET x0 x1 x2 x3 (fsc x4) (rsc x5) x6 x7 x8 x9 (ix3 k i z) := by
  unfold out0_10
  simp only [p33_eq, p34_eq, p35_eq, p36_eq, p37_eq, p38_eq, p39_eq, p40_eq, p41_eq, p42_eq, p43_eq]
  canon_tiles y h
  · idx_vars y
    obtain rfl : i = y1 := Fin.ext h1
    refine (et29_at _ _ _ _ _).trans (Eq.trans (Finset.sum_congr rfl fun j _ => ?_) (resET_3 (hk := by omega) ..).symm)
    rw [y3_at, y_at]
  · idx_vars y
    obtain rfl : i = y1 := Fin.ext h1
    refine (et26_at _ _ _ _ _).trans (Eq.trans (Finset.sum_congr rfl fun j _ => ?_) (resET_2 (hk := by omega) ..).symm)
    rw [y2_at, y_at]
  · idx_vars y
    obtain rfl : i = y1 := Fin.ext h1
    refine (et22_at _ _ _ _ _).trans (Eq.trans (Finset.sum_congr rfl fun j _ => ?_) (resET_1 (hk := by omega) ..).symm)
    rw [y1_at, y_at]
  · idx_vars y
    obtain rfl : i = y1 := Fin.ext h1
    refine (et19_at _ _ _ _ _).trans (Eq.trans (Finset.sum_congr rfl fun j _ => ?_) (resET_0 (hk := by omega) ..).symm)
    rw [y0_at, y_at]
/-- Output 11 is the stated value. -/
theorem out11_at (z : Fin 1) : (out0_11 x0 x1 x2 x3 x4 x5 x6 x7 x8 x9 (ix2 i z) : EReal) = resST x0 x1 x2 x3 (fsc x4) (rsc x5) x6 x7 x8 x9 (ix2 i z) := by
  unfold out0_11
  simp only [p33_eq, p34_eq, p35_eq, p36_eq, p37_eq, p38_eq, p39_eq, p40_eq, p41_eq, p42_eq, p43_eq]
  frame_out
  pointwise [k0_pay31]
  simp only [y_at]
  rfl
/-- Output 12 is the stated value. -/
theorem out12_at (k : Fin 4) : (out0_12 x0 x1 x2 x3 x4 x5 x6 x7 x8 x9 (ix2 k j) : EReal) = resEC x0 x1 x2 x3 (fsc x4) (rsc x5) x6 x7 x8 x9 (ix2 k j) := by
  unfold out0_12
  simp only [p33_eq, p34_eq, p35_eq, p36_eq, p37_eq, p38_eq, p39_eq, p40_eq, p41_eq, p42_eq, p43_eq]
  canon_tiles y h
  · idx_vars y
    obtain rfl : j = y1 := Fin.ext h1
    refine (ec30_at _ _ _ _).trans (Eq.trans (Finset.sum_congr rfl fun i _ => ?_) (resEC_3 (hk := by omega) ..).symm)
    rw [y3_at, y_at]
  · idx_vars y
    obtain rfl : j = y1 := Fin.ext h1
    refine (ec27_at _ _ _ _).trans (Eq.trans (Finset.sum_congr rfl fun i _ => ?_) (resEC_2 (hk := by omega) ..).symm)
    rw [y2_at, y_at]
  · idx_vars y
    obtain rfl : j = y1 := Fin.ext h1
    refine (ec23_at _ _ _ _).trans (Eq.trans (Finset.sum_congr rfl fun i _ => ?_) (resEC_1 (hk := by omega) ..).symm)
    rw [y1_at, y_at]
  · idx_vars y
    obtain rfl : j = y1 := Fin.ext h1
    refine (ec20_at _ _ _ _).trans (Eq.trans (Finset.sum_congr rfl fun i _ => ?_) (resEC_0 (hk := by omega) ..).symm)
    rw [y0_at, y_at]
/-- Output 13 is the stated value. -/
theorem out13_at : (out0_13 x0 x1 x2 x3 x4 x5 x6 x7 x8 x9 (ix2 i j) : EReal) = yref x1 x6 i j := by
  unfold out0_13
  simp only [p33_eq, p34_eq, p35_eq, p36_eq, p37_eq, p38_eq, p39_eq, p40_eq, p41_eq, p42_eq, p43_eq]
  frame_out
  pointwise [k0_pay32]
  exact y_at _ _ _ _
/-- Output 14 is the stated value. -/
theorem out14_at (k : Fin 18432) : out0_14 x0 x1 x2 x3 x4 x5 x6 x7 x8 x9 (ix2 i k) = codes x0 (fsc x4) (ix2 i k) := by
  unfold out0_14
  simp only [p33_eq, p34_eq, p35_eq, p36_eq, p37_eq, p38_eq, p39_eq, p40_eq, p41_eq, p42_eq, p43_eq]
  frame_out
  exact fcode_at _ _ _ _
/-- Output 15 is the stated value. -/
theorem out15_eq : out0_15 x0 x1 x2 x3 x4 x5 x6 x7 x8 x9 = fsc x4 := by
  unfold out0_15
  simp only [p33_eq, p34_eq, p35_eq, p36_eq, p37_eq, p38_eq, p39_eq, p40_eq, p41_eq, p42_eq, p43_eq]
  frame_out
  rfl
/-- Output 16 is the stated value. -/
theorem out16_at (k : Fin 18432) : out0_16 x0 x1 x2 x3 x4 x5 x6 x7 x8 x9 (ix2 i k) = codes x1 (rsc x5) (ix2 i k) := by
  unfold out0_16
  simp only [p33_eq, p34_eq, p35_eq, p36_eq, p37_eq, p38_eq, p39_eq, p40_eq, p41_eq, p42_eq, p43_eq]
  frame_out
  exact rcode_at _ _ _ _
/-- Output 17 is the stated value. -/
theorem out17_eq : out0_17 x0 x1 x2 x3 x4 x5 x6 x7 x8 x9 = rsc x5 := by
  unfold out0_17
  simp only [p33_eq, p34_eq, p35_eq, p36_eq, p37_eq, p38_eq, p39_eq, p40_eq, p41_eq, p42_eq, p43_eq]
  frame_out
  rfl

end Cert.DownRefIdeal.Gen

end
-- ==== Proof.DownRefValue.lean ====
/- The down reference arrays after the run, as the stated values of the arguments. -/
module

public import proofs.«01_k».proof.Proof.DownRefPoint

@[expose] public section

set_option maxRecDepth 16384

noncomputable section

namespace Cert.DownRefIdeal.Gen

open Idealize.ShloMosaic Idealize.ShloMosaic.TcCoe Idealize.ShloMosaic.Tactic

open Cert.DownSpec

variable (m : (ℓ : Loc nD τ sig) → Buf (Elt Ideal) ℓ) (ρ : Dev nD → PrngReg)

/-- Argument 0, by its shape. -/
def A0 (c : Dev nD) : Vec Ideal AF .f32 := m ((c.tc : Thread nD τ).loc main_arg0)
/-- Argument 1, by its shape. -/
def A1 (c : Dev nD) : Vec Ideal AF .f32 := m ((c.tc : Thread nD τ).loc main_arg1)
/-- Argument 2, by its shape. -/
def A2 (c : Dev nD) : Vec Ideal AF .bf16 := m ((c.tc : Thread nD τ).loc main_arg2)
/-- Argument 3, by its shape. -/
def A3 (c : Dev nD) : Vec Ideal AF .bf16 := m ((c.tc : Thread nD τ).loc main_arg3)
/-- Argument 4, by its shape. -/
def A4 (c : Dev nD) : Vec Ideal AM .f32 := m ((c.tc : Thread nD τ).loc main_arg4)
/-- Argument 5, by its shape. -/
def A5 (c : Dev nD) : Vec Ideal AM .f32 := m ((c.tc : Thread nD τ).loc main_arg5)
/-- Argument 6, by its shape. -/
def A6 (c : Dev nD) : Vec Ideal AW .bf16 := m ((c.tc : Thread nD τ).loc main_arg6)
/-- Argument 7, by its shape. -/
def A7 (c : Dev nD) : Vec Ideal AQ .i8 := m ((c.tc : Thread nD τ).loc main_arg7)
/-- Argument 8, by its shape. -/
def A8 (c : Dev nD) : Vec Ideal AZ .f32 := m ((c.tc : Thread nD τ).loc main_arg8)
/-- Argument 9, by its shape. -/
def A9 (c : Dev nD) : Vec Ideal AZ .i8 := m ((c.tc : Thread nD τ).loc main_arg9)

/-- The one grid point. -/
def tR : Fin cfg0.N := ⟨0, by decide +kernel⟩
/-- The block of argument 0 is the same at every grid point. -/
theorem iblk0_eq (c : Dev nD) : iblk m c 0 tR = A0 m c := by
  funext y
  idx_vars y
  unfold A0
  blk_ext [iblk, V, show win0_0.index tR = ![0, 0] from by decide +kernel]
/-- The block of argument 1 is the same at every grid point. -/
theorem iblk1_eq (c : Dev nD) : iblk m c 1 tR = A1 m c := by
  funext y
  idx_vars y
  unfold A1
  blk_ext [iblk, V, show win0_1.index tR = ![0, 0] from by decide +kernel]
/-- The block of argument 2 is the same at every grid point. -/
theorem iblk2_eq (c : Dev nD) : iblk m c 2 tR = A2 m c := by
  funext y
  idx_vars y
  unfold A2
  blk_ext [iblk, V, show win0_2.index tR = ![0, 0] from by decide +kernel]
/-- The block of argument 3 is the same at every grid point. -/
theorem iblk3_eq (c : Dev nD) : iblk m c 3 tR = A3 m c := by
  funext y
  idx_vars y
  unfold A3
  blk_ext [iblk, V, show win0_3.index tR = ![0, 0] from by decide +kernel]
/-- The block of argument 4 is the same at every grid point. -/
theorem iblk4_eq (c : Dev nD) : iblk m c 4 tR = A4 m c := by
  funext y
  idx_vars y
  unfold A4
  blk_ext [iblk, V, show win0_4.index tR = ![0, 0] from by decide +kernel]
/-- The block of argument 5 is the same at every grid point. -/
theorem iblk5_eq (c : Dev nD) : iblk m c 5 tR = A5 m c := by
  funext y
  idx_vars y
  unfold A5
  blk_ext [iblk, V, show win0_5.index tR = ![0, 0] from by decide +kernel]
/-- The block of argument 6 is the same at every grid point. -/
theorem iblk6_eq (c : Dev nD) : iblk m c 6 tR = A6 m c := by
  funext y
  idx_vars y
  unfold A6
  blk_ext [iblk, V, show win0_6.index tR = ![0, 0] from by decide +kernel]
/-- The block of argument 7 is the same at every grid point. -/
theorem iblk7_eq (c : Dev nD) : iblk m c 7 tR = A7 m c := by
  funext y
  idx_vars y
  unfold A7
  blk_ext [iblk, V, show win0_7.index tR = ![0, 0] from by decide +kernel]
/-- The block of argument 8 is the same at every grid point. -/
theorem iblk8_eq (c : Dev nD) : iblk m c 8 tR = A8 m c := by
  funext y
  idx_vars y
  unfold A8
  blk_ext [iblk, V, show win0_8.index tR = ![0, 0] from by decide +kernel]
/-- The block of argument 9 is the same at every grid point. -/
theorem iblk9_eq (c : Dev nD) : iblk m c 9 tR = A9 m c := by
  funext y
  idx_vars y
  unfold A9
  blk_ext [iblk, V, show win0_9.index tR = ![0, 0] from by decide +kernel]
/-- The token errors' array. -/
theorem final10 (c : Dev nD) : (dats m 0 c).arrAt 10 cfg0.N = (resET (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal ⟨3, ![4, 256, 1]⟩ .f32) := by
  refine (dats m 0 c).arrAt_eq_of_after_last 10 tR (by decide +kernel) _ fun j => ?_
  blk_simp
  rw [after0_10, iblk0_eq, iblk1_eq, iblk2_eq, iblk3_eq, iblk4_eq, iblk5_eq, iblk6_eq, iblk7_eq, iblk8_eq, iblk9_eq]
  idx_vars j
  exact out10_at _ _ _ _ _ _ _ _ _ _ _ _ _
/-- The token signals' array. -/
theorem final11 (c : Dev nD) : (dats m 0 c).arrAt 11 cfg0.N = (resST (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal AS .f32) := by
  refine (dats m 0 c).arrAt_eq_of_after_last 11 tR (by decide +kernel) _ fun j => ?_
  blk_simp
  rw [after0_11, iblk0_eq, iblk1_eq, iblk2_eq, iblk3_eq, iblk4_eq, iblk5_eq, iblk6_eq, iblk7_eq, iblk8_eq, iblk9_eq]
  idx_vars j
  exact out11_at _ _ _ _ _ _ _ _ _ _ _ _
/-- The column errors' array. -/
theorem final12 (c : Dev nD) : (dats m 0 c).arrAt 12 cfg0.N = (resEC (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal ⟨2, ![4, 7168]⟩ .f32) := by
  refine (dats m 0 c).arrAt_eq_of_after_last 12 tR (by decide +kernel) _ fun j => ?_
  blk_simp
  rw [after0_12, iblk0_eq, iblk1_eq, iblk2_eq, iblk3_eq, iblk4_eq, iblk5_eq, iblk6_eq, iblk7_eq, iblk8_eq, iblk9_eq]
  idx_vars j
  exact out12_at _ _ _ _ _ _ _ _ _ _ _ _
/-- The reference output's array. -/
theorem final13 (c : Dev nD) : (dats m 0 c).arrAt 13 cfg0.N = (resY (A1 m c) (A6 m c) : Vec Ideal ⟨2, ![256, 7168]⟩ .bf16) := by
  refine (dats m 0 c).arrAt_eq_of_after_last 13 tR (by decide +kernel) _ fun j => ?_
  blk_simp
  rw [after0_13, iblk0_eq, iblk1_eq, iblk2_eq, iblk3_eq, iblk4_eq, iblk5_eq, iblk6_eq, iblk7_eq, iblk8_eq, iblk9_eq]
  idx_vars j
  exact out13_at _ _ _ _ _ _ _ _ _ _ _ _
/-- The codes of `h_full`'s array. -/
theorem final14 (c : Dev nD) : (dats m 0 c).arrAt 14 cfg0.N = (codes (A0 m c) (k0_pay9 (k0_pay7 (A4 m c)) (k0_pay8 (A4 m c)) (Scalar.ofBits .f32 0x3F800000#32)) : Vec Ideal AF .i8) := by
  refine (dats m 0 c).arrAt_eq_of_after_last 14 tR (by decide +kernel) _ fun j => ?_
  blk_simp
  rw [after0_14, iblk0_eq, iblk1_eq, iblk2_eq, iblk3_eq, iblk4_eq, iblk5_eq, iblk6_eq, iblk7_eq, iblk8_eq, iblk9_eq]
  idx_vars j
  exact out14_at _ _ _ _ _ _ _ _ _ _ _ _
/-- Their scales' array. -/
theorem final15 (c : Dev nD) : (dats m 0 c).arrAt 15 cfg0.N = ((k0_pay9 (k0_pay7 (A4 m c)) (k0_pay8 (A4 m c)) (Scalar.ofBits .f32 0x3F800000#32)) : Vec Ideal AS .f32) := by
  refine (dats m 0 c).arrAt_eq_of_after_last 15 tR (by decide +kernel) _ fun j => ?_
  blk_simp
  rw [after0_15, iblk0_eq, iblk1_eq, iblk2_eq, iblk3_eq, iblk4_eq, iblk5_eq, iblk6_eq, iblk7_eq, iblk8_eq, iblk9_eq]
  rw [out15_eq]
  rfl
/-- The codes of `h_ref`'s array. -/
theorem final16 (c : Dev nD) : (dats m 0 c).arrAt 16 cfg0.N = (codes (A1 m c) (k0_pay14 (A5 m c)) : Vec Ideal AF .i8) := by
  refine (dats m 0 c).arrAt_eq_of_after_last 16 tR (by decide +kernel) _ fun j => ?_
  blk_simp
  rw [after0_16, iblk0_eq, iblk1_eq, iblk2_eq, iblk3_eq, iblk4_eq, iblk5_eq, iblk6_eq, iblk7_eq, iblk8_eq, iblk9_eq]
  idx_vars j
  exact out16_at _ _ _ _ _ _ _ _ _ _ _ _
/-- Their scales' array. -/
theorem final17 (c : Dev nD) : (dats m 0 c).arrAt 17 cfg0.N = ((k0_pay14 (A5 m c)) : Vec Ideal AS .f32) := by
  refine (dats m 0 c).arrAt_eq_of_after_last 17 tR (by decide +kernel) _ fun j => ?_
  blk_simp
  rw [after0_17, iblk0_eq, iblk1_eq, iblk2_eq, iblk3_eq, iblk4_eq, iblk5_eq, iblk6_eq, iblk7_eq, iblk8_eq, iblk9_eq]
  rw [out17_eq]
  rfl

end Cert.DownRefIdeal.Gen

end
-- ==== Proof.DownRefRun.lean ====
/- The down reference's run, its results at their stated values. -/
module

public import proofs.«01_k».proof.Proof.DownRefValue
public import Idealize.ShloMosaic.Lib.Claim

@[expose] public section

set_option maxRecDepth 16384

noncomputable section

namespace Cert.DownRefIdeal.Gen

open Idealize.ShloMosaic Idealize.ShloMosaic.TcCoe Idealize.ShloMosaic.Tactic

open Cert.DownSpec Idealize.SL.Sem

variable (m : (ℓ : Loc nD τ sig) → Buf (Elt Ideal) ℓ) (ρ : Dev nD → PrngReg)

/-- The run: every result at its stated value. -/
theorem run_values : θ_run defs (onTc (τ := τ) (main (F := Ideal))) ⟨m, fun _ => 0, ρ⟩ (fun r => ∀ c : Dev nD,
      r.2.mem ((c.tc : Thread nD τ).loc main_v0_0) = (resET (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal ⟨3, ![4, 256, 1]⟩ .f32) ∧
      r.2.mem ((c.tc : Thread nD τ).loc main_v0_1) = (resST (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal AS .f32) ∧
      r.2.mem ((c.tc : Thread nD τ).loc main_v0_2) = (resEC (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal ⟨2, ![4, 7168]⟩ .f32) ∧
      r.2.mem ((c.tc : Thread nD τ).loc main_v0_3) = (resY (A1 m c) (A6 m c) : Vec Ideal ⟨2, ![256, 7168]⟩ .bf16) ∧
      r.2.mem ((c.tc : Thread nD τ).loc main_v0_4) = (codes (A0 m c) (k0_pay9 (k0_pay7 (A4 m c)) (k0_pay8 (A4 m c)) (Scalar.ofBits .f32 0x3F800000#32)) : Vec Ideal AF .i8) ∧
      r.2.mem ((c.tc : Thread nD τ).loc main_v0_5) = ((k0_pay9 (k0_pay7 (A4 m c)) (k0_pay8 (A4 m c)) (Scalar.ofBits .f32 0x3F800000#32)) : Vec Ideal AS .f32) ∧
      r.2.mem ((c.tc : Thread nD τ).loc main_v0_6) = (codes (A1 m c) (k0_pay14 (A5 m c)) : Vec Ideal AF .i8) ∧
      r.2.mem ((c.tc : Thread nD τ).loc main_v0_7) = ((k0_pay14 (A5 m c)) : Vec Ideal AS .f32)) :=
  (θ_run defs _ _).mono (fun r h c => ⟨((h c).1 10).trans (final10 m c), ((h c).1 11).trans (final11 m c), ((h c).1 12).trans (final12 m c), ((h c).1 13).trans (final13 m c), ((h c).1 14).trans (final14 m c), ((h c).1 15).trans (final15 m c), ((h c).1 16).trans (final16 m c), ((h c).1 17).trans (final17 m c)⟩) (run_main m ρ)
/-- And every argument as it was. -/
theorem run : θ_run defs (onTc (τ := τ) (main (F := Ideal))) ⟨m, fun _ => 0, ρ⟩ (fun r => ∀ c : Dev nD,
      r.2.mem ((c.tc : Thread nD τ).loc main_v0_0) = (resET (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal ⟨3, ![4, 256, 1]⟩ .f32) ∧
      r.2.mem ((c.tc : Thread nD τ).loc main_v0_1) = (resST (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal AS .f32) ∧
      r.2.mem ((c.tc : Thread nD τ).loc main_v0_2) = (resEC (A0 m c) (A1 m c) (A2 m c) (A3 m c) (k0_pay9 (k0_pay7 (A4 m c)) (k0_pay8 (A4 m c)) (Scalar.ofBits .f32 0x3F800000#32)) (k0_pay14 (A5 m c)) (A6 m c) (A7 m c) (A8 m c) (A9 m c) : Vec Ideal ⟨2, ![4, 7168]⟩ .f32) ∧
      r.2.mem ((c.tc : Thread nD τ).loc main_v0_3) = (resY (A1 m c) (A6 m c) : Vec Ideal ⟨2, ![256, 7168]⟩ .bf16) ∧
      r.2.mem ((c.tc : Thread nD τ).loc main_v0_4) = (codes (A0 m c) (k0_pay9 (k0_pay7 (A4 m c)) (k0_pay8 (A4 m c)) (Scalar.ofBits .f32 0x3F800000#32)) : Vec Ideal AF .i8) ∧
      r.2.mem ((c.tc : Thread nD τ).loc main_v0_5) = ((k0_pay9 (k0_pay7 (A4 m c)) (k0_pay8 (A4 m c)) (Scalar.ofBits .f32 0x3F800000#32)) : Vec Ideal AS .f32) ∧
      r.2.mem ((c.tc : Thread nD τ).loc main_v0_6) = (codes (A1 m c) (k0_pay14 (A5 m c)) : Vec Ideal AF .i8) ∧
      r.2.mem ((c.tc : Thread nD τ).loc main_v0_7) = ((k0_pay14 (A5 m c)) : Vec Ideal AS .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9)) :=
  (θ_run defs _ _).mono (fun r h c => by
    obtain ⟨h0, h1, h2, h3, h4, h5, h6, h7⟩ := h.1 c
    exact ⟨h0, h1, h2, h3, h4, h5, h6, h7, h.2 c⟩) (θ_run_and (run_values m ρ) (unchanged m ρ))

end Cert.DownRefIdeal.Gen

end
-- ==== Proof.DownAlgebraic.lean ====
/- The down call against its reference over the extended reals. -/
module

public import proofs.«01_k».proof.Defs
public import proofs.«01_k».proof.Proof.DownRun
public import proofs.«01_k».proof.Proof.DownRefRun

@[expose] public section

set_option maxRecDepth 16384

noncomputable section

namespace Cert.Proof

open Idealize.ShloMosaic Idealize.ShloMosaic.TcCoe Idealize.ShloMosaic.Tactic

open Cert.DownSpec Idealize.SL.Sem

/-- The two quantisers' scales of `h_full` are the same function of its lane maxima. -/
theorem down_fscales_eq (x : Vec Ideal AM .f32) : Cert.DownRefIdeal.Gen.k0_pay9 (Cert.DownRefIdeal.Gen.k0_pay7 x) (Cert.DownRefIdeal.Gen.k0_pay8 x) (Scalar.ofBits .f32 0x3F800000#32) = Cert.DownIdeal.Gen.k0_pay28 x := rfl
/-- And of `h_ref`. -/
theorem down_rscales_eq (x : Vec Ideal AM .f32) : Cert.DownRefIdeal.Gen.k0_pay14 x = Cert.DownIdeal.Gen.k0_pay29 x := rfl

/-- The idealized down call's results are the idealized reference's, element by element. -/
theorem down_algebraic : algebraic_DownIdeal_DownRefIdeal (hDownIdeal := Cert.DownIdeal.Gen.facts) (hDownRefIdeal := Cert.DownRefIdeal.Gen.facts) := by
  intro m g m' g' _ hagree
  refine ⟨fun c => (resET (Cert.DownIdeal.Gen.A0 m c) (Cert.DownIdeal.Gen.A1 m c) (Cert.DownIdeal.Gen.A2 m c) (Cert.DownIdeal.Gen.A3 m c) (Cert.DownIdeal.Gen.k0_pay28 (Cert.DownIdeal.Gen.A4 m c)) (Cert.DownIdeal.Gen.k0_pay29 (Cert.DownIdeal.Gen.A5 m c)) (Cert.DownIdeal.Gen.A6 m c) (Cert.DownIdeal.Gen.A7 m c) (Cert.DownIdeal.Gen.A8 m c) (Cert.DownIdeal.Gen.A9 m c) : Vec Ideal ⟨3, ![4, 256, 1]⟩ .f32),
    fun c => (resST (Cert.DownIdeal.Gen.A0 m c) (Cert.DownIdeal.Gen.A1 m c) (Cert.DownIdeal.Gen.A2 m c) (Cert.DownIdeal.Gen.A3 m c) (Cert.DownIdeal.Gen.k0_pay28 (Cert.DownIdeal.Gen.A4 m c)) (Cert.DownIdeal.Gen.k0_pay29 (Cert.DownIdeal.Gen.A5 m c)) (Cert.DownIdeal.Gen.A6 m c) (Cert.DownIdeal.Gen.A7 m c) (Cert.DownIdeal.Gen.A8 m c) (Cert.DownIdeal.Gen.A9 m c) : Vec Ideal AS .f32),
    fun c => (resEC (Cert.DownIdeal.Gen.A0 m c) (Cert.DownIdeal.Gen.A1 m c) (Cert.DownIdeal.Gen.A2 m c) (Cert.DownIdeal.Gen.A3 m c) (Cert.DownIdeal.Gen.k0_pay28 (Cert.DownIdeal.Gen.A4 m c)) (Cert.DownIdeal.Gen.k0_pay29 (Cert.DownIdeal.Gen.A5 m c)) (Cert.DownIdeal.Gen.A6 m c) (Cert.DownIdeal.Gen.A7 m c) (Cert.DownIdeal.Gen.A8 m c) (Cert.DownIdeal.Gen.A9 m c) : Vec Ideal ⟨2, ![4, 7168]⟩ .f32),
    fun c => (resY (Cert.DownIdeal.Gen.A1 m c) (Cert.DownIdeal.Gen.A6 m c) : Vec Ideal ⟨2, ![256, 7168]⟩ .bf16),
    fun c => (codes (Cert.DownIdeal.Gen.A0 m c) (Cert.DownIdeal.Gen.k0_pay28 (Cert.DownIdeal.Gen.A4 m c)) : Vec Ideal AF .i8),
    fun c => ((Cert.DownIdeal.Gen.k0_pay28 (Cert.DownIdeal.Gen.A4 m c)) : Vec Ideal AS .f32),
    fun c => (codes (Cert.DownIdeal.Gen.A1 m c) (Cert.DownIdeal.Gen.k0_pay29 (Cert.DownIdeal.Gen.A5 m c)) : Vec Ideal AF .i8),
    fun c => ((Cert.DownIdeal.Gen.k0_pay29 (Cert.DownIdeal.Gen.A5 m c)) : Vec Ideal AS .f32), Cert.DownIdeal.Gen.run m g, ?_⟩
  refine (θ_run _ _ _).mono (fun r h c => ?_) (Cert.DownRefIdeal.Gen.run m' g')
  obtain ⟨a0, a1, a2, a3, a4, a5, a6, a7, a8, a9⟩ := hagree c
  have b0 : Cert.DownRefIdeal.Gen.A0 m' c = Cert.DownIdeal.Gen.A0 m c := a0
  have b1 : Cert.DownRefIdeal.Gen.A1 m' c = Cert.DownIdeal.Gen.A1 m c := a1
  have b2 : Cert.DownRefIdeal.Gen.A2 m' c = Cert.DownIdeal.Gen.A2 m c := a2
  have b3 : Cert.DownRefIdeal.Gen.A3 m' c = Cert.DownIdeal.Gen.A3 m c := a3
  have b4 : Cert.DownRefIdeal.Gen.A4 m' c = Cert.DownIdeal.Gen.A4 m c := a4
  have b5 : Cert.DownRefIdeal.Gen.A5 m' c = Cert.DownIdeal.Gen.A5 m c := a5
  have b6 : Cert.DownRefIdeal.Gen.A6 m' c = Cert.DownIdeal.Gen.A6 m c := a6
  have b7 : Cert.DownRefIdeal.Gen.A7 m' c = Cert.DownIdeal.Gen.A7 m c := a7
  have b8 : Cert.DownRefIdeal.Gen.A8 m' c = Cert.DownIdeal.Gen.A8 m c := a8
  have b9 : Cert.DownRefIdeal.Gen.A9 m' c = Cert.DownIdeal.Gen.A9 m c := a9
  have h := h c
  rw [b0, b1, b2, b3, b4, b5, b6, b7, b8, b9] at h
  rw [down_fscales_eq, down_rscales_eq] at h
  exact h

end Cert.Proof

end
-- ==== Proof.lean ====
/- The certificate of the two calls: for each its frames, and its results against its reference's over the extended reals. -/
module

public import proofs.«01_k».proof.Defs
public import proofs.«01_k».proof.Proof.Gen.GateUp
public import proofs.«01_k».proof.Proof.GateUpBits
public import proofs.«01_k».proof.Proof.GateUpAlgebraic
public import proofs.«01_k».proof.Proof.Gen.Down
public import proofs.«01_k».proof.Proof.DownBits
public import proofs.«01_k».proof.Proof.DownAlgebraic

@[expose] public section

noncomputable section

namespace Cert.Proof

open Idealize.ShloMosaic Idealize.SL.Sem

/-- The certificate's claim, for the gate/up call and for the down call: the reference's frame is the generated one, the two
    calls' is the hand one that also names what it leaves, and the value claims are `gate_up_algebraic` and `down_algebraic`. -/
theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    Cert.GateUp.quiescent, fun m ρ _ => Cert.GateUpIdeal.Gen.frame m ρ,
    fun m ρ _ => Cert.GateUpRefIdeal.Gen.frame m ρ,
    Cert.Down.quiescent, fun m ρ _ => Cert.DownIdeal.Gen.frame m ρ,
    fun m ρ _ => Cert.DownRefIdeal.Gen.frame m ρ, trivial, gate_up_algebraic, trivial, down_algebraic⟩

end Cert.Proof

end
